-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8)) (v1 : (c : Dev Cert.Kernel4Ideal.nD) → Buf (Elt Ideal) ((c.tc : Thread Cert.Kernel4Ideal.nD Cert.Kernel4Ideal.τ).loc Cert.Kernel4Ideal.main_v7_0)) (v2 : (c : Dev Cert.Kernel4Ideal.nD) → Buf (Elt Ideal) ((c.tc : Thread Cert.Kernel4Ideal.nD Cert.Kernel4Ideal.τ).loc Cert.Kernel4Ideal.main_v7_1)) (v3 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_v7_0) = v1 c
          ∧ r.2.mem ((c.tc : Thread Cert.Kernel4Ideal.nD Cert.Kernel4Ideal.τ).loc Cert.Kernel4Ideal.main_v7_1) = v2 c
          ∧ r.2.mem ((c.tc : Thread Cert.Kernel4Ideal.nD Cert.Kernel4Ideal.τ).loc Cert.Kernel4Ideal.main_v9) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x8192x512 : Shape := ⟨3, ![8, 8192, 512]⟩
abbrev S8x256x512 : Shape := ⟨3, ![8, 256, 512]⟩
abbrev S1x64 : Shape := ⟨2, ![1, 64]⟩
abbrev S1x128 : Shape := ⟨2, ![1, 128]⟩
abbrev S_ : Shape := ⟨0, ![]⟩

class Facts : Prop where
  bcast_S_S8x8192x512 : S_.BroadcastsInDim S8x8192x512 (![] : Fin 0 → Fin S8x8192x512.rank)
  bcast_S_S8x256x512 : S_.BroadcastsInDim S8x256x512 (![] : Fin 0 → Fin S8x256x512.rank)
  bcast_S_S1x64 : S_.BroadcastsInDim S1x64 (![] : Fin 0 → Fin S1x64.rank)

variable [Facts]

def fn_part1 {F : FTy → Type} [FloatOps F] (main_arg6 : FVec F S1x64 .f32) (main_arg7 : FVec F S1x64 .f32) (main_arg8 : FVec F S1x64 .f32) (main_v2 : IVec S8x8192x512 1) (main_v5 : IVec S8x8192x512 1) (main_v8 : IVec S8x8192x512 1) (main_v11 : IVec S8x256x512 1) (main_v14 : IVec S8x256x512 1) (main_v17 : IVec S1x64 1) : IVec S8x8192x512 1 × IVec S8x8192x512 1 × IVec S8x8192x512 1 × IVec S8x256x512 1 × IVec S8x256x512 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  let main_v21 : FVec F S1x64 .f32 := Host.absf main_arg7
  let main_cst_6 : FVec F S_ .f32 := constant S_ .f32 0x7F800000#32
  let main_v22 : FVec F S1x64 .f32 := broadcastInDim S1x64 ![] bcast_S_S1x64 main_cst_6
  let main_v23 : IVec S1x64 1 := cmpf .olt main_v21 main_v22
  let main_v24 : FVec F S1x64 .f32 := Host.absf main_arg8
  let main_cst_7 : FVec F S_ .f32 := constant S_ .f32 0x7F800000#32
  let main_v25 : FVec F S1x64 .f32 := broadcastInDim S1x64 ![] bcast_S_S1x64 main_cst_7
  let main_v26 : IVec S1x64 1 := cmpf .olt main_v24 main_v25
  (main_v2, main_v5, main_v8, main_v11, main_v14, main_v17, main_v20, main_v23, main_v26)

def fn {F : FTy → Type} [FloatOps F] (main_arg0 : FVec F S8x8192x512 .f32) (main_arg1 : FVec F S8x8192x512 .f32) (main_arg2 : FVec F S8x8192x512 .f32) (main_arg3 : FVec F S8x256x512 .f32) (main_arg4 : FVec F S8x256x512 .f32) (main_arg5 : FVec F S1x64 .f32) (main_arg6 : FVec F S1x64 .f32) (main_arg7 : FVec F S1x64 .f32) (main_arg8 : FVec F S1x64 .f32) (main_arg9 : FVec F S1x128 .f32) : IVec S8x8192x512 1 × IVec S8x8192x512 1 × IVec S8x8192x512 1 × IVec S8x256x512 1 × IVec S8x256x512 1 × IVec S1x64 1 × IVec S1x64 1 × IVec S1x64 1 × IVec S1x64 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_v3 : FVec F S8x8192x512 .f32 := Host.absf main_arg1
  let main_cst_0 : FVec F S_ .f32 := constant S_ .f32 0x7F800000#32
  let main_v4 : FVec F S8x8192x512 .f32 := broadcastInDim S8x8192x512 ![] bcast_S_S8x8192x512 main_cst_0
  let main_v5 : IVec S8x8192x512 1 := cmpf .olt main_v3 main_v4
  let main_v6 : FVec F S8x8192x512 .f32 := Host.absf main_arg2
  let main_cst_1 : FVec F S_ .f32 := constant S_ .f32 0x7F800000#32
  let main_v7 : FVec F S8x8192x512 .f32 := broadcastInDim S8x8192x512 ![] bcast_S_S8x8192x512 main_cst_1
  let main_v8 : IVec S8x8192x512 1 := cmpf .olt main_v6 main_v7
  let main_v9 : FVec F S8x256x512 .f32 := Host.absf main_arg3
  let main_cst_2 : FVec F S_ .f32 := constant S_ .f32 0x7F800000#32
  let main_v10 : FVec F S8x256x512 .f32 := broadcastInDim S8x256x512 ![] bcast_S_S8x256x512 main_cst_2
  let main_v11 : IVec S8x256x512 1 := cmpf .olt main_v9 main_v10
  let main_v12 : FVec F S8x256x512 .f32 := Host.absf main_arg4
  let main_cst_3 : FVec F S_ .f32 := constant S_ .f32 0x7F800000#32
  let main_v13 : FVec F S8x256x512 .f32 := broadcastInDim S8x256x512 ![] bcast_S_S8x256x512 main_cst_3
  let main_v14 : IVec S8x256x512 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_arg7 main_arg8 main_v2 main_v5 main_v8 main_v11 main_v14 main_v17
-- ==== Kernel.lean ====
abbrev S8x8192x512 : Shape := ⟨3, ![8, 8192, 512]⟩
abbrev S8x256x512 : Shape := ⟨3, ![8, 256, 512]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S8x8448x512 : Shape := ⟨3, ![8, 8448, 512]⟩
abbrev S8x512x256 : Shape := ⟨3, ![8, 512, 256]⟩
abbrev S8x4x128x256 : Shape := ⟨4, ![8, 4, 128, 256]⟩
abbrev S_ : Shape := ⟨0, ![]⟩
abbrev S8x4x16x256 : Shape := ⟨4, ![8, 4, 16, 256]⟩
abbrev S8x4x144x256 : Shape := ⟨4, ![8, 4, 144, 256]⟩
abbrev S8x512x8192 : Shape := ⟨3, ![8, 512, 8192]⟩
abbrev S8x4x128x8192 : Shape := ⟨4, ![8, 4, 128, 8192]⟩
abbrev S8x4x16x8192 : Shape := ⟨4, ![8, 4, 16, 8192]⟩
abbrev S8x4x144x8192 : Shape := ⟨4, ![8, 4, 144, 8192]⟩
abbrev S8x4x144x8448 : Shape := ⟨4, ![8, 4, 144, 8448]⟩
abbrev S128 : Shape := ⟨1, ![128]⟩
abbrev S1x128x2048 : Shape := ⟨3, ![1, 128, 2048]⟩
abbrev S1x1408x128 : Shape := ⟨3, ![1, 1408, 128]⟩
abbrev S1x1x144x1408 : Shape := ⟨4, ![1, 1, 144, 1408]⟩
abbrev S1x2048x128 : Shape := ⟨3, ![1, 2048, 128]⟩
abbrev S2x128x2048 : Shape := ⟨3, ![2, 128, 2048]⟩
abbrev S2x1x2048 : Shape := ⟨3, ![2, 1, 2048]⟩
abbrev S2x144x2048 : Shape := ⟨3, ![2, 144, 2048]⟩
abbrev S1408x128 : Shape := ⟨2, ![1408, 128]⟩
abbrev S144x1408 : Shape := ⟨2, ![144, 1408]⟩
abbrev S128x2048 : Shape := ⟨2, ![128, 2048]⟩
abbrev S128x128 : Shape := ⟨2, ![128, 128]⟩
abbrev S1x128x256 : Shape := ⟨3, ![1, 128, 256]⟩
abbrev S128x256 : Shape := ⟨2, ![128, 256]⟩
abbrev S256 : Shape := ⟨1, ![256]⟩
abbrev S1x256 : Shape := ⟨2, ![1, 256]⟩
abbrev S1x1x256 : Shape := ⟨3, ![1, 1, 256]⟩
abbrev S1408x256 : Shape := ⟨2, ![1408, 256]⟩
abbrev S144x256 : Shape := ⟨2, ![144, 256]⟩
abbrev S1 : Shape := ⟨1, ![1]⟩
abbrev S1x1x1 : Shape := ⟨3, ![1, 1, 1]⟩
abbrev S1x144x256 : Shape := ⟨3, ![1, 144, 256]⟩
abbrev S1x1 : Shape := ⟨2, ![1, 1]⟩
abbrev S1x1x2048 : Shape := ⟨3, ![1, 1, 2048]⟩
abbrev S1x2048 : Shape := ⟨2, ![1, 2048]⟩
abbrev S2048 : Shape := ⟨1, ![2048]⟩
abbrev S2048x128 : Shape := ⟨2, ![2048, 128]⟩

abbrev nBuf : Space → Nat
  | .hbm => 40
  | .vmem => 13
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x256x512, .f32⟩
  | .hbm, ⟨4, _⟩ => ⟨S8x256x512, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S8x8192x512, .bf16⟩
  | .hbm, ⟨11, _⟩ => ⟨S8x8192x512, .bf16⟩
  | .hbm, ⟨12, _⟩ => ⟨S8x8192x512, .bf16⟩
  | .hbm, ⟨13, _⟩ => ⟨S8x256x512, .bf16⟩
  | .hbm, ⟨14, _⟩ => ⟨S8x256x512, .bf16⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S4x64, .f32⟩
  | .hbm, ⟨24, _⟩ => ⟨S8x8448x512, .bf16⟩
  | .hbm, ⟨25, _⟩ => ⟨S8x512x256, .bf16⟩
  | .hbm, ⟨26, _⟩ => ⟨S8x4x128x256, .bf16⟩
  | .hbm, ⟨27, _⟩ => ⟨S_, .bf16⟩
  | .hbm, ⟨28, _⟩ => ⟨S8x4x16x256, .bf16⟩
  | .hbm, ⟨29, _⟩ => ⟨S8x4x144x256, .bf16⟩
  | .hbm, ⟨30, _⟩ => ⟨S8x512x8192, .bf16⟩
  | .hbm, ⟨31, _⟩ => ⟨S8x4x128x8192, .bf16⟩
  | .hbm, ⟨32, _⟩ => ⟨S_, .bf16⟩
  | .hbm, ⟨33, _⟩ => ⟨S8x4x16x8192, .bf16⟩
  | .hbm, ⟨34, _⟩ => ⟨S8x4x144x8192, .bf16⟩
  | .hbm, ⟨35, _⟩ => ⟨S8x4x144x8448, .bf16⟩
  | .hbm, ⟨36, _⟩ => ⟨S8x512x8192, .bf16⟩
  | .hbm, ⟨37, _⟩ => ⟨S128, .f32⟩
  | .hbm, ⟨38, _⟩ => ⟨S1x128, .f32⟩
  | .hbm, ⟨39, _⟩ => ⟨S8x8192x512, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x1408x128, .bf16⟩
  | .local _ .vmem, ⟨3, _⟩ => ⟨S1x1408x128, .bf16⟩
  | .local _ .vmem, ⟨4, _⟩ => ⟨S1x1x144x1408, .bf16⟩
  | .local _ .vmem, ⟨5, _⟩ => ⟨S1x1x144x1408, .bf16⟩
  | .local _ .vmem, ⟨6, _⟩ => ⟨S4x64, .f32⟩
  | .local _ .vmem, ⟨7, _⟩ => ⟨S1x128, .f32⟩
  | .local _ .vmem, ⟨8, _⟩ => ⟨S1x2048x128, .bf16⟩
  | .local _ .vmem, ⟨9, _⟩ => ⟨S1x2048x128, .bf16⟩
  | .local _ .vmem, ⟨10, _⟩ => ⟨S2x128x2048, .f32⟩
  | .local _ .vmem, ⟨11, _⟩ => ⟨S2x1x2048, .f32⟩
  | .local _ .vmem, ⟨12, _⟩ => ⟨S2x144x2048, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![8, 4, 4, 6], ![false, false, false, false]⟩

def k0_cond4 (i : grid0.Coords) : BitVec 1 :=
  let arg3 : BitVec 32 := BitVec.ofNat 32 (i 3).val
  let c5_i32 : BitVec 32 := 5#32
  let v1177 : BitVec 1 := Scalar.cmpi .eq arg3 c5_i32
  let v1178 : BitVec 32 := Scalar.extui v1177
  let c0_i32_261 : BitVec 32 := 0#32
  let v1179 : BitVec 1 := Scalar.cmpi .ne v1178 c0_i32_261
  v1179

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg1
  let c0_i32_0 : BitVec 32 := 0#32
  ![arg0.toNat, arg3.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1408x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1x144x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "qscale" => some ((8⁻¹ * (Real.log 2)⁻¹ : ℝ) : EReal)
  | _ => none
-- ==== ReferenceIdeal.lean ====
abbrev S8x8192x512 : Shape := ⟨3, ![8, 8192, 512]⟩
abbrev S8x256x512 : Shape := ⟨3, ![8, 256, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S8x8192x4x2x64 : Shape := ⟨5, ![8, 8192, 4, 2, 64]⟩
abbrev S8x4x2x8192x64 : Shape := ⟨5, ![8, 4, 2, 8192, 64]⟩
abbrev S8x256x4x2x64 : Shape := ⟨5, ![8, 256, 4, 2, 64]⟩
abbrev S8x4x2x256x64 : Shape := ⟨5, ![8, 4, 2, 256, 64]⟩
abbrev S8x4x2x8448x64 : Shape := ⟨5, ![8, 4, 2, 8448, 64]⟩
abbrev S8x8192x4x128 : Shape := ⟨4, ![8, 8192, 4, 128]⟩
abbrev S8x4x8192x128 : Shape := ⟨4, ![8, 4, 8192, 128]⟩
abbrev S8x256x4x128 : Shape := ⟨4, ![8, 256, 4, 128]⟩
abbrev S8x4x256x128 : Shape := ⟨4, ![8, 4, 256, 128]⟩
abbrev S8x4x8448x128 : Shape := ⟨4, ![8, 4, 8448, 128]⟩
abbrev S8x4x2x8192x8448 : Shape := ⟨5, ![8, 4, 2, 8192, 8448]⟩
abbrev S8x4x2x8192 : Shape := ⟨4, ![8, 4, 2, 8192]⟩
abbrev S8x4x2x8192x1 : Shape := ⟨5, ![8, 4, 2, 8192, 1]⟩
abbrev S8x4x1x8192x8448 : Shape := ⟨5, ![8, 4, 1, 8192, 8448]⟩
abbrev S8x4x8192x8448 : Shape := ⟨4, ![8, 4, 8192, 8448]⟩
abbrev S128 : Shape := ⟨1, ![128]⟩
abbrev S8x4x8192 : Shape := ⟨3, ![8, 4, 8192]⟩
abbrev S8x4x8192x1 : Shape := ⟨4, ![8, 4, 8192, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x256x512, .f32⟩
  | .hbm, ⟨4, _⟩ => ⟨S8x256x512, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x8192x4x2x64, .f32⟩
  | .hbm, ⟨26, _⟩ => ⟨S8x4x2x8192x64, .f32⟩
  | .hbm, ⟨27, _⟩ => ⟨S8x256x4x2x64, .f32⟩
  | .hbm, ⟨28, _⟩ => ⟨S8x4x2x256x64, .f32⟩
  | .hbm, ⟨29, _⟩ => ⟨S8x4x2x8448x64, .f32⟩
  | .hbm, ⟨30, _⟩ => ⟨S8x8192x4x128, .f32⟩
  | .hbm, ⟨31, _⟩ => ⟨S8x4x8192x128, .f32⟩
  | .hbm, ⟨32, _⟩ => ⟨S8x256x4x128, .f32⟩
  | .hbm, ⟨33, _⟩ => ⟨S8x4x256x128, .f32⟩
  | .hbm, ⟨34, _⟩ => ⟨S8x4x8448x128, .f32⟩
  | .hbm, ⟨35, _⟩ => ⟨S8x8192x4x2x64, .f32⟩
  | .hbm, ⟨36, _⟩ => ⟨S8x4x2x8192x64, .f32⟩
  | .hbm, ⟨37, _⟩ => ⟨S8x4x2x8192x8448, .f32⟩
  | .hbm, ⟨38, _⟩ => ⟨S_, .f32⟩
  | .hbm, ⟨39, _⟩ => ⟨S8x4x2x8192x8448, .f32⟩
  | .hbm, ⟨40, _⟩ => ⟨S8x4x2x8192x8448, .f32⟩
  | .hbm, ⟨41, _⟩ => ⟨S_, .f32⟩
  | .hbm, ⟨42, _⟩ => ⟨S8x4x2x8192, .f32⟩
  | .hbm, ⟨43, _⟩ => ⟨S_, .f32⟩
  | .hbm, ⟨44, _⟩ => ⟨S8x4x2x8192, .f32⟩
  | .hbm, ⟨45, _⟩ => ⟨S8x4x2x8192, .f32⟩
  | .hbm, ⟨46, _⟩ => ⟨S8x4x2x8192x1, .f32⟩
  | .hbm, ⟨47, _⟩ => ⟨S8x4x2x8192x8448, .f32⟩
  | .hbm, ⟨48, _⟩ => ⟨S8x4x2x8192x8448, .f32⟩
  | .hbm, ⟨49, _⟩ => ⟨S8x4x2x8192x8448, .f32⟩
  | .hbm, ⟨50, _⟩ => ⟨S_, .f32⟩
  | .hbm, ⟨51, _⟩ => ⟨S8x4x2x8192, .f32⟩
  | .hbm, ⟨52, _⟩ => ⟨S8x4x2x8192x1, .f32⟩
  | .hbm, ⟨53, _⟩ => ⟨S8x4x2x8192x8448, .f32⟩
  | .hbm, ⟨54, _⟩ => ⟨S8x4x2x8192x8448, .f32⟩
  | .hbm, ⟨55, _⟩ => ⟨S8x4x1x8192x8448, .f32⟩
  | .hbm, ⟨56, _⟩ => ⟨S8x4x8192x8448, .f32⟩
  | .hbm, ⟨57, _⟩ => ⟨S8x4x1x8192x8448, .f32⟩
  | .hbm, ⟨58, _⟩ => ⟨S8x4x8192x8448, .f32⟩
  | .hbm, ⟨59, _⟩ => ⟨S8x4x8192x8448, .f32⟩
  | .hbm, ⟨60, _⟩ => ⟨S8x4x8192x8448, .f32⟩
  | .hbm, ⟨61, _⟩ => ⟨S8x4x8192x8448, .f32⟩
  | .hbm, ⟨62, _⟩ => ⟨S8x4x8192x128, .f32⟩
  | .hbm, ⟨63, _⟩ => ⟨S128, .f32⟩
  | .hbm, ⟨64, _⟩ => ⟨S8x4x8192x128, .f32⟩
  | .hbm, ⟨65, _⟩ => ⟨S_, .f32⟩
  | .hbm, ⟨66, _⟩ => ⟨S8x4x8192, .f32⟩
  | .hbm, ⟨67, _⟩ => ⟨S8x4x8192x1, .f32⟩
  | .hbm, ⟨68, _⟩ => ⟨S_, .f32⟩
  | .hbm, ⟨69, _⟩ => ⟨S8x4x8192x1, .f32⟩
  | .hbm, ⟨70, _⟩ => ⟨S8x4x8192x1, .f32⟩
  | .hbm, ⟨71, _⟩ => ⟨S_, .f32⟩
  | .hbm, ⟨72, _⟩ => ⟨S8x4x8192x1, .f32⟩
  | .hbm, ⟨73, _⟩ => ⟨S8x4x8192x1, .f32⟩
  | .hbm, ⟨74, _⟩ => ⟨S8x4x8192x1, .f32⟩
  | .hbm, ⟨75, _⟩ => ⟨S8x4x8192x128, .f32⟩
  | .hbm, ⟨76, _⟩ => ⟨S8x4x8192x128, .f32⟩
  | .hbm, ⟨77, _⟩ => ⟨S1x1x1x128, .f32⟩
  | .hbm, ⟨78, _⟩ => ⟨S8x4x8192x128, .f32⟩
  | .hbm, ⟨79, _⟩ => ⟨S8x4x8192x128, .f32⟩
  | .hbm, ⟨80, _⟩ => ⟨S_, .f32⟩
  | .hbm, ⟨81, _⟩ => ⟨S8x4x8192x128, .f32⟩
  | .hbm, ⟨82, _⟩ => ⟨S8x4x8192x128, .f32⟩
  | .hbm, ⟨83, _⟩ => ⟨S8x8192x4x128, .f32⟩
  | .hbm, ⟨84, _⟩ => ⟨S8x8192x512, .f32⟩
  | .hbm, ⟨85, _⟩ => ⟨S8x8192x512, .bf16⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x512 : Shape := ⟨3, ![8, 8192, 512]⟩
abbrev S1024x1024 : Shape := ⟨2, ![1024, 1024]⟩
abbrev S8x1x1024 : Shape := ⟨3, ![8, 1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x1024 : Shape := ⟨2, ![1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1024x1024, .f32⟩
  | .hbm, ⟨4, _⟩ => ⟨S8x1x1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024x4096, .f32⟩
  | .hbm, ⟨10, _⟩ => ⟨S4096x1024, .f32⟩
  | .hbm, ⟨11, _⟩ => ⟨S8x8192x512, .bf16⟩
  | .hbm, ⟨12, _⟩ => ⟨S8x8192x512, .bf16⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x8192x1024 : Shape := ⟨3, ![8, 8192, 1024]⟩
abbrev S8x8192x512 : Shape := ⟨3, ![8, 8192, 512]⟩
abbrev S1024x1024 : Shape := ⟨2, ![1024, 1024]⟩
abbrev S8x1x1024 : Shape := ⟨3, ![8, 1, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192x512, .f32⟩
  | .hbm, ⟨3, _⟩ => ⟨S1024x1024, .f32⟩
  | .hbm, ⟨4, _⟩ => ⟨S8x1x1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1024x4096, .f32⟩
  | .hbm, ⟨10, _⟩ => ⟨S4096x1024, .f32⟩
  | .hbm, ⟨11, _⟩ => ⟨S8x8192x1024, .f32⟩
  | .hbm, ⟨12, _⟩ => ⟨S8x8192x1024, .f32⟩
  | .hbm, ⟨13, _⟩ => ⟨S8x8192x1024, .f32⟩
  | .hbm, ⟨14, _⟩ => ⟨S8x8192x1024, .f32⟩
  | .hbm, ⟨15, _⟩ => ⟨S8x8192x1024, .f32⟩
  | .hbm, ⟨16, _⟩ => ⟨S8x8192x1024, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S_, .f32⟩
  | .hbm, ⟨24, _⟩ => ⟨S8x8192x1, .f32⟩
  | .hbm, ⟨25, _⟩ => ⟨S8x8192x1, .f32⟩
  | .hbm, ⟨26, _⟩ => ⟨S8x8192x1, .f32⟩
  | .hbm, ⟨27, _⟩ => ⟨S8x8192x1024, .f32⟩
  | .hbm, ⟨28, _⟩ => ⟨S8x8192x1024, .f32⟩
  | .hbm, ⟨29, _⟩ => ⟨S1x1x1024, .f32⟩
  | .hbm, ⟨30, _⟩ => ⟨S8x8192x1024, .f32⟩
  | .hbm, ⟨31, _⟩ => ⟨S8x8192x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x4096, .f32⟩
  | .hbm, ⟨40, _⟩ => ⟨S_, .f32⟩
  | .hbm, ⟨41, _⟩ => ⟨S8x8192x4096, .f32⟩
  | .hbm, ⟨42, _⟩ => ⟨S8x8192x4096, .f32⟩
  | .hbm, ⟨43, _⟩ => ⟨S8x8192x4096, .f32⟩
  | .hbm, ⟨44, _⟩ => ⟨S8x8192x1024, .f32⟩
  | .hbm, ⟨45, _⟩ => ⟨S8x8192x1024, .f32⟩
  | .hbm, ⟨46, _⟩ => ⟨S8x8192x1024, .f32⟩
  | .hbm, ⟨47, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S8x4x8192x128 : Shape := ⟨4, ![8, 4, 8192, 128]⟩
abbrev S128 : Shape := ⟨1, ![128]⟩
abbrev S1024x1024 : Shape := ⟨2, ![1024, 1024]⟩
abbrev S8x1x1024 : Shape := ⟨3, ![8, 1, 1024]⟩
abbrev S1024 : Shape := ⟨1, ![1024]⟩
abbrev S1024x4096 : Shape := ⟨2, ![1024, 4096]⟩
abbrev S4096x1024 : Shape := ⟨2, ![4096, 1024]⟩
abbrev S8x8192x4x128 : Shape := ⟨4, ![8, 8192, 4, 128]⟩
abbrev S8x512x8192 : Shape := ⟨3, ![8, 512, 8192]⟩
abbrev S1x128 : Shape := ⟨2, ![1, 128]⟩
abbrev S1x1024 : Shape := ⟨2, ![1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x1024 : Shape := ⟨2, ![512, 1024]⟩

abbrev nBuf : Space → Nat
  | .hbm => 28
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x4x8192x128, .f32⟩
  | .hbm, ⟨3, _⟩ => ⟨S8x4x8192x128, .f32⟩
  | .hbm, ⟨4, _⟩ => ⟨S8x8192x512, .f32⟩
  | .hbm, ⟨5, _⟩ => ⟨S128, .f32⟩
  | .hbm, ⟨6, _⟩ => ⟨S1024x1024, .f32⟩
  | .hbm, ⟨7, _⟩ => ⟨S8x1x1024, .f32⟩
  | .hbm, ⟨8, _⟩ => ⟨S1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x4096, .f32⟩
  | .hbm, ⟨13, _⟩ => ⟨S4096x1024, .f32⟩
  | .hbm, ⟨14, _⟩ => ⟨S1024, .f32⟩
  | .hbm, ⟨15, _⟩ => ⟨S8x4x8192x128, .f32⟩
  | .hbm, ⟨16, _⟩ => ⟨S8x8192x4x128, .f32⟩
  | .hbm, ⟨17, _⟩ => ⟨S8x8192x512, .f32⟩
  | .hbm, ⟨18, _⟩ => ⟨S8x8192x4x128, .f32⟩
  | .hbm, ⟨19, _⟩ => ⟨S8x8192x512, .f32⟩
  | .hbm, ⟨20, _⟩ => ⟨S8x512x8192, .f32⟩
  | .hbm, ⟨21, _⟩ => ⟨S1024x1024, .bf16⟩
  | .hbm, ⟨22, _⟩ => ⟨S1024x4096, .bf16⟩
  | .hbm, ⟨23, _⟩ => ⟨S4096x1024, .bf16⟩
  | .hbm, ⟨24, _⟩ => ⟨S1x128, .f32⟩
  | .hbm, ⟨25, _⟩ => ⟨S1x1024, .f32⟩
  | .hbm, ⟨26, _⟩ => ⟨S1x1024, .f32⟩
  | .hbm, ⟨27, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x128, .f32⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1024x4096, .bf16⟩
  | .local _ .vmem, ⟨22, _⟩ => ⟨S4096x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x8192x1024 : Shape := ⟨3, ![8, 8192, 1024]⟩
abbrev S8x8192x512 : Shape := ⟨3, ![8, 8192, 512]⟩
abbrev S8x4x8192x128 : Shape := ⟨4, ![8, 4, 8192, 128]⟩
abbrev S128 : Shape := ⟨1, ![128]⟩
abbrev S1024x1024 : Shape := ⟨2, ![1024, 1024]⟩
abbrev S8x1x1024 : Shape := ⟨3, ![8, 1, 1024]⟩
abbrev S1024 : Shape := ⟨1, ![1024]⟩
abbrev S1024x4096 : Shape := ⟨2, ![1024, 4096]⟩
abbrev S4096x1024 : Shape := ⟨2, ![4096, 1024]⟩
abbrev S8x8192x4x128 : Shape := ⟨4, ![8, 8192, 4, 128]⟩
abbrev S_ : Shape := ⟨0, ![]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 99
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x4x8192x128, .f32⟩
  | .hbm, ⟨3, _⟩ => ⟨S8x4x8192x128, .f32⟩
  | .hbm, ⟨4, _⟩ => ⟨S8x8192x512, .f32⟩
  | .hbm, ⟨5, _⟩ => ⟨S128, .f32⟩
  | .hbm, ⟨6, _⟩ => ⟨S1024x1024, .f32⟩
  | .hbm, ⟨7, _⟩ => ⟨S8x1x1024, .f32⟩
  | .hbm, ⟨8, _⟩ => ⟨S1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x4096, .f32⟩
  | .hbm, ⟨13, _⟩ => ⟨S4096x1024, .f32⟩
  | .hbm, ⟨14, _⟩ => ⟨S1024, .f32⟩
  | .hbm, ⟨15, _⟩ => ⟨S8x4x8192x128, .f32⟩
  | .hbm, ⟨16, _⟩ => ⟨S8x4x8192x128, .f32⟩
  | .hbm, ⟨17, _⟩ => ⟨S8x8192x4x128, .f32⟩
  | .hbm, ⟨18, _⟩ => ⟨S8x8192x4x128, .f32⟩
  | .hbm, ⟨19, _⟩ => ⟨S_, .f32⟩
  | .hbm, ⟨20, _⟩ => ⟨S8x8192x4, .f32⟩
  | .hbm, ⟨21, _⟩ => ⟨S8x8192x4x1, .f32⟩
  | .hbm, ⟨22, _⟩ => ⟨S_, .f32⟩
  | .hbm, ⟨23, _⟩ => ⟨S8x8192x4x1, .f32⟩
  | .hbm, ⟨24, _⟩ => ⟨S8x8192x4x1, .f32⟩
  | .hbm, ⟨25, _⟩ => ⟨S_, .f32⟩
  | .hbm, ⟨26, _⟩ => ⟨S8x8192x4x1, .f32⟩
  | .hbm, ⟨27, _⟩ => ⟨S8x8192x4x1, .f32⟩
  | .hbm, ⟨28, _⟩ => ⟨S8x8192x4x1, .f32⟩
  | .hbm, ⟨29, _⟩ => ⟨S8x8192x4x128, .f32⟩
  | .hbm, ⟨30, _⟩ => ⟨S8x8192x4x128, .f32⟩
  | .hbm, ⟨31, _⟩ => ⟨S1x1x1x128, .f32⟩
  | .hbm, ⟨32, _⟩ => ⟨S8x8192x4x128, .f32⟩
  | .hbm, ⟨33, _⟩ => ⟨S8x8192x4x128, .f32⟩
  | .hbm, ⟨34, _⟩ => ⟨S8x8192x4x128, .f32⟩
  | .hbm, ⟨35, _⟩ => ⟨S8x8192x4x128, .f32⟩
  | .hbm, ⟨36, _⟩ => ⟨S8x8192x4x128, .f32⟩
  | .hbm, ⟨37, _⟩ => ⟨S_, .f32⟩
  | .hbm, ⟨38, _⟩ => ⟨S8x8192x4x128, .f32⟩
  | .hbm, ⟨39, _⟩ => ⟨S8x8192x4x128, .f32⟩
  | .hbm, ⟨40, _⟩ => ⟨S_, .f32⟩
  | .hbm, ⟨41, _⟩ => ⟨S8x8192x4x128, .f32⟩
  | .hbm, ⟨42, _⟩ => ⟨S8x8192x4x128, .f32⟩
  | .hbm, ⟨43, _⟩ => ⟨S8x8192x4x128, .f32⟩
  | .hbm, ⟨44, _⟩ => ⟨S8x8192x4x128, .f32⟩
  | .hbm, ⟨45, _⟩ => ⟨S8x8192x512, .f32⟩
  | .hbm, ⟨46, _⟩ => ⟨S8x8192x1024, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x1, .f32⟩
  | .hbm, ⟨62, _⟩ => ⟨S8x8192x1024, .f32⟩
  | .hbm, ⟨63, _⟩ => ⟨S8x8192x1024, .f32⟩
  | .hbm, ⟨64, _⟩ => ⟨S1x1x1024, .f32⟩
  | .hbm, ⟨65, _⟩ => ⟨S8x8192x1024, .f32⟩
  | .hbm, ⟨66, _⟩ => ⟨S8x8192x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S8x8192x1024, .f32⟩
  | .hbm, ⟨74, _⟩ => ⟨S8x8192x4096, .f32⟩
  | .hbm, ⟨75, _⟩ => ⟨S_, .f32⟩
  | .hbm, ⟨76, _⟩ => ⟨S8x8192x4096, .f32⟩
  | .hbm, ⟨77, _⟩ => ⟨S8x8192x4096, .f32⟩
  | .hbm, ⟨78, _⟩ => ⟨S8x8192x4096, .f32⟩
  | .hbm, ⟨79, _⟩ => ⟨S8x8192x1024, .f32⟩
  | .hbm, ⟨80, _⟩ => ⟨S8x8192x1024, .f32⟩
  | .hbm, ⟨81, _⟩ => ⟨S8x8192x1024, .f32⟩
  | .hbm, ⟨82, _⟩ => ⟨S8x8192x1024, .f32⟩
  | .hbm, ⟨83, _⟩ => ⟨S8x8192x1024, .f32⟩
  | .hbm, ⟨84, _⟩ => ⟨S_, .f32⟩
  | .hbm, ⟨85, _⟩ => ⟨S8x8192, .f32⟩
  | .hbm, ⟨86, _⟩ => ⟨S8x8192x1, .f32⟩
  | .hbm, ⟨87, _⟩ => ⟨S_, .f32⟩
  | .hbm, ⟨88, _⟩ => ⟨S8x8192x1, .f32⟩
  | .hbm, ⟨89, _⟩ => ⟨S8x8192x1, .f32⟩
  | .hbm, ⟨90, _⟩ => ⟨S_, .f32⟩
  | .hbm, ⟨91, _⟩ => ⟨S8x8192x1, .f32⟩
  | .hbm, ⟨92, _⟩ => ⟨S8x8192x1, .f32⟩
  | .hbm, ⟨93, _⟩ => ⟨S8x8192x1, .f32⟩
  | .hbm, ⟨94, _⟩ => ⟨S8x8192x1024, .f32⟩
  | .hbm, ⟨95, _⟩ => ⟨S8x8192x1024, .f32⟩
  | .hbm, ⟨96, _⟩ => ⟨S1x1x1024, .f32⟩
  | .hbm, ⟨97, _⟩ => ⟨S8x8192x1024, .f32⟩
  | .hbm, ⟨98, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call2_cst : Ref sig .tc := ⟨.hbm, 75, rfl⟩
abbrev main_call2_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_cst_8 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩

abbrev nD : Nat := 1
abbrev τ : Topo := Topo.v7x

variable {F : FTy → Type} [FloatOps F]
-- ==== Kernel4.lean ====
abbrev S8x8192x1024 : Shape := ⟨3, ![8, 8192, 1024]⟩
abbrev S1024 : Shape := ⟨1, ![1024]⟩
abbrev S8x1x1024 : Shape := ⟨3, ![8, 1, 1024]⟩
abbrev S1024x3600 : Shape := ⟨2, ![1024, 3600]⟩
abbrev S1024x2064 : Shape := ⟨2, ![1024, 2064]⟩
abbrev S_ : Shape := ⟨0, ![]⟩
abbrev S1024x2176 : Shape := ⟨2, ![1024, 2176]⟩
abbrev S1024x1536 : Shape := ⟨2, ![1024, 1536]⟩
abbrev S1536x1024 : Shape := ⟨2, ![1536, 1024]⟩
abbrev S1x1024 : Shape := ⟨2, ![1, 1024]⟩
abbrev S8x8192x512 : Shape := ⟨3, ![8, 8192, 512]⟩
abbrev S8x8192x1536 : Shape := ⟨3, ![8, 8192, 1536]⟩
abbrev S8x8192x128 : Shape := ⟨3, ![8, 8192, 128]⟩
abbrev S8x1536x8192 : Shape := ⟨3, ![8, 1536, 8192]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x1536 : Shape := ⟨3, ![1, 512, 1536]⟩
abbrev S1x512x128 : Shape := ⟨3, ![1, 512, 128]⟩
abbrev S1x1536x512 : Shape := ⟨3, ![1, 1536, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S1024x128 : Shape := ⟨2, ![1024, 128]⟩
abbrev S512x128 : Shape := ⟨2, ![512, 128]⟩
abbrev S8x8192x16 : Shape := ⟨3, ![8, 8192, 16]⟩

abbrev nBuf : Space → Nat
  | .hbm => 20
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3600, .f32⟩
  | .hbm, ⟨5, _⟩ => ⟨S1024x2064, .f32⟩
  | .hbm, ⟨6, _⟩ => ⟨S_, .i32⟩
  | .hbm, ⟨7, _⟩ => ⟨S_, .f32⟩
  | .hbm, ⟨8, _⟩ => ⟨S1024x2176, .f32⟩
  | .hbm, ⟨9, _⟩ => ⟨S1024x2176, .bf16⟩
  | .hbm, ⟨10, _⟩ => ⟨S1024x1536, .f32⟩
  | .hbm, ⟨11, _⟩ => ⟨S1536x1024, .f32⟩
  | .hbm, ⟨12, _⟩ => ⟨S1536x1024, .bf16⟩
  | .hbm, ⟨13, _⟩ => ⟨S1x1024, .f32⟩
  | .hbm, ⟨14, _⟩ => ⟨S8x8192x512, .f32⟩
  | .hbm, ⟨15, _⟩ => ⟨S8x8192x1536, .f32⟩
  | .hbm, ⟨16, _⟩ => ⟨S8x8192x128, .f32⟩
  | .hbm, ⟨17, _⟩ => ⟨S8x1536x8192, .f32⟩
  | .hbm, ⟨18, _⟩ => ⟨S8x8192x1536, .f32⟩
  | .hbm, ⟨19, _⟩ => ⟨S8x8192x16, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2176, .bf16⟩
  | .local _ .vmem, ⟨8, _⟩ => ⟨S1536x1024, .bf16⟩
  | .local _ .vmem, ⟨9, _⟩ => ⟨S1x512x512, .f32⟩
  | .local _ .vmem, ⟨10, _⟩ => ⟨S1x512x512, .f32⟩
  | .local _ .vmem, ⟨11, _⟩ => ⟨S1x512x1536, .f32⟩
  | .local _ .vmem, ⟨12, _⟩ => ⟨S1x512x1536, .f32⟩
  | .local _ .vmem, ⟨13, _⟩ => ⟨S1x512x128, .f32⟩
  | .local _ .vmem, ⟨14, _⟩ => ⟨S1x512x128, .f32⟩
  | .local _ .vmem, ⟨15, _⟩ => ⟨S1x1536x512, .f32⟩
  | .local _ .vmem, ⟨16, _⟩ => ⟨S1x1536x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1536x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S8x8192x1024 : Shape := ⟨3, ![8, 8192, 1024]⟩
abbrev S1024 : Shape := ⟨1, ![1024]⟩
abbrev S8x1x1024 : Shape := ⟨3, ![8, 1, 1024]⟩
abbrev S1024x3600 : Shape := ⟨2, ![1024, 3600]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3600 : Shape := ⟨3, ![8, 8192, 3600]⟩
abbrev S8x8192x1536 : Shape := ⟨3, ![8, 8192, 1536]⟩
abbrev S8x8192x512 : Shape := ⟨3, ![8, 8192, 512]⟩
abbrev S8x8192x16 : Shape := ⟨3, ![8, 8192, 16]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3600, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x3600, .f32⟩
  | .hbm, ⟨29, _⟩ => ⟨S8x8192x1536, .f32⟩
  | .hbm, ⟨30, _⟩ => ⟨S8x8192x512, .f32⟩
  | .hbm, ⟨31, _⟩ => ⟨S8x8192x1536, .f32⟩
  | .hbm, ⟨32, _⟩ => ⟨S8x8192x16, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Attn.Chains.lean ====
module

public import proofs.«01_k».proof.Proof.Gen.KernelIdeal
public import proofs.«01_k».proof.Proof.Gen.KernelIdeal.Skeleton

@[expose] public section

set_option maxRecDepth 16384

noncomputable section

namespace Cert.KernelIdeal.Attn

open Idealize.ShloMosaic Idealize.SL.Sem
open Cert.KernelIdeal Cert.KernelIdeal.Gen

variable {F : FTy → Type} [FloatOps F] [Named F]

/-- The map (0 or 1) of chain `n`, its first query column, and the row of the scaled queries its reference sits in. -/
abbrev mp (n : Fin 16) : ℕ := n.val % 2
abbrev col (n : Fin 16) : ℕ := 256 * (n.val / 2)
abbrev rrow (n : Fin 16) : ℕ := 64 * (1 - n.val % 2)

theorem inbM : ∀ n : Fin 16, ∀ a, (![mp n, 0, col n] : Fin 3 → ℕ) a + S1x1x256.size a ≤ S2x1x2048.size a := by decide
theorem inbQ : ∀ n : Fin 16, ∀ a, (![mp n, rrow n, col n] : Fin 3 → ℕ) a + S1x1x256.size a ≤ S2x128x2048.size a := by decide
theorem inbA : ∀ n : Fin 16, ∀ a, (![mp n, 0, col n] : Fin 3 → ℕ) a + S1x144x256.size a ≤ S2x144x2048.size a := by decide
theorem inbK : ∀ n : Fin 16, ∀ a, (![mp n, 0, col n] : Fin 3 → ℕ) a + S1x128x256.size a ≤ S2x128x2048.size a := by decide

/-- The rectangles a chain reads and writes. -/
abbrev rM (n : Fin 16) : Rect S2x1x2048 := Rect.unit (s := S2x1x2048) ![mp n, 0, col n] S1x1x256.size (inbM n)
abbrev rQ (n : Fin 16) : Rect S2x128x2048 := Rect.unit (s := S2x128x2048) ![mp n, rrow n, col n] S1x1x256.size (inbQ n)
abbrev rA (n : Fin 16) : Rect S2x144x2048 := Rect.unit (s := S2x144x2048) ![mp n, 0, col n] S1x144x256.size (inbA n)
abbrev rK (n : Fin 16) : Rect S2x128x2048 := Rect.unit (s := S2x128x2048) ![mp n, 0, col n] S1x128x256.size (inbK n)

/-- Run `f` at each of a list, in order. -/
def runs {E : Type → Type _} (f : Fin 16 → Prog E PUnit) : List (Fin 16) → Prog E PUnit
  | [] => pure ⟨⟩
  | n :: ns => do f n; runs f ns

/-- All sixteen chains, in the kernel's order. -/
abbrev chains : List (Fin 16) := [0, 1, 2, 3, 4, 5, 6, 7, 8, 9, 10, 11, 12, 13, 14, 15]

/-- A chain's step where no score asks for redoing: the running reference, the accumulator, and the two writes of the
    new reference. -/
def keep (arg10 : Memref sig .tc .vmem S2x128x2048 .f32) (arg11 : Memref sig .tc .vmem S2x1x2048 .f32)
    (arg12 : Memref sig .tc .vmem S2x144x2048 .f32) (mx : FVec F S1x256 .f32) (pv : FVec F S144x256 .f32) (n : Fin 16) :
    Prog (TpuEff nD τ sig (Elt F) Λ₀ .tc) PUnit := do
  let m : Vec F S1x1x256 .f32 ← Prog.lift (.load arg11 (rM n).toLoadRect (View.loadsAt_vmem h_S1x1x256))
  let a : Vec F S1x144x256 .f32 ← Prog.lift (.load arg12 (rA n).toLoadRect (View.loadsAt_vmem h_S1x144x256))
  let _ : Vec F S1x144x256 .f32 ← Prog.lift (.load arg12 (rA n).toLoadRect (View.loadsAt_vmem h_S1x144x256))
  Prog.lift (.store arg12 (rA n) (k0_pay79 mx pv m a) Finset.univ (View.stores_vmem_bits_univ h_S1x144x256 rfl) (.inl rfl))
  let _ : Vec F S1x1x256 .f32 ← Prog.lift (.load arg11 (rM n).toLoadRect (View.loadsAt_vmem h_S1x1x256))
  Prog.lift (.store arg11 (rM n) (k0_pay80 mx m) Finset.univ (View.stores_vmem_bits_univ h_S1x1x256 rfl) (.inl rfl))
  let _ : Vec F S1x1x256 .f32 ← Prog.lift (.load arg10 (rQ n).toLoadRect (View.loadsAt_vmem h_S1x1x256))
  Prog.lift (.store arg10 (rQ n) (k0_pay81 mx m) Finset.univ (View.stores_vmem_bits_univ h_S1x1x256 rfl) (.inl rfl))
  pure ⟨⟩

/-- A chain's step where some score asks for redoing: the same, from scores taken again against the new reference. -/
def redo (arg10 : Memref sig .tc .vmem S2x128x2048 .f32) (arg11 : Memref sig .tc .vmem S2x1x2048 .f32)
    (arg12 : Memref sig .tc .vmem S2x144x2048 .f32) (vt : FVec F S144x1408 .bf16) (s : FVec F S1408x256 .f32) (n : Fin 16) :
    Prog (TpuEff nD τ sig (Elt F) Λ₀ .tc) PUnit := do
  let m : Vec F S1x1x256 .f32 ← Prog.lift (.load arg11 (rM n).toLoadRect (View.loadsAt_vmem h_S1x1x256))
  let a : Vec F S1x144x256 .f32 ← Prog.lift (.load arg12 (rA n).toLoadRect (View.loadsAt_vmem h_S1x144x256))
  let _ : Vec F S1x144x256 .f32 ← Prog.lift (.load arg12 (rA n).toLoadRect (View.loadsAt_vmem h_S1x144x256))
  Prog.lift (.store arg12 (rA n) (k0_pay159 vt s m a) Finset.univ (View.stores_vmem_bits_univ h_S1x144x256 rfl) (.inl rfl))
  let _ : Vec F S1x1x256 .f32 ← Prog.lift (.load arg11 (rM n).toLoadRect (View.loadsAt_vmem h_S1x1x256))
  Prog.lift (.store arg11 (rM n) (k0_pay160 s m) Finset.univ (View.stores_vmem_bits_univ h_S1x1x256 rfl) (.inl rfl))
  let _ : Vec F S1x1x256 .f32 ← Prog.lift (.load arg10 (rQ n).toLoadRect (View.loadsAt_vmem h_S1x1x256))
  Prog.lift (.store arg10 (rQ n) (k0_pay161 s m) Finset.univ (View.stores_vmem_bits_univ h_S1x1x256 rfl) (.inl rfl))
  pure ⟨⟩

/-- A chain's first reference: the largest of its first scores, written twice. -/
def first (arg10 : Memref sig .tc .vmem S2x128x2048 .f32) (arg11 : Memref sig .tc .vmem S2x1x2048 .f32)
    (s : FVec F S128x256 .f32) (n : Fin 16) : Prog (TpuEff nD τ sig (Elt F) Λ₀ .tc) PUnit := do
  let _ : Vec F S1x1x256 .f32 ← Prog.lift (.load arg11 (rM n).toLoadRect (View.loadsAt_vmem h_S1x1x256))
  Prog.lift (.store arg11 (rM n) (k0_pay29 s) Finset.univ (View.stores_vmem_bits_univ h_S1x1x256 rfl) (.inl rfl))
  let _ : Vec F S1x1x256 .f32 ← Prog.lift (.load arg10 (rQ n).toLoadRect (View.loadsAt_vmem h_S1x1x256))
  Prog.lift (.store arg10 (rQ n) (k0_pay30 s) Finset.univ (View.stores_vmem_bits_univ h_S1x1x256 rfl) (.inl rfl))
  pure ⟨⟩

/-- The scaled queries of all sixteen chains, read in order. -/
def readQ (arg10 : Memref sig .tc .vmem S2x128x2048 .f32) :
    Prog (TpuEff nD τ sig (Elt F) Λ₀ .tc) (Fin 16 → Vec F S1x128x256 .f32) := do
  let q0 : Vec F S1x128x256 .f32 ← Prog.lift (.load arg10 (rK 0).toLoadRect (View.loadsAt_vmem h_S1x128x256))
  let q1 : Vec F S1x128x256 .f32 ← Prog.lift (.load arg10 (rK 1).toLoadRect (View.loadsAt_vmem h_S1x128x256))
  let q2 : Vec F S1x128x256 .f32 ← Prog.lift (.load arg10 (rK 2).toLoadRect (View.loadsAt_vmem h_S1x128x256))
  let q3 : Vec F S1x128x256 .f32 ← Prog.lift (.load arg10 (rK 3).toLoadRect (View.loadsAt_vmem h_S1x128x256))
  let q4 : Vec F S1x128x256 .f32 ← Prog.lift (.load arg10 (rK 4).toLoadRect (View.loadsAt_vmem h_S1x128x256))
  let q5 : Vec F S1x128x256 .f32 ← Prog.lift (.load arg10 (rK 5).toLoadRect (View.loadsAt_vmem h_S1x128x256))
  let q6 : Vec F S1x128x256 .f32 ← Prog.lift (.load arg10 (rK 6).toLoadRect (View.loadsAt_vmem h_S1x128x256))
  let q7 : Vec F S1x128x256 .f32 ← Prog.lift (.load arg10 (rK 7).toLoadRect (View.loadsAt_vmem h_S1x128x256))
  let q8 : Vec F S1x128x256 .f32 ← Prog.lift (.load arg10 (rK 8).toLoadRect (View.loadsAt_vmem h_S1x128x256))
  let q9 : Vec F S1x128x256 .f32 ← Prog.lift (.load arg10 (rK 9).toLoadRect (View.loadsAt_vmem h_S1x128x256))
  let q10 : Vec F S1x128x256 .f32 ← Prog.lift (.load arg10 (rK 10).toLoadRect (View.loadsAt_vmem h_S1x128x256))
  let q11 : Vec F S1x128x256 .f32 ← Prog.lift (.load arg10 (rK 11).toLoadRect (View.loadsAt_vmem h_S1x128x256))
  let q12 : Vec F S1x128x256 .f32 ← Prog.lift (.load arg10 (rK 12).toLoadRect (View.loadsAt_vmem h_S1x128x256))
  let q13 : Vec F S1x128x256 .f32 ← Prog.lift (.load arg10 (rK 13).toLoadRect (View.loadsAt_vmem h_S1x128x256))
  let q14 : Vec F S1x128x256 .f32 ← Prog.lift (.load arg10 (rK 14).toLoadRect (View.loadsAt_vmem h_S1x128x256))
  let q15 : Vec F S1x128x256 .f32 ← Prog.lift (.load arg10 (rK 15).toLoadRect (View.loadsAt_vmem h_S1x128x256))
  pure ![q0, q1, q2, q3, q4, q5, q6, q7, q8, q9, q10, q11, q12, q13, q14, q15]

/-- The keys of a map with its reference lane set to one. -/
def keysOf (k : Vec F S1x1408x128 .bf16) (n : Fin 16) : FVec F S1408x128 .bf16 :=
  (![k0_pay258 k, k0_pay259 k] : Fin 2 → FVec F S1408x128 .bf16) ⟨n.val % 2, Nat.mod_lt _ (by decide)⟩

theorem slc : ∀ g : Fin 11, S1408x256.Slices ![128 * g.val, 0] S128x256 := by decide

/-- Group `g` of a chain's scores, the exponentials of the group, and its largest score per query. -/
def grp (s : FVec F S1408x256 .f32) (g : Fin 11) : FVec F S128x256 .f32 :=
  extractStridedSlice S128x256 ![128 * g.val, 0] s (slc g)
def egrp (s : FVec F S1408x256 .f32) (g : Fin 11) : FVec F S128x256 .bf16 :=
  truncf .bf16 (exp2 (grp s g)) bitsLt_bf16_f32
def top (s : FVec F S1408x256 .f32) (g : Fin 11) : FVec F S1x256 .f32 :=
  shapeCast S1x256 (multiReduction .maximumf [0] S256 (grp s g) 0xFF800000#32 reduces_S128x256_S256 (.inl rfl) rfl) shapeCasts_S256_S1x256

/-- The largest score of each query, group after group. -/
def mxOf (s : FVec F S1408x256 .f32) : FVec F S1x256 .f32 :=
  maximumf (maximumf (maximumf (maximumf (maximumf (maximumf (maximumf (maximumf (maximumf (maximumf (top s 0) (top s 1)) (top s 2))
    (top s 3)) (top s 4)) (top s 5)) (top s 6)) (top s 7)) (top s 8)) (top s 9)) (top s 10)

/-- The values (and ones) summed with the exponentials of the scores. -/
def pvOf (vt : FVec F S144x1408 .bf16) (s : FVec F S1408x256 .f32) : FVec F S144x256 .f32 :=
  matmul dot_S144x1408_S1408x256_S144x256_1_0_0_1_n_n none vt
    (concatenate S1408x256 0 [⟨S128x256, egrp s 0⟩, ⟨S128x256, egrp s 1⟩, ⟨S128x256, egrp s 2⟩, ⟨S128x256, egrp s 3⟩, ⟨S128x256, egrp s 4⟩,
      ⟨S128x256, egrp s 5⟩, ⟨S128x256, egrp s 6⟩, ⟨S128x256, egrp s 7⟩, ⟨S128x256, egrp s 8⟩, ⟨S128x256, egrp s 9⟩, ⟨S128x256, egrp s 10⟩]
      concatenates_S128x256_S128x256_S128x256_S128x256_S128x256_S128x256_S128x256_S128x256_S128x256_S128x256_S128x256_S1408x256_d0)
    (constant S144x256 .f32 0x00000000#32)

/-- Whether some score asks for redoing. -/
def redoBit (mx : Fin 16 → FVec F S1x256 .f32) : BitVec 1 :=
  Scalar.cmpf .ogt (k0_pay1 (mx 15) (maximumf (maximumf (maximumf (maximumf (maximumf (maximumf (maximumf (maximumf (maximumf (maximumf (maximumf (maximumf (maximumf (maximumf
    (mx 0) (mx 1)) (mx 2)) (mx 3)) (mx 4)) (mx 5)) (mx 6)) (mx 7)) (mx 8)) (mx 9)) (mx 10)) (mx 11)) (mx 12)) (mx 13)) (mx 14)))
    (Scalar.ofBits .f32 0x42F00000#32)

/-- The first key block's opening: the scaled queries, an empty accumulator, the first references. -/
def opening (arg4 : Memref sig .tc .vmem S1x128x2048 .bf16) (arg10 : Memref sig .tc .vmem S2x128x2048 .f32)
    (arg11 : Memref sig .tc .vmem S2x1x2048 .f32) (arg12 : Memref sig .tc .vmem S2x144x2048 .f32) (k : Vec F S1x1408x128 .bf16) :
    Prog (TpuEff nD τ sig (Elt F) Λ₀ .tc) PUnit := do
  let q : Vec F S1x128x2048 .bf16 ← Prog.lift (.load arg4 (Rect.unit (s := S1x128x2048) ![0, 0, 0] S1x128x2048.size inb_S1x128x2048_S1x128x2048_0_0_0).toLoadRect (View.loadsAt_vmem h_S1x128x2048))
  let _ : Vec F S1x128x2048 .f32 ← Prog.lift (.load arg10 (Rect.unit (s := S2x128x2048) ![0, 0, 0] S1x128x2048.size inb_S2x128x2048_S1x128x2048_0_0_0).toLoadRect (View.loadsAt_vmem h_S1x128x2048))
  Prog.lift (.store arg10 (Rect.unit (s := S2x128x2048) ![0, 0, 0] S1x128x2048.size inb_S2x128x2048_S1x128x2048_0_0_0) (k0_pay6 q) Finset.univ (View.stores_vmem_bits_univ h_S1x128x2048 rfl) (.inl rfl))
  let _ : Vec F S1x128x2048 .f32 ← Prog.lift (.load arg10 (Rect.unit (s := S2x128x2048) ![1, 0, 0] S1x128x2048.size inb_S2x128x2048_S1x128x2048_1_0_0).toLoadRect (View.loadsAt_vmem h_S1x128x2048))
  Prog.lift (.store arg10 (Rect.unit (s := S2x128x2048) ![1, 0, 0] S1x128x2048.size inb_S2x128x2048_S1x128x2048_1_0_0) (k0_pay7 q) Finset.univ (View.stores_vmem_bits_univ h_S1x128x2048 rfl) (.inl rfl))
  let _ : Vec F S2x144x2048 .f32 ← Prog.lift (.load arg12 (Rect.unit (s := S2x144x2048) ![0, 0, 0] S2x144x2048.size inb_S2x144x2048_S2x144x2048_0_0_0).toLoadRect (View.loadsAt_vmem h_S2x144x2048))
  Prog.lift (.store arg12 (Rect.unit (s := S2x144x2048) ![0, 0, 0] S2x144x2048.size inb_S2x144x2048_S2x144x2048_0_0_0) (k0_pay8 (F := F)) Finset.univ (View.stores_vmem_bits_univ h_S2x144x2048 rfl) (.inl rfl))
  let qs ← readQ arg10
  runs (fun n => first arg10 arg11 (k0_pay13 (keysOf k n) (qs n)) n) chains

/-- The last key block's close: the two maps' averages, their difference, its norm and scale. -/
def closing (arg7 : Memref sig .tc .vmem S4x64 .f32) (arg8 : Memref sig .tc .vmem S1x128 .f32) (arg9 : Memref sig .tc .vmem S1x2048x128 .bf16)
    (harg9 : arg9.IsWhole) (arg12 : Memref sig .tc .vmem S2x144x2048 .f32) : Prog (TpuEff nD τ sig (Elt F) Λ₀ .tc) PUnit := do
  let l0 : Vec F S1x64 .f32 ← Prog.lift (.load arg7 (Rect.unit (s := S4x64) ![0, 0] S1x64.size inb_S4x64_S1x64_0_0).toLoadRect (View.loadsAt_vmem h_S1x64))
  let l1 : Vec F S1x64 .f32 ← Prog.lift (.load arg7 (Rect.unit (s := S4x64) ![1, 0] S1x64.size inb_S4x64_S1x64_1_0).toLoadRect (View.loadsAt_vmem h_S1x64))
  let l2 : Vec F S1x64 .f32 ← Prog.lift (.load arg7 (Rect.unit (s := S4x64) ![2, 0] S1x64.size inb_S4x64_S1x64_2_0).toLoadRect (View.loadsAt_vmem h_S1x64))
  let l3 : Vec F S1x64 .f32 ← Prog.lift (.load arg7 (Rect.unit (s := S4x64) ![3, 0] S1x64.size inb_S4x64_S1x64_3_0).toLoadRect (View.loadsAt_vmem h_S1x64))
  let a0 : Vec F S1x128x2048 .f32 ← Prog.lift (.load arg12 (Rect.unit (s := S2x144x2048) ![0, 0, 0] S1x128x2048.size inb_S2x144x2048_S1x128x2048_0_0_0).toLoadRect (View.loadsAt_vmem h_S1x128x2048))
  let d0 : Vec F S1x1x2048 .f32 ← Prog.lift (.load arg12 (Rect.unit (s := S2x144x2048) ![0, 128, 0] S1x1x2048.size inb_S2x144x2048_S1x1x2048_0_128_0).toLoadRect (View.loadsAt_vmem h_S1x1x2048))
  let a1 : Vec F S1x128x2048 .f32 ← Prog.lift (.load arg12 (Rect.unit (s := S2x144x2048) ![1, 0, 0] S1x128x2048.size inb_S2x144x2048_S1x128x2048_1_0_0).toLoadRect (View.loadsAt_vmem h_S1x128x2048))
  let d1 : Vec F S1x1x2048 .f32 ← Prog.lift (.load arg12 (Rect.unit (s := S2x144x2048) ![1, 128, 0] S1x1x2048.size inb_S2x144x2048_S1x1x2048_1_128_0).toLoadRect (View.loadsAt_vmem h_S1x1x2048))
  let g : Vec F S1x128 .f32 ← Prog.lift (.load arg8 (Rect.unit (s := S1x128) ![0, 0] S1x128.size inb_S1x128_S1x128_0_0).toLoadRect (View.loadsAt_vmem h_S1x128))
  let _ : Vec F S1x2048x128 .bf16 ← Prog.lift (.load arg9 (Rect.unit (s := S1x2048x128) ![0, 0, 0] S1x2048x128.size inb_S1x2048x128_S1x2048x128_0_0_0).toLoadRect (View.loadsAt_vmem h_S1x2048x128))
  Prog.lift (.store arg9 (Rect.unit (s := S1x2048x128) ![0, 0, 0] S1x2048x128.size inb_S1x2048x128_S1x2048x128_0_0_0) (k0_pay4 (k0_pay255 l0 l1 l2 l3 a0 d0 a1 d1) (k0_pay256 l0 l1 l2 l3 a0 d0 a1 d1) g) Finset.univ (View.stores_vmem h_S1x2048x128 (harg9.storeExact_slice rfl _ packedbf16_S1x2048x128_S1x2048x128_0_0_0) (fun _ => rfl)) (.inl rfl))
  pure ⟨⟩

/-- Whether the point's key block is the first, as the kernel computes it. -/
abbrev isFirst (i : grid0.Coords) : BitVec 1 :=
  Scalar.cmpi .ne (Scalar.extui (Scalar.cmpi .eq (BitVec.ofNat 32 (i 3).val) 0#32) : BitVec 32) 0#32

/-- The point's keys and values, the opening where the key block is the first, and the first three chains' scores. -/
def start (i : grid0.Coords) (arg4 : Memref sig .tc .vmem S1x128x2048 .bf16) (harg4 : arg4.IsWhole) (arg5 : Memref sig .tc .vmem S1x1408x128 .bf16) (harg5 : arg5.IsWhole) (arg6 : Memref sig .tc .vmem S1x1x144x1408 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2x128x2048 .f32) (harg10 : arg10.IsWhole) (arg11 : Memref sig .tc .vmem S2x1x2048 .f32) (harg11 : arg11.IsWhole) (arg12 : Memref sig .tc .vmem S2x144x2048 .f32) (harg12 : arg12.IsWhole) :
    Prog (TpuEff nD τ sig (Elt F) Λ₀ .tc) (Σ' (_ : BitVec 32) (_ : FVec F S1408x128 .bf16) (_ : FVec F S1408x128 .bf16) (_ : FVec F S144x1408 .bf16) (_ : FVec F S1408x256 .f32) (_ : FVec F S1408x256 .f32), FVec F S1408x256 .f32) := do
  let k : Vec F S1x1408x128 .bf16 ← Prog.lift (.load arg5 (Rect.unit (s := S1x1408x128) ![0, 0, 0] S1x1408x128.size inb_S1x1408x128_S1x1408x128_0_0_0).toLoadRect (View.loadsAt_vmem h_S1x1408x128))
  let v : Vec F S1x1x144x1408 .bf16 ← Prog.lift (.load arg6 (Rect.unit (s := S1x1x144x1408) ![0, 0, 0, 0] S1x1x144x1408.size inb_S1x1x144x1408_S1x1x144x1408_0_0_0_0).toLoadRect (View.loadsAt_vmem h_S1x1x144x1408))
  if h : isFirst i = 1#1 then do
    opening arg4 arg10 arg11 arg12 k
    pure ⟨⟩
  else do
    pure ⟨⟩
  let q0 : Vec F S1x128x256 .f32 ← Prog.lift (.load arg10 (rK 0).toLoadRect (View.loadsAt_vmem h_S1x128x256))
  let q1 : Vec F S1x128x256 .f32 ← Prog.lift (.load arg10 (rK 1).toLoadRect (View.loadsAt_vmem h_S1x128x256))
  let q2 : Vec F S1x128x256 .f32 ← Prog.lift (.load arg10 (rK 2).toLoadRect (View.loadsAt_vmem h_S1x128x256))
  pure ⟨BitVec.ofNat 32 (i 3).val, k0_pay258 k, k0_pay259 k, k0_pay260 v, k0_pay264 (k0_pay258 k) q0, k0_pay264 (k0_pay259 k) q1, k0_pay264 (k0_pay258 k) q2⟩

theorem start_eq : k0_part38_skel (F := F) = start (F := F) := rfl

/-- The kernel at a point, its sixteen chains run one after another. -/
def body (i : grid0.Coords) (arg4 : Memref sig .tc .vmem S1x128x2048 .bf16) (harg4 : arg4.IsWhole) (arg5 : Memref sig .tc .vmem S1x1408x128 .bf16) (harg5 : arg5.IsWhole) (arg6 : Memref sig .tc .vmem S1x1x144x1408 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2x128x2048 .f32) (harg10 : arg10.IsWhole) (arg11 : Memref sig .tc .vmem S2x1x2048 .f32) (harg11 : arg11.IsWhole) (arg12 : Memref sig .tc .vmem S2x144x2048 .f32) (harg12 : arg12.IsWhole) : Prog (TpuEff nD τ sig (Elt F) Λ₀ .tc) PUnit := do
  let ⟨_, kx0, kx1, vt, s0, s1, s2⟩ ← start i arg4 harg4 arg5 harg5 arg6 harg6 arg7 harg7 arg8 harg8 arg9 harg9 arg10 harg10 arg11 harg11 arg12 harg12
  let q3 : Vec F S1x128x256 .f32 ← Prog.lift (.load arg10 (rK 3).toLoadRect (View.loadsAt_vmem h_S1x128x256))
  let q4 : Vec F S1x128x256 .f32 ← Prog.lift (.load arg10 (rK 4).toLoadRect (View.loadsAt_vmem h_S1x128x256))
  let q5 : Vec F S1x128x256 .f32 ← Prog.lift (.load arg10 (rK 5).toLoadRect (View.loadsAt_vmem h_S1x128x256))
  let q6 : Vec F S1x128x256 .f32 ← Prog.lift (.load arg10 (rK 6).toLoadRect (View.loadsAt_vmem h_S1x128x256))
  let q7 : Vec F S1x128x256 .f32 ← Prog.lift (.load arg10 (rK 7).toLoadRect (View.loadsAt_vmem h_S1x128x256))
  let q8 : Vec F S1x128x256 .f32 ← Prog.lift (.load arg10 (rK 8).toLoadRect (View.loadsAt_vmem h_S1x128x256))
  let q9 : Vec F S1x128x256 .f32 ← Prog.lift (.load arg10 (rK 9).toLoadRect (View.loadsAt_vmem h_S1x128x256))
  let q10 : Vec F S1x128x256 .f32 ← Prog.lift (.load arg10 (rK 10).toLoadRect (View.loadsAt_vmem h_S1x128x256))
  let q11 : Vec F S1x128x256 .f32 ← Prog.lift (.load arg10 (rK 11).toLoadRect (View.loadsAt_vmem h_S1x128x256))
  let q12 : Vec F S1x128x256 .f32 ← Prog.lift (.load arg10 (rK 12).toLoadRect (View.loadsAt_vmem h_S1x128x256))
  let q13 : Vec F S1x128x256 .f32 ← Prog.lift (.load arg10 (rK 13).toLoadRect (View.loadsAt_vmem h_S1x128x256))
  let q14 : Vec F S1x128x256 .f32 ← Prog.lift (.load arg10 (rK 14).toLoadRect (View.loadsAt_vmem h_S1x128x256))
  let q15 : Vec F S1x128x256 .f32 ← Prog.lift (.load arg10 (rK 15).toLoadRect (View.loadsAt_vmem h_S1x128x256))
  let s : Fin 16 → FVec F S1408x256 .f32 := ![s0, s1, s2, k0_pay264 kx1 q3, k0_pay264 kx0 q4, k0_pay264 kx1 q5, k0_pay264 kx0 q6, k0_pay264 kx1 q7, k0_pay264 kx0 q8, k0_pay264 kx1 q9, k0_pay264 kx0 q10, k0_pay264 kx1 q11, k0_pay264 kx0 q12, k0_pay264 kx1 q13, k0_pay264 kx0 q14, k0_pay264 kx1 q15]
  let bit := redoBit fun n => mxOf (s n)
  if Scalar.cmpi .ne (Scalar.extui (Scalar.xori bit 1#1) : BitVec 32) 0#32 = 1#1 then do
    runs (fun n => keep arg10 arg11 arg12 (mxOf (s n)) (pvOf vt (s n)) n) chains
    pure ⟨⟩
  else do
    pure ⟨⟩
  if Scalar.cmpi .ne (Scalar.extui bit : BitVec 32) 0#32 = 1#1 then do
    runs (fun n => redo arg10 arg11 arg12 vt (s n) n) chains
    pure ⟨⟩
  else do
    pure ⟨⟩
  if h : k0_cond4 i = 1#1 then do
    closing arg7 arg8 arg9 harg9 arg12
    pure ⟨⟩
  else do
    pure ⟨⟩
  pure ⟨⟩

set_option maxHeartbeats 8000000 in
theorem body_eq : cc0_diff_attention_skel (F := F) = body (F := F) := rfl

end Cert.KernelIdeal.Attn
-- ==== Proof.Attn.State.lean ====
module

public import proofs.«01_k».proof.Proof.Attn.Chains
public import Idealize.ShloMosaic.Lib.VecWindow

@[expose] public section

set_option maxRecDepth 16384

noncomputable section

namespace Cert.KernelIdeal.Attn

open Idealize.ShloMosaic Idealize.SL.Sem
open Cert.KernelIdeal Cert.KernelIdeal.Gen
open Idealize.ShloMosaic.VecWindow (window put)

variable {F : FTy → Type} [FloatOps F] [Named F]

/-- What the kernel carries from one key block to the next: the scaled queries with their references, the references,
    and the accumulators. -/
structure St (F : FTy → Type) where
  q : Vec F S2x128x2048 .f32
  m : Vec F S2x1x2048 .f32
  a : Vec F S2x144x2048 .f32

/-- A chain's reference, accumulator and scaled queries in the state. -/
def St.mW (s : St F) (n : Fin 16) : Vec F S1x1x256 .f32 := window (s := S2x1x2048) s.m ![mp n, 0, col n] S1x1x256.size (inbM n)
def St.aW (s : St F) (n : Fin 16) : Vec F S1x144x256 .f32 := window (s := S2x144x2048) s.a ![mp n, 0, col n] S1x144x256.size (inbA n)
def St.qW (s : St F) (n : Fin 16) : Vec F S1x128x256 .f32 := window (s := S2x128x2048) s.q ![mp n, 0, col n] S1x128x256.size (inbK n)

/-- The state with a chain's reference (in both its places) replaced. -/
def St.putM (s : St F) (n : Fin 16) (m q : Vec F S1x1x256 .f32) : St F where
  q := put (s := S2x128x2048) s.q ![mp n, rrow n, col n] S1x1x256.size q
  m := put (s := S2x1x2048) s.m ![mp n, 0, col n] S1x1x256.size m
  a := s.a

/-- The state with a chain's accumulator replaced. -/
def St.putA (s : St F) (n : Fin 16) (a : Vec F S1x144x256 .f32) : St F where
  q := s.q
  m := s.m
  a := put (s := S2x144x2048) s.a ![mp n, 0, col n] S1x144x256.size a

/-- What `keep`, `redo` and `first` make of the state. -/
def keepSt (mx : FVec F S1x256 .f32) (pv : FVec F S144x256 .f32) (n : Fin 16) (s : St F) : St F :=
  (s.putA n (k0_pay79 mx pv (s.mW n) (s.aW n))).putM n (k0_pay80 mx (s.mW n)) (k0_pay81 mx (s.mW n))
def redoSt (vt : FVec F S144x1408 .bf16) (sc : FVec F S1408x256 .f32) (n : Fin 16) (s : St F) : St F :=
  (s.putA n (k0_pay159 vt sc (s.mW n) (s.aW n))).putM n (k0_pay160 sc (s.mW n)) (k0_pay161 sc (s.mW n))
def firstSt (sc : FVec F S128x256 .f32) (n : Fin 16) (s : St F) : St F := s.putM n (k0_pay29 sc) (k0_pay30 sc)

/-- Run a step of the state at each of a list, in order. -/
def runsSt (f : Fin 16 → St F → St F) (l : List (Fin 16)) (s : St F) : St F := l.foldl (fun s n => f n s) s

/-- The scaled queries laid out, before any reference is known. -/
def layQ (Q : Vec F S1x128x2048 .bf16) (q : Vec F S2x128x2048 .f32) : Vec F S2x128x2048 .f32 :=
  put (s := S2x128x2048) (put (s := S2x128x2048) q ![0, 0, 0] S1x128x2048.size (k0_pay6 Q)) ![1, 0, 0] S1x128x2048.size (k0_pay7 Q)

/-- The state after the first key block's opening. -/
def openSt (Q : Vec F S1x128x2048 .bf16) (K : Vec F S1x1408x128 .bf16) (s : St F) : St F :=
  let s₀ : St F := ⟨layQ Q s.q, s.m, k0_pay8⟩
  runsSt (fun n => firstSt (k0_pay13 (keysOf K n) (s₀.qW n)) n) chains s₀

/-- The state once the opening, where there is one, is done. -/
def startSt (i : grid0.Coords) (Q : Vec F S1x128x2048 .bf16) (K : Vec F S1x1408x128 .bf16) (s : St F) : St F :=
  if isFirst i = 1#1 then openSt Q K s else s

/-- A chain's scores against the point's keys. -/
def scores (K : Vec F S1x1408x128 .bf16) (s : St F) (n : Fin 16) : FVec F S1408x256 .f32 := k0_pay264 (keysOf K n) (s.qW n)

/-- The state after the point's chains. -/
def chainSt (K : Vec F S1x1408x128 .bf16) (V : Vec F S1x1x144x1408 .bf16) (s : St F) : St F :=
  if redoBit (fun n => mxOf (scores K s n)) = 1#1 then runsSt (fun n => redoSt (k0_pay260 V) (scores K s n) n) chains s
  else runsSt (fun n => keepSt (mxOf (scores K s n)) (pvOf (k0_pay260 V) (scores K s n)) n) chains s

/-- The state after a point. -/
def stepSt (i : grid0.Coords) (Q : Vec F S1x128x2048 .bf16) (K : Vec F S1x1408x128 .bf16) (V : Vec F S1x1x144x1408 .bf16) (s : St F) : St F :=
  chainSt K V (startSt i Q K s)

theorem inbL : ∀ j : Fin 4, ∀ a, (![j.val, 0] : Fin 2 → ℕ) a + S1x64.size a ≤ S4x64.size a := by decide
theorem inbW : ∀ j : Fin 2, ∀ a, (![j.val, 0, 0] : Fin 3 → ℕ) a + S1x128x2048.size a ≤ S2x144x2048.size a := by decide
theorem inbD : ∀ j : Fin 2, ∀ a, (![j.val, 128, 0] : Fin 3 → ℕ) a + S1x1x2048.size a ≤ S2x144x2048.size a := by decide

/-- The block of the result the last key block closes with. -/
def closeVal (L : Vec F S4x64 .f32) (G : Vec F S1x128 .f32) (a : Vec F S2x144x2048 .f32) : Vec F S1x2048x128 .bf16 :=
  let l (j : Fin 4) : Vec F S1x64 .f32 := window (s := S4x64) L ![j.val, 0] S1x64.size (inbL j)
  let w (j : Fin 2) : Vec F S1x128x2048 .f32 := window (s := S2x144x2048) a ![j.val, 0, 0] S1x128x2048.size (inbW j)
  let d (j : Fin 2) : Vec F S1x1x2048 .f32 := window (s := S2x144x2048) a ![j.val, 128, 0] S1x1x2048.size (inbD j)
  k0_pay4 (k0_pay255 (l 0) (l 1) (l 2) (l 3) (w 0) (d 0) (w 1) (d 1)) (k0_pay256 (l 0) (l 1) (l 2) (l 3) (w 0) (d 0) (w 1) (d 1)) G

/-- The result's block after a point. -/
def outVal (i : grid0.Coords) (L : Vec F S4x64 .f32) (G : Vec F S1x128 .f32) (s : St F) (o : Vec F S1x2048x128 .bf16) : Vec F S1x2048x128 .bf16 :=
  if k0_cond4 i = 1#1 then closeVal L G s.a else o

end Cert.KernelIdeal.Attn
-- ==== Proof.Attn.Triple.lean ====
module

public import proofs.«01_k».proof.Proof.Attn.State
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

variable (c : Dev nD)

/-- The weakest precondition of a piece of the kernel on core `c`. -/
abbrev W {α : Type} (p : Prog (TpuEff nD τ sig (Elt F) Λ₀ .tc) α) (Q : α → sProp 𝕄) : sProp 𝕄 :=
  wp frame (wpE (defs₀ (F := F)) Variants.none (c : Thread nD τ) none) Set.univ p Q

abbrev own {sp : Space} {S : Shape} {e : EltTy} (M : Memref sig .tc sp S e) (x : S.Idx → Elt F e) : sProp 𝕄 :=
  owns (c : Thread nD τ) M fullShare x

theorem wret {α : Type} {a : α} {Q : α → sProp 𝕄} : Q a ⊢ W c (pure a) Q := by
  unfold W
  rw [wp_pure]
  iintro H
  imodintro
  iexact H

theorem wbind {α β : Type} {p : Prog (TpuEff nD τ sig (Elt F) Λ₀ .tc) α} {k : α → Prog (TpuEff nD τ sig (Elt F) Λ₀ .tc) β} {Q : β → sProp 𝕄} :
    W c p (fun x => W c (k x) Q) ⊢ W c (p >>= k) Q := by
  unfold W
  rw [wp_bind]

section Ops
variable {sp : CoreSpace} {S : Shape} {e : EltTy} {M : Memref sig .tc sp S e} {x : S.Idx → Elt F e}
variable {α : Type}

/-- A load of a window. -/
theorem ld {Q : α → sProp 𝕄} {off size : Fin S.rank → ℕ} {inb : ∀ a, off a + size a ≤ S.size a} {hl} {k : _ → Prog (TpuEff nD τ sig (Elt F) Λ₀ .tc) α} :
    own c M x ⊢ iprop((own c M x -∗ W c (k (window x off size inb)) Q)
      -∗ W c (Prog.lift (.load M (Rect.unit off size inb).toLoadRect hl) >>= k) Q) := by
  unfold own owns
  iintro ⟨%g, %hg, H⟩ Hk
  rw [Prog.bind_lift]
  have hw : (M.view.loc (c : Thread nD τ) ↦[M.view.set]{fullShare} g : sProp 𝕄) ⊢ iprop(((M.view.loc (c : Thread nD τ) ↦[M.view.set]{fullShare} g) -∗ W c (k (M.view.readAt (Elt F) (Rect.unit off size inb).toLoadRect g)) Q)
      -∗ W c (.op (.load M (Rect.unit off size inb).toLoadRect hl) k) Q) :=
    wp_load (defs := defs₀ (F := F)) Variants.none (c : Thread nD τ) none Set.univ (m := M) (r := (Rect.unit off size inb).toLoadRect) (k := k) (f := g) (Q := Q) (hl := hl) (q := fullShare) (View.setOn_subset_set M.view _)
  iapply hw $$ H
  iintro H
  rw [View.readAt_unit M.view g inb rfl inb, hg]
  iapply Hk
  iexists g
  isplitr; · ipureintro; exact hg
  iexact H

/-- A load of the whole. -/
theorem ldF {Q : α → sProp 𝕄} {off : Fin S.rank → ℕ} {inb : ∀ a, off a + S.size a ≤ S.size a} {hl} {k : _ → Prog (TpuEff nD τ sig (Elt F) Λ₀ .tc) α} :
    own c M x ⊢ iprop((own c M x -∗ W c (k x) Q)
      -∗ W c (Prog.lift (.load M (Rect.unit off S.size inb).toLoadRect hl) >>= k) Q) := by
  unfold own owns
  iintro ⟨%g, %hg, H⟩ Hk
  rw [Prog.bind_lift]
  have hw : (M.view.loc (c : Thread nD τ) ↦[M.view.set]{fullShare} g : sProp 𝕄) ⊢ iprop(((M.view.loc (c : Thread nD τ) ↦[M.view.set]{fullShare} g) -∗ W c (k (M.view.readAt (Elt F) (Rect.unit off S.size inb).toLoadRect g)) Q)
      -∗ W c (.op (.load M (Rect.unit off S.size inb).toLoadRect hl) k) Q) :=
    wp_load (defs := defs₀ (F := F)) Variants.none (c : Thread nD τ) none Set.univ (m := M) (r := (Rect.unit off S.size inb).toLoadRect) (k := k) (f := g) (Q := Q) (hl := hl) (q := fullShare) (View.setOn_subset_set M.view _)
  iapply hw $$ H
  iintro H
  rw [View.readAt_full M.view g inb, hg]
  iapply Hk
  iexists g
  isplitr; · ipureintro; exact hg
  iexact H

/-- A store at a window. -/
theorem st {Q : α → sProp 𝕄} {off size : Fin S.rank → ℕ} {inb : ∀ a, off a + size a ≤ S.size a} {w hx hm} {k : _ → Prog (TpuEff nD τ sig (Elt F) Λ₀ .tc) α} :
    own c M x ⊢ iprop((own c M (put x off size w) -∗ W c (k ⟨⟩) Q)
      -∗ W c (Prog.lift (.store M (Rect.unit off size inb) w Finset.univ hx hm) >>= k) Q) := by
  unfold own owns
  iintro ⟨%g, %hg, H⟩ Hk
  rw [Prog.bind_lift]
  have hw := wp_store_writes₀ (defs := defs₀ (F := F)) Variants.none (c : Thread nD τ) none Set.univ (m := M) (r := Rect.unit off size inb) (k := k) (f := g) (Q := Q) (w := w) (hx := hx) (hm := hm) (View.set_slice_subset M.view _)
  iapply hw $$ H
  iintro H
  iapply Hk
  iexists _
  isplitr
  · ipureintro
    rw [View.read_writes_cons_put M.view g inb w [] rfl, View.writes_nil, hg]
  iexact H

/-- A store of the whole. -/
theorem stF {Q : α → sProp 𝕄} {off : Fin S.rank → ℕ} {inb : ∀ a, off a + S.size a ≤ S.size a} {w hx hm} {k : _ → Prog (TpuEff nD τ sig (Elt F) Λ₀ .tc) α} :
    own c M x ⊢ iprop((own c M w -∗ W c (k ⟨⟩) Q)
      -∗ W c (Prog.lift (.store M (Rect.unit off S.size inb) w Finset.univ hx hm) >>= k) Q) := by
  unfold own owns
  iintro ⟨%g, %hg, H⟩ Hk
  rw [Prog.bind_lift]
  have hw := wp_store_writes₀ (defs := defs₀ (F := F)) Variants.none (c : Thread nD τ) none Set.univ (m := M) (r := Rect.unit off S.size inb) (k := k) (f := g) (Q := Q) (w := w) (hx := hx) (hm := hm) (View.set_slice_subset M.view _)
  iapply hw $$ H
  iintro H
  iapply Hk
  iexists _
  isplitr
  · ipureintro
    rw [View.read_writes_full M.view g inb w []]
  iexact H

end Ops

variable (arg10 : Memref sig .tc .vmem S2x128x2048 .f32) (arg11 : Memref sig .tc .vmem S2x1x2048 .f32) (arg12 : Memref sig .tc .vmem S2x144x2048 .f32)

/-- The state held in the three scratch buffers. -/
def held (s : St F) : sProp 𝕄 := iprop(own c arg10 s.q ∗ own c arg11 s.m ∗ own c arg12 s.a)

theorem wp_keep (mx : FVec F S1x256 .f32) (pv : FVec F S144x256 .f32) (n : Fin 16) (s : St F) (Q : PUnit → sProp 𝕄) :
    held c arg10 arg11 arg12 s ⊢ iprop((held c arg10 arg11 arg12 (keepSt mx pv n s) -∗ Q ⟨⟩) -∗ W c (keep arg10 arg11 arg12 mx pv n) Q) := by
  unfold held
  iintro ⟨H10, H11, H12⟩ Hk
  unfold keep
  iapply (ld c) $$ H11; iintro H11
  iapply (ld c) $$ H12; iintro H12
  iapply (ld c) $$ H12; iintro H12
  iapply (st c) $$ H12; iintro H12
  iapply (ld c) $$ H11; iintro H11
  iapply (st c) $$ H11; iintro H11
  iapply (ld c) $$ H10; iintro H10
  iapply (st c) $$ H10; iintro H10
  iapply (wret c)
  iapply Hk
  isplitl [H10]; · iexact H10
  isplitl [H11]; · iexact H11
  iexact H12

theorem wp_redo (vt : FVec F S144x1408 .bf16) (sc : FVec F S1408x256 .f32) (n : Fin 16) (s : St F) (Q : PUnit → sProp 𝕄) :
    held c arg10 arg11 arg12 s ⊢ iprop((held c arg10 arg11 arg12 (redoSt vt sc n s) -∗ Q ⟨⟩) -∗ W c (redo arg10 arg11 arg12 vt sc n) Q) := by
  unfold held
  iintro ⟨H10, H11, H12⟩ Hk
  unfold redo
  iapply (ld c) $$ H11; iintro H11
  iapply (ld c) $$ H12; iintro H12
  iapply (ld c) $$ H12; iintro H12
  iapply (st c) $$ H12; iintro H12
  iapply (ld c) $$ H11; iintro H11
  iapply (st c) $$ H11; iintro H11
  iapply (ld c) $$ H10; iintro H10
  iapply (st c) $$ H10; iintro H10
  iapply (wret c)
  iapply Hk
  isplitl [H10]; · iexact H10
  isplitl [H11]; · iexact H11
  iexact H12

theorem wp_first (sc : FVec F S128x256 .f32) (n : Fin 16) (s : St F) (Q : PUnit → sProp 𝕄) :
    held c arg10 arg11 arg12 s ⊢ iprop((held c arg10 arg11 arg12 (firstSt sc n s) -∗ Q ⟨⟩) -∗ W c (first arg10 arg11 sc n) Q) := by
  unfold held
  iintro ⟨H10, H11, H12⟩ Hk
  unfold first
  iapply (ld c) $$ H11; iintro H11
  iapply (st c) $$ H11; iintro H11
  iapply (ld c) $$ H10; iintro H10
  iapply (st c) $$ H10; iintro H10
  iapply (wret c)
  iapply Hk
  isplitl [H10]; · iexact H10
  isplitl [H11]; · iexact H11
  iexact H12

/-- Chains run one after another fold their steps over the state. -/
theorem wp_runs (f : Fin 16 → Prog (TpuEff nD τ sig (Elt F) Λ₀ .tc) PUnit) (g : Fin 16 → St F → St F)
    (hf : ∀ n s (Q : PUnit → sProp 𝕄), held c arg10 arg11 arg12 s ⊢ iprop((held c arg10 arg11 arg12 (g n s) -∗ Q ⟨⟩) -∗ W c (f n) Q))
    (l : List (Fin 16)) (s : St F) (Q : PUnit → sProp 𝕄) :
    held c arg10 arg11 arg12 s ⊢ iprop((held c arg10 arg11 arg12 (runsSt g l s) -∗ Q ⟨⟩) -∗ W c (runs f l) Q) := by
  induction l generalizing s with
  | nil =>
    iintro H Hk
    unfold runs
    iapply (wret c)
    iapply Hk
    iexact H
  | cons n l ih =>
    iintro H Hk
    unfold runs
    iapply (wbind c)
    iapply (hf n s _) $$ H
    iintro H
    iapply (ih (g n s)) $$ H
    iintro H
    iapply Hk
    iexact H

/-- Sixteen values listed are the function of their number. -/
theorem vec16 {β : Type} (f : Fin 16 → β) : ![f 0, f 1, f 2, f 3, f 4, f 5, f 6, f 7, f 8, f 9, f 10, f 11, f 12, f 13, f 14, f 15] = f := by
  funext n; fin_cases n <;> rfl

/-- Sixteen chains' scaled queries, read without a change. -/
theorem wp_readQ (x : Vec F S2x128x2048 .f32) (Q : (Fin 16 → Vec F S1x128x256 .f32) → sProp 𝕄) :
    own c arg10 x ⊢ iprop((own c arg10 x -∗ Q (fun n => window (s := S2x128x2048) x ![mp n, 0, col n] S1x128x256.size (inbK n))) -∗ W c (readQ arg10) Q) := by
  iintro H Hk
  unfold readQ
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (ld c) $$ H; iintro H
  iapply (wret c)
  have e := vec16 (β := Vec F S1x128x256 .f32) (fun n : Fin 16 => window (s := S2x128x2048) x ![mp n, 0, col n] S1x128x256.size (inbK n))
  rw [← e]
  iapply Hk
  iexact H

variable (arg4 : Memref sig .tc .vmem S1x128x2048 .bf16) (arg5 : Memref sig .tc .vmem S1x1408x128 .bf16) (arg6 : Memref sig .tc .vmem S1x1x144x1408 .bf16)
  (arg7 : Memref sig .tc .vmem S4x64 .f32) (arg8 : Memref sig .tc .vmem S1x128 .f32) (arg9 : Memref sig .tc .vmem S1x2048x128 .bf16)

theorem wp_opening (X : Vec F S1x128x2048 .bf16) (K : Vec F S1x1408x128 .bf16) (s : St F) (Q : PUnit → sProp 𝕄) :
    iprop(own c arg4 X ∗ held c arg10 arg11 arg12 s)
      ⊢ iprop((own c arg4 X ∗ held c arg10 arg11 arg12 (openSt X K s) -∗ Q ⟨⟩) -∗ W c (opening arg4 arg10 arg11 arg12 K) Q) := by
  unfold held
  iintro ⟨H4, H10, H11, H12⟩ Hk
  unfold opening
  iapply (ldF c) $$ H4; iintro H4
  iapply (ld c) $$ H10; iintro H10
  iapply (st c) $$ H10; iintro H10
  iapply (ld c) $$ H10; iintro H10
  iapply (st c) $$ H10; iintro H10
  iapply (ldF c) $$ H12; iintro H12
  iapply (stF c) $$ H12; iintro H12
  iapply (wbind c)
  iapply (wp_readQ c arg10 _) $$ H10; iintro H10
  ihave H : held c arg10 arg11 arg12 (⟨layQ X s.q, s.m, k0_pay8⟩ : St F) $$ [H10 H11 H12]
  · unfold held layQ
    isplitl [H10]; · iexact H10
    isplitl [H11]; · iexact H11
    iexact H12
  iapply (wp_runs c arg10 arg11 arg12 _ (fun n => firstSt (k0_pay13 (keysOf K n) ((⟨layQ X s.q, s.m, k0_pay8⟩ : St F).qW n)) n) (fun n s Q => wp_first c arg10 arg11 arg12 _ n s Q) chains _ _) $$ H
  iintro H
  iapply Hk
  isplitl [H4]; · iexact H4
  unfold held
  iexact H

theorem wp_closing (h9 : arg9.IsWhole) (L : Vec F S4x64 .f32) (G : Vec F S1x128 .f32) (o : Vec F S1x2048x128 .bf16) (a : Vec F S2x144x2048 .f32) (Q : PUnit → sProp 𝕄) :
    iprop(own c arg7 L ∗ own c arg8 G ∗ own c arg9 o ∗ own c arg12 a)
      ⊢ iprop((own c arg7 L ∗ own c arg8 G ∗ own c arg9 (closeVal L G a) ∗ own c arg12 a -∗ Q ⟨⟩) -∗ W c (closing arg7 arg8 arg9 h9 arg12) Q) := by
  iintro ⟨H7, H8, H9, H12⟩ Hk
  unfold closing
  iapply (ld c) $$ H7; iintro H7
  iapply (ld c) $$ H7; iintro H7
  iapply (ld c) $$ H7; iintro H7
  iapply (ld c) $$ H7; iintro H7
  iapply (ld c) $$ H12; iintro H12
  iapply (ld c) $$ H12; iintro H12
  iapply (ld c) $$ H12; iintro H12
  iapply (ld c) $$ H12; iintro H12
  iapply (ldF c) $$ H8; iintro H8
  iapply (ldF c) $$ H9; iintro H9
  iapply (stF c) $$ H9; iintro H9
  iapply (wret c)
  iapply Hk
  isplitl [H7]; · iexact H7
  isplitl [H8]; · iexact H8
  isplitl [H9]; · iexact H9
  iexact H12

end Cert.KernelIdeal.Attn
-- ==== Proof.Attn.BodyTriple.lean ====
module

public import proofs.«01_k».proof.Proof.Attn.Triple

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

variable (c : Dev nD)

section
variable (i : grid0.Coords) (arg4 : Memref sig .tc .vmem S1x128x2048 .bf16) (harg4 : arg4.IsWhole) (arg5 : Memref sig .tc .vmem S1x1408x128 .bf16) (harg5 : arg5.IsWhole) (arg6 : Memref sig .tc .vmem S1x1x144x1408 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1x2048x128 .bf16) (harg9 : arg9.IsWhole) (arg10 : Memref sig .tc .vmem S2x128x2048 .f32) (harg10 : arg10.IsWhole) (arg11 : Memref sig .tc .vmem S2x1x2048 .f32) (harg11 : arg11.IsWhole) (arg12 : Memref sig .tc .vmem S2x144x2048 .f32) (harg12 : arg12.IsWhole)

/-- The scores read off the state's window. -/
theorem scores_even (K : Vec F S1x1408x128 .bf16) (t : St F) (n : Fin 16) (h : n.val % 2 = 0) :
    scores K t n = k0_pay264 (k0_pay258 K) (window (s := S2x128x2048) t.q ![mp n, 0, col n] S1x128x256.size (inbK n)) := by
  unfold scores keysOf
  rw [show (⟨n.val % 2, Nat.mod_lt _ (by decide)⟩ : Fin 2) = 0 from Fin.ext h]
  rfl
theorem scores_odd (K : Vec F S1x1408x128 .bf16) (t : St F) (n : Fin 16) (h : n.val % 2 = 1) :
    scores K t n = k0_pay264 (k0_pay259 K) (window (s := S2x128x2048) t.q ![mp n, 0, col n] S1x128x256.size (inbK n)) := by
  unfold scores keysOf
  rw [show (⟨n.val % 2, Nat.mod_lt _ (by decide)⟩ : Fin 2) = 1 from Fin.ext h]
  rfl

/-- The point's start: the state after the opening, and the first three chains' scores. -/
theorem wp_start (X : Vec F S1x128x2048 .bf16) (K : Vec F S1x1408x128 .bf16) (V : Vec F S1x1x144x1408 .bf16) (s : St F) (Q : _ → sProp 𝕄) :
    iprop(own c arg4 X ∗ own c arg5 K ∗ own c arg6 V ∗ held c arg10 arg11 arg12 s)
      ⊢ iprop((own c arg4 X ∗ own c arg5 K ∗ own c arg6 V ∗ held c arg10 arg11 arg12 (startSt i X K s)
          -∗ Q ⟨BitVec.ofNat 32 (i 3).val, k0_pay258 K, k0_pay259 K, k0_pay260 V, scores K (startSt i X K s) 0, scores K (startSt i X K s) 1, scores K (startSt i X K s) 2⟩)
        -∗ W c (start i arg4 harg4 arg5 harg5 arg6 harg6 arg7 harg7 arg8 harg8 arg9 harg9 arg10 harg10 arg11 harg11 arg12 harg12) Q) := by
  iintro ⟨H4, H5, H6, H⟩ Hk
  unfold start
  iapply (ldF c) $$ H5; iintro H5
  iapply (ldF c) $$ H6; iintro H6
  by_cases h : isFirst i = 1#1
  · rw [show startSt i X K s = openSt X K s from if_pos h]
    simp only [dif_pos h, bind_assoc, pure_bind]
    iapply (wbind c)
    ihave H := (wp_opening c arg10 arg11 arg12 arg4 X K s _) $$ [H4 H]
    · isplitl [H4]; · iexact H4
      iexact H
    iapply H
    unfold held
    iintro ⟨H4, H10, H11, H12⟩
    iapply (ld c) $$ H10; iintro H10
    iapply (ld c) $$ H10; iintro H10
    iapply (ld c) $$ H10; iintro H10
    iapply (wret c)
    rw [scores_even K _ 0 rfl, scores_odd K _ 1 rfl, scores_even K _ 2 rfl]
    iapply Hk
    isplitl [H4]; · iexact H4
    isplitl [H5]; · iexact H5
    isplitl [H6]; · iexact H6
    isplitl [H10]; · iexact H10
    isplitl [H11]; · iexact H11
    iexact H12
  · rw [show startSt i X K s = s from if_neg h]
    simp only [dif_neg h, bind_assoc, pure_bind]
    unfold held
    icases H with ⟨H10, H11, H12⟩
    iapply (ld c) $$ H10; iintro H10
    iapply (ld c) $$ H10; iintro H10
    iapply (ld c) $$ H10; iintro H10
    iapply (wret c)
    rw [scores_even K _ 0 rfl, scores_odd K _ 1 rfl, scores_even K _ 2 rfl]
    iapply Hk
    isplitl [H4]; · iexact H4
    isplitl [H5]; · iexact H5
    isplitl [H6]; · iexact H6
    isplitl [H10]; · iexact H10
    isplitl [H11]; · iexact H11
    iexact H12

/-- Two guards on a bit, one on its complement: the first is its being zero, the second its being one. -/
theorem guard_zero (b : BitVec 1) : (Scalar.cmpi .ne (Scalar.extui (Scalar.xori b 1#1) : BitVec 32) 0#32 = 1#1) ↔ ¬ b = 1#1 := by
  revert b; decide
theorem guard_one (b : BitVec 1) : (Scalar.cmpi .ne (Scalar.extui b : BitVec 32) 0#32 = 1#1) ↔ b = 1#1 := by
  revert b; decide

omit harg4 harg5 harg6 harg7 harg8 harg10 harg11 harg12 in
/-- The point's end: the result's block where the key block is the last. -/
theorem wp_end (L : Vec F S4x64 .f32) (G : Vec F S1x128 .f32) (o : Vec F S1x2048x128 .bf16) (s : St F) (Q : PUnit → sProp 𝕄) :
    iprop(own c arg7 L ∗ own c arg8 G ∗ own c arg9 o ∗ held c arg10 arg11 arg12 s)
      ⊢ iprop((own c arg7 L ∗ own c arg8 G ∗ own c arg9 (outVal i L G s o) ∗ held c arg10 arg11 arg12 s -∗ Q ⟨⟩)
        -∗ W c (if k0_cond4 i = 1#1 then do
            closing arg7 arg8 arg9 harg9 arg12
            pure PUnit.unit
          else pure PUnit.unit) Q) := by
  by_cases h : k0_cond4 i = 1#1
  · rw [if_pos h, show outVal i L G s o = closeVal L G s.a from if_pos h]
    unfold held
    iintro ⟨H7, H8, H9, H10, H11, H12⟩ Hk
    iapply (wbind c)
    iapply (wp_closing c arg12 arg7 arg8 arg9 harg9 L G o s.a _) $$ [H7 H8 H9 H12]
    · isplitl [H7]; · iexact H7
      isplitl [H8]; · iexact H8
      isplitl [H9]; · iexact H9
      iexact H12
    iintro ⟨H7, H8, H9, H12⟩
    iapply (wret c)
    iapply Hk
    isplitl [H7]; · iexact H7
    isplitl [H8]; · iexact H8
    isplitl [H9]; · iexact H9
    isplitl [H10]; · iexact H10
    isplitl [H11]; · iexact H11
    iexact H12
  · rw [if_neg h, show outVal i L G s o = o from if_neg h]
    iintro H Hk
    iapply (wret c)
    iapply Hk
    iexact H

/-- The kernel at a point: the state steps, the result's block is written where the key block is the last, and the
    blocks it reads are left as they were. -/
theorem wp_body (X : Vec F S1x128x2048 .bf16) (K : Vec F S1x1408x128 .bf16) (V : Vec F S1x1x144x1408 .bf16)
    (L : Vec F S4x64 .f32) (G : Vec F S1x128 .f32) (o : Vec F S1x2048x128 .bf16) (s : St F) (Q : PUnit → sProp 𝕄) :
    iprop(own c arg4 X ∗ own c arg5 K ∗ own c arg6 V ∗ own c arg7 L ∗ own c arg8 G ∗ own c arg9 o ∗ held c arg10 arg11 arg12 s)
      ⊢ iprop((own c arg4 X ∗ own c arg5 K ∗ own c arg6 V ∗ own c arg7 L ∗ own c arg8 G
            ∗ own c arg9 (outVal i L G (stepSt i X K V s) o) ∗ held c arg10 arg11 arg12 (stepSt i X K V s) -∗ Q ⟨⟩)
        -∗ W c (body i arg4 harg4 arg5 harg5 arg6 harg6 arg7 harg7 arg8 harg8 arg9 harg9 arg10 harg10 arg11 harg11 arg12 harg12) Q) := by
  iintro ⟨H4, H5, H6, H7, H8, H9, H⟩ Hk
  unfold body
  iapply (wbind c)
  ihave H := (wp_start c i arg4 harg4 arg5 harg5 arg6 harg6 arg7 harg7 arg8 harg8 arg9 harg9 arg10 harg10 arg11 harg11 arg12 harg12 X K V s _) $$ [H4 H5 H6 H]
  · isplitl [H4]; · iexact H4
    isplitl [H5]; · iexact H5
    isplitl [H6]; · iexact H6
    iexact H
  iapply H
  unfold stepSt
  generalize startSt i X K s = t
  unfold held
  iintro ⟨H4, H5, H6, H10, H11, H12⟩
  iapply (ld c) $$ H10; iintro H10
  iapply (ld c) $$ H10; iintro H10
  iapply (ld c) $$ H10; iintro H10
  iapply (ld c) $$ H10; iintro H10
  iapply (ld c) $$ H10; iintro H10
  iapply (ld c) $$ H10; iintro H10
  iapply (ld c) $$ H10; iintro H10
  iapply (ld c) $$ H10; iintro H10
  iapply (ld c) $$ H10; iintro H10
  iapply (ld c) $$ H10; iintro H10
  iapply (ld c) $$ H10; iintro H10
  iapply (ld c) $$ H10; iintro H10
  iapply (ld c) $$ H10; iintro H10
  rw [← scores_odd K t 3 rfl, ← scores_even K t 4 rfl, ← scores_odd K t 5 rfl, ← scores_even K t 6 rfl, ← scores_odd K t 7 rfl, ← scores_even K t 8 rfl, ← scores_odd K t 9 rfl, ← scores_even K t 10 rfl, ← scores_odd K t 11 rfl, ← scores_even K t 12 rfl, ← scores_odd K t 13 rfl, ← scores_even K t 14 rfl, ← scores_odd K t 15 rfl]
  rw [vec16 (scores K t)]
  dsimp only
  ihave H : held c arg10 arg11 arg12 t $$ [H10 H11 H12]
  · unfold held
    isplitl [H10]; · iexact H10
    isplitl [H11]; · iexact H11
    iexact H12
  by_cases hb : redoBit (fun n => mxOf (scores K t n)) = 1#1
  · rw [if_neg (fun h => (guard_zero _).mp h hb), if_pos ((guard_one _).mpr hb)]
    rw [show chainSt K V t = runsSt (fun n => redoSt (k0_pay260 V) (scores K t n) n) chains t from if_pos hb]
    iapply (wbind c)
    iapply (wp_runs c arg10 arg11 arg12 _ (fun n => redoSt (k0_pay260 V) (scores K t n) n) (fun n s Q => wp_redo c arg10 arg11 arg12 _ _ n s Q) chains t _) $$ H
    generalize runsSt (fun n => redoSt (k0_pay260 V) (scores K t n) n) chains t = u
    iintro H
    iapply (wp_end c i arg7 arg8 arg9 harg9 arg10 arg11 arg12 L G o u Q) $$ [H7 H8 H9 H]
    · isplitl [H7]; · iexact H7
      isplitl [H8]; · iexact H8
      isplitl [H9]; · iexact H9
      iexact H
    unfold held
    iintro ⟨H7, H8, H9, H⟩
    iapply Hk
    isplitl [H4]; · iexact H4
    isplitl [H5]; · iexact H5
    isplitl [H6]; · iexact H6
    isplitl [H7]; · iexact H7
    isplitl [H8]; · iexact H8
    isplitl [H9]; · iexact H9
    iexact H
  · rw [if_pos ((guard_zero _).mpr hb), if_neg (fun h => hb ((guard_one _).mp h))]
    rw [show chainSt K V t = runsSt (fun n => keepSt (mxOf (scores K t n)) (pvOf (k0_pay260 V) (scores K t n)) n) chains t from if_neg hb]
    iapply (wbind c)
    iapply (wp_runs c arg10 arg11 arg12 _ (fun n => keepSt (mxOf (scores K t n)) (pvOf (k0_pay260 V) (scores K t n)) n) (fun n s Q => wp_keep c arg10 arg11 arg12 _ _ n s Q) chains t _) $$ H
    generalize runsSt (fun n => keepSt (mxOf (scores K t n)) (pvOf (k0_pay260 V) (scores K t n)) n) chains t = u
    iintro H
    iapply (wp_end c i arg7 arg8 arg9 harg9 arg10 arg11 arg12 L G o u Q) $$ [H7 H8 H9 H]
    · isplitl [H7]; · iexact H7
      isplitl [H8]; · iexact H8
      isplitl [H9]; · iexact H9
      iexact H
    unfold held
    iintro ⟨H7, H8, H9, H⟩
    iapply Hk
    isplitl [H4]; · iexact H4
    isplitl [H5]; · iexact H5
    isplitl [H6]; · iexact H6
    isplitl [H7]; · iexact H7
    isplitl [H8]; · iexact H8
    isplitl [H9]; · iexact H9
    iexact H

end
end Cert.KernelIdeal.Attn
-- ==== Proof.Attn.Local.lean ====
module

public import proofs.«01_k».proof.Proof.Attn.State
public import Idealize.ShloMosaic.Lib.ValueIdx

@[expose] public section

set_option maxRecDepth 16384

noncomputable section

namespace Cert.KernelIdeal.Attn

open Idealize.ShloMosaic Idealize.SL.Sem
open Cert.KernelIdeal Cert.KernelIdeal.Gen
open Idealize.ShloMosaic.VecWindow Idealize.ShloMosaic.ValueIdx

variable {F : FTy → Type} [FloatOps F] [Named F]

/-- A window that holds the put within it reads what was there with the payload put at the offset within the window. -/
theorem window_put_within {α : Type} {s : Shape} (x : s.Idx → α) (off size off' size' : Fin s.rank → ℕ) (inb' : ∀ a, off' a + size' a ≤ s.size a)
    (w : ((a : Fin s.rank) → Fin (size a)) → α) (h : ∀ a, off' a ≤ off a) :
    window (put x off size w) off' size' inb'
      = put (s := ⟨s.rank, size'⟩) (window x off' size' inb') (fun a => off a - off' a) size w := by
  funext y
  have e : ∀ a, ((Rect.unit off' size' inb').emb y a).val = off' a + 1 * (y a).val := fun _ => rfl
  by_cases hy : ∀ a, off a - off' a ≤ (y a).val ∧ (y a).val < off a - off' a + size a
  · have hx : ∀ a, off a ≤ ((Rect.unit off' size' inb').emb y a).val ∧ ((Rect.unit off' size' inb').emb y a).val < off a + size a :=
      fun a => by have := h a; have := hy a; have := e a; omega
    refine (dif_pos hx).trans (Eq.trans ?_ (dif_pos hy).symm)
    exact congrArg w (funext fun a => Fin.ext (by
      show ((Rect.unit off' size' inb').emb y a).val - off a = (y a).val - (off a - off' a)
      have := h a; have := hy a; have := e a; omega))
  · have hx : ¬ ∀ a, off a ≤ ((Rect.unit off' size' inb').emb y a).val ∧ ((Rect.unit off' size' inb').emb y a).val < off a + size a :=
      fun hall => hy fun a => by have := h a; have := hall a; have := e a; omega
    unfold put
    rw [dif_neg hy]
    exact dif_neg hx

/-- What a chain holds: its scaled queries with their reference, its reference, its accumulator. -/
structure Chain (F : FTy → Type) where
  q : Vec F S1x128x256 .f32
  m : Vec F S1x1x256 .f32
  a : Vec F S1x144x256 .f32

def St.loc (s : St F) (n : Fin 16) : Chain F := ⟨s.qW n, s.mW n, s.aW n⟩

/-- A chain's queries with the row of its reference replaced. -/
def setRow (n : Fin 16) (q : Vec F S1x128x256 .f32) (r : Vec F S1x1x256 .f32) : Vec F S1x128x256 .f32 :=
  put (s := S1x128x256) q ![0, rrow n, 0] S1x1x256.size r

/-- Two chains are of different maps or of different columns. -/
theorem apart : ∀ n n' : Fin 16, n ≠ n' → (mp n' + 1 ≤ mp n ∨ mp n + 1 ≤ mp n') ∨ (col n' + 256 ≤ col n ∨ col n + 256 ≤ col n') := by decide

theorem loc_putM (s : St F) (n : Fin 16) (m q : Vec F S1x1x256 .f32) :
    (s.putM n m q).loc n = ⟨setRow n (s.qW n) q, m, s.aW n⟩ := by
  have h1 : (s.putM n m q).mW n = m := window_put_same (s := S2x1x2048) s.m _ _ (inbM n) m
  have h2 : (s.putM n m q).qW n = setRow n (s.qW n) q := by
    refine (window_put_within (s := S2x128x2048) s.q ![mp n, rrow n, col n] S1x1x256.size ![mp n, 0, col n] S1x128x256.size (inbK n) q
      (fun a => by fin_cases a <;> simp)).trans ?_
    refine congrArg (fun o => put (s := S1x128x256) (s.qW n) o S1x1x256.size q) (funext fun a => by fin_cases a <;> simp)
  unfold St.loc
  rw [h1, h2]; rfl

theorem loc_putM_ne (s : St F) (n n' : Fin 16) (hn : n ≠ n') (m q : Vec F S1x1x256 .f32) : (s.putM n m q).loc n' = s.loc n' := by
  have h1 : (s.putM n m q).mW n' = s.mW n' := by
    rcases apart n n' hn with h | h
    · exact window_put_of_disjoint (s := S2x1x2048) s.m _ _ _ _ (inbM n') m 0 h
    · exact window_put_of_disjoint (s := S2x1x2048) s.m _ _ _ _ (inbM n') m 2 h
  have h2 : (s.putM n m q).qW n' = s.qW n' := by
    rcases apart n n' hn with h | h
    · exact window_put_of_disjoint (s := S2x128x2048) s.q _ _ _ _ (inbK n') q 0 h
    · exact window_put_of_disjoint (s := S2x128x2048) s.q _ _ _ _ (inbK n') q 2 h
  unfold St.loc
  rw [h1, h2]; rfl

theorem loc_putA (s : St F) (n : Fin 16) (a : Vec F S1x144x256 .f32) : (s.putA n a).loc n = ⟨s.qW n, s.mW n, a⟩ := by
  have h1 : (s.putA n a).aW n = a := window_put_same (s := S2x144x2048) s.a _ _ (inbA n) a
  unfold St.loc
  rw [h1]; rfl

theorem loc_putA_ne (s : St F) (n n' : Fin 16) (hn : n ≠ n') (a : Vec F S1x144x256 .f32) : (s.putA n a).loc n' = s.loc n' := by
  have h1 : (s.putA n a).aW n' = s.aW n' := by
    rcases apart n n' hn with h | h
    · exact window_put_of_disjoint (s := S2x144x2048) s.a _ _ _ _ (inbA n') a 0 h
    · exact window_put_of_disjoint (s := S2x144x2048) s.a _ _ _ _ (inbA n') a 2 h
  unfold St.loc
  rw [h1]; rfl

/-- What `keep`, `redo` and `first` make of their chain. -/
def keepL (mx : FVec F S1x256 .f32) (pv : FVec F S144x256 .f32) (n : Fin 16) (l : Chain F) : Chain F :=
  ⟨setRow n l.q (k0_pay81 mx l.m), k0_pay80 mx l.m, k0_pay79 mx pv l.m l.a⟩
def redoL (vt : FVec F S144x1408 .bf16) (sc : FVec F S1408x256 .f32) (n : Fin 16) (l : Chain F) : Chain F :=
  ⟨setRow n l.q (k0_pay161 sc l.m), k0_pay160 sc l.m, k0_pay159 vt sc l.m l.a⟩
def firstL (sc : FVec F S128x256 .f32) (n : Fin 16) (l : Chain F) : Chain F :=
  ⟨setRow n l.q (k0_pay30 sc), k0_pay29 sc, l.a⟩

/-- A step of the state that is a step of one chain. -/
structure Steps (f : Fin 16 → St F → St F) (g : Fin 16 → Chain F → Chain F) : Prop where
  here : ∀ n s, (f n s).loc n = g n (s.loc n)
  away : ∀ n n' s, n ≠ n' → (f n s).loc n' = s.loc n'

theorem steps_keep (mx : Fin 16 → FVec F S1x256 .f32) (pv : Fin 16 → FVec F S144x256 .f32) :
    Steps (fun n => keepSt (mx n) (pv n) n) (fun n => keepL (mx n) (pv n) n) where
  here n s := by
    have h := loc_putA s n (k0_pay79 (mx n) (pv n) (s.mW n) (s.aW n))
    unfold keepSt
    rw [loc_putM]
    have hq : (s.putA n (k0_pay79 (mx n) (pv n) (s.mW n) (s.aW n))).aW n = k0_pay79 (mx n) (pv n) (s.mW n) (s.aW n) := congrArg Chain.a h
    rw [hq]; rfl
  away n n' s hn := by
    unfold keepSt
    rw [loc_putM_ne _ _ _ hn, loc_putA_ne _ _ _ hn]

theorem steps_redo (vt : FVec F S144x1408 .bf16) (sc : Fin 16 → FVec F S1408x256 .f32) :
    Steps (fun n => redoSt vt (sc n) n) (fun n => redoL vt (sc n) n) where
  here n s := by
    have h := loc_putA s n (k0_pay159 vt (sc n) (s.mW n) (s.aW n))
    unfold redoSt
    rw [loc_putM]
    have hq : (s.putA n (k0_pay159 vt (sc n) (s.mW n) (s.aW n))).aW n = k0_pay159 vt (sc n) (s.mW n) (s.aW n) := congrArg Chain.a h
    rw [hq]; rfl
  away n n' s hn := by
    unfold redoSt
    rw [loc_putM_ne _ _ _ hn, loc_putA_ne _ _ _ hn]

theorem steps_first (sc : Fin 16 → FVec F S128x256 .f32) :
    Steps (fun n => firstSt (sc n) n) (fun n => firstL (sc n) n) where
  here n s := by unfold firstSt; rw [loc_putM]; rfl
  away n n' s hn := by unfold firstSt; rw [loc_putM_ne _ _ _ hn]

/-- Chains of a list without repeats, each stepped once: those of the list are stepped, the others left. -/
theorem loc_runs {f : Fin 16 → St F → St F} {g : Fin 16 → Chain F → Chain F} (h : Steps f g) (l : List (Fin 16)) (hl : l.Nodup) (s : St F) (n : Fin 16) :
    (runsSt f l s).loc n = if n ∈ l then g n (s.loc n) else s.loc n := by
  induction l generalizing s with
  | nil => simp [runsSt]
  | cons k l ih =>
    obtain ⟨hk, hl'⟩ := List.nodup_cons.mp hl
    have e : runsSt f (k :: l) s = runsSt f l (f k s) := rfl
    rw [e, ih hl']
    by_cases hkn : k = n
    · subst hkn
      rw [if_neg hk, if_pos (List.mem_cons_self ..), h.here]
    · rw [h.away k n s hkn]
      have : (n ∈ k :: l) ↔ n ∈ l := by simp [List.mem_cons, Ne.symm hkn]
      simp only [this]

theorem loc_chains {f : Fin 16 → St F → St F} {g : Fin 16 → Chain F → Chain F} (h : Steps f g) (s : St F) (n : Fin 16) :
    (runsSt f chains s).loc n = g n (s.loc n) := by
  rw [loc_runs h chains (by decide) s n, if_pos (by revert n; decide)]

/-- The state is its chains. -/
theorem St.ext_loc {s s' : St F} (h : ∀ n, s.loc n = s'.loc n) : s = s' := by
  have place (y0 : ℕ) (h0 : y0 < 2) (y2 : ℕ) (h2 : y2 < 2048) : ∃ n : Fin 16, mp n = y0 ∧ col n ≤ y2 ∧ y2 < col n + 256 :=
    ⟨⟨2 * (y2 / 256) + y0, by omega⟩, by show (2 * (y2 / 256) + y0) % 2 = y0; omega, by show 256 * ((2 * (y2 / 256) + y0) / 2) ≤ y2; omega,
      by show y2 < 256 * ((2 * (y2 / 256) + y0) / 2) + 256; omega⟩
  obtain ⟨q, m, a⟩ := s
  obtain ⟨q', m', a'⟩ := s'
  have hq : q = q' := funext fun y => by
    obtain ⟨n, h0, h1, h2⟩ := place (y 0).val (y 0).isLt (y 2).val (y 2).isLt
    have e := congrFun (congrArg Chain.q (h n)) (ix3 (0 : Fin 1) (y 1) (⟨(y 2).val - col n, by omega⟩ : Fin 256))
    have w : (Rect.unit (s := S2x128x2048) ![mp n, 0, col n] S1x128x256.size (inbK n)).emb (ix3 (0 : Fin 1) (y 1) (⟨(y 2).val - col n, by omega⟩ : Fin 256)) = y := by
      funext a; fin_cases a
      · exact Fin.ext (by show mp n + 1 * 0 = (y 0).val; omega)
      · exact Fin.ext (by show 0 + 1 * (y 1).val = (y 1).val; omega)
      · exact Fin.ext (by show col n + 1 * ((y 2).val - col n) = (y 2).val; omega)
    have e' : q ((Rect.unit (s := S2x128x2048) ![mp n, 0, col n] S1x128x256.size (inbK n)).emb _) = q' ((Rect.unit (s := S2x128x2048) ![mp n, 0, col n] S1x128x256.size (inbK n)).emb _) := e
    rw [w] at e'; exact e'
  have hm : m = m' := funext fun y => by
    obtain ⟨n, h0, h1, h2⟩ := place (y 0).val (y 0).isLt (y 2).val (y 2).isLt
    have e := congrFun (congrArg Chain.m (h n)) (ix3 (0 : Fin 1) (y 1) (⟨(y 2).val - col n, by omega⟩ : Fin 256))
    have w : (Rect.unit (s := S2x1x2048) ![mp n, 0, col n] S1x1x256.size (inbM n)).emb (ix3 (0 : Fin 1) (y 1) (⟨(y 2).val - col n, by omega⟩ : Fin 256)) = y := by
      funext a; fin_cases a
      · exact Fin.ext (by show mp n + 1 * 0 = (y 0).val; omega)
      · exact Fin.ext (by show 0 + 1 * (y 1).val = (y 1).val; omega)
      · exact Fin.ext (by show col n + 1 * ((y 2).val - col n) = (y 2).val; omega)
    have e' : m ((Rect.unit (s := S2x1x2048) ![mp n, 0, col n] S1x1x256.size (inbM n)).emb _) = m' ((Rect.unit (s := S2x1x2048) ![mp n, 0, col n] S1x1x256.size (inbM n)).emb _) := e
    rw [w] at e'; exact e'
  have ha : a = a' := funext fun y => by
    obtain ⟨n, h0, h1, h2⟩ := place (y 0).val (y 0).isLt (y 2).val (y 2).isLt
    have e := congrFun (congrArg Chain.a (h n)) (ix3 (0 : Fin 1) (y 1) (⟨(y 2).val - col n, by omega⟩ : Fin 256))
    have w : (Rect.unit (s := S2x144x2048) ![mp n, 0, col n] S1x144x256.size (inbA n)).emb (ix3 (0 : Fin 1) (y 1) (⟨(y 2).val - col n, by omega⟩ : Fin 256)) = y := by
      funext b; fin_cases b
      · exact Fin.ext (by show mp n + 1 * 0 = (y 0).val; omega)
      · exact Fin.ext (by show 0 + 1 * (y 1).val = (y 1).val; omega)
      · exact Fin.ext (by show col n + 1 * ((y 2).val - col n) = (y 2).val; omega)
    have e' : a ((Rect.unit (s := S2x144x2048) ![mp n, 0, col n] S1x144x256.size (inbA n)).emb _) = a' ((Rect.unit (s := S2x144x2048) ![mp n, 0, col n] S1x144x256.size (inbA n)).emb _) := e
    rw [w] at e'; exact e'
  rw [hq, hm, ha]

/-- The queries laid out over both maps leave nothing of what was there. -/
theorem layQ_any (X : Vec F S1x128x2048 .bf16) (q q' : Vec F S2x128x2048 .f32) : layQ X q = layQ X q' := by
  funext y
  unfold layQ put
  by_cases h : ∀ a, (![1, 0, 0] : Fin 3 → ℕ) a ≤ (y a).val ∧ (y a).val < (![1, 0, 0] : Fin 3 → ℕ) a + S1x128x2048.size a
  · rw [dif_pos h, dif_pos h]
  · rw [dif_neg h, dif_neg h]
    have h0 : ∀ a, (![0, 0, 0] : Fin 3 → ℕ) a ≤ (y a).val ∧ (y a).val < (![0, 0, 0] : Fin 3 → ℕ) a + S1x128x2048.size a := by
      have b0 : (y 0).val < 2 := (y 0).isLt
      have b1 : (y 1).val < 128 := (y 1).isLt
      have b2 : (y 2).val < 2048 := (y 2).isLt
      have hn : ¬ (y 0).val = 1 := fun e => h (by
        intro a; fin_cases a
        · exact ⟨by show 1 ≤ (y 0).val; omega, by show (y 0).val < 1 + 1; omega⟩
        · exact ⟨Nat.zero_le _, by show (y 1).val < 0 + 128; omega⟩
        · exact ⟨Nat.zero_le _, by show (y 2).val < 0 + 2048; omega⟩)
      intro a; fin_cases a
      · exact ⟨Nat.zero_le _, by show (y 0).val < 0 + 1; omega⟩
      · exact ⟨Nat.zero_le _, by show (y 1).val < 0 + 128; omega⟩
      · exact ⟨Nat.zero_le _, by show (y 2).val < 0 + 2048; omega⟩
    rw [dif_pos h0, dif_pos h0]

/-- A chain after the opening. -/
theorem loc_open (X : Vec F S1x128x2048 .bf16) (K : Vec F S1x1408x128 .bf16) (s : St F) (n : Fin 16) :
    (openSt X K s).loc n = firstL (k0_pay13 (keysOf K n) ((⟨layQ X s.q, s.m, k0_pay8⟩ : St F).qW n)) n ((⟨layQ X s.q, s.m, k0_pay8⟩ : St F).loc n) :=
  loc_chains (steps_first fun n => k0_pay13 (keysOf K n) ((⟨layQ X s.q, s.m, k0_pay8⟩ : St F).qW n)) _ n

/-- The opening leaves nothing of the state before it. -/
theorem open_any (X : Vec F S1x128x2048 .bf16) (K : Vec F S1x1408x128 .bf16) (s s' : St F) : openSt X K s = openSt X K s' :=
  St.ext_loc fun n => by
    rw [loc_open, loc_open]
    have e := layQ_any X s.q s'.q
    simp only [St.loc, St.qW, firstL, St.aW, e]

/-- A chain after a point's chains. -/
theorem loc_chainSt (K : Vec F S1x1408x128 .bf16) (V : Vec F S1x1x144x1408 .bf16) (s : St F) (n : Fin 16) :
    (chainSt K V s).loc n = if redoBit (fun n => mxOf (scores K s n)) = 1#1 then redoL (k0_pay260 V) (scores K s n) n (s.loc n)
      else keepL (mxOf (scores K s n)) (pvOf (k0_pay260 V) (scores K s n)) n (s.loc n) := by
  unfold chainSt
  by_cases h : redoBit (fun n => mxOf (scores K s n)) = 1#1
  · rw [if_pos h, if_pos h]; exact loc_chains (steps_redo (k0_pay260 V) fun n => scores K s n) s n
  · rw [if_neg h, if_neg h]; exact loc_chains (steps_keep (fun n => mxOf (scores K s n)) fun n => pvOf (k0_pay260 V) (scores K s n)) s n

end Cert.KernelIdeal.Attn
-- ==== Proof.Attn.Run.lean ====
module

public import proofs.«01_k».proof.Proof.Attn.BodyTriple
public import proofs.«01_k».proof.Proof.Attn.Local

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F] [Named F]
variable (m : (ℓ : Loc nD τ sig) → Buf (Elt F) ℓ) (ρ : Dev nD → PrngReg)

/-- The first key block of a tile is the point's first of six. -/
theorem first_iff : ∀ t : Fin cfg0.N, isFirst (grid0.coords t) = 1#1 ↔ t.val % 6 = 0 :=
  (by decide +kernel : ∀ t : Fin grid0.N, isFirst (grid0.coords t) = 1#1 ↔ t.val % 6 = 0)
/-- The last key block of a tile is the point's last of six. -/
theorem last_iff : ∀ t : Fin cfg0.N, k0_cond4 (grid0.coords t) = 1#1 ↔ t.val % 6 = 5 :=
  (by decide +kernel : ∀ t : Fin grid0.N, k0_cond4 (grid0.coords t) = 1#1 ↔ t.val % 6 = 5)

/-- A state to start the trace from; the first point reads none of it. -/
def st₀ : St F := ⟨fun _ => (k0_pay8 (F := F)) (ix3 0 0 0), fun _ => (k0_pay8 (F := F)) (ix3 0 0 0), k0_pay8⟩

/-- The scratch after `n` points. -/
def trace (c : Dev nD) : ℕ → St F
  | 0 => st₀
  | n + 1 => if h : n < cfg0.N then stepSt (grid0.coords ⟨n, h⟩) (iblk m c 0 ⟨n, h⟩) (iblk m c 1 ⟨n, h⟩) (iblk m c 2 ⟨n, h⟩) (trace c n) else trace c n

theorem trace_succ (c : Dev nD) (t : Fin cfg0.N) :
    trace m c (t.val + 1) = stepSt (grid0.coords t) (iblk m c 0 t) (iblk m c 1 t) (iblk m c 2 t) (trace m c t.val) := dif_pos t.isLt

/-- A point that opens a tile steps any state alike. -/
theorem step_first (t : Fin cfg0.N) (h : t.val % 6 = 0) (X : Vec F S1x128x2048 .bf16) (K : Vec F S1x1408x128 .bf16) (V : Vec F S1x1x144x1408 .bf16) (s s' : St F) :
    stepSt (grid0.coords t) X K V s = stepSt (grid0.coords t) X K V s' := by
  unfold stepSt startSt
  rw [if_pos ((first_iff t).2 h), if_pos ((first_iff t).2 h), open_any X K s s']

/-- The scratch between the points: unknown before the first, the trace's after. -/
def inv (c : Dev nD) (n : ℕ) : sProp (MT nD τ sig Unit (Elt F) ℕ (UR sig nD τ) ℕ) :=
  iprop((∃ s : St F, ⌜n ≠ 0 → s = trace m c n⌝ ∗ held c (Memref.whole cc0_scratch0) (Memref.whole cc0_scratch1) (Memref.whole cc0_scratch2) s) ∗ ∃ r, prngReg c r)

/-- The arrays, what each point's body leaves in the staging buffers, and the scratch's invariant. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => closeVal (iblk m c 3 t) (iblk m c 4 t) (trace m c (t.val + 1)).a
  Φ t := inv m c t.val
  q _ := fullShare
  owed _ := 0

theorem A_eq (c : Dev nD) (w : Fin cfg0.W) : (dats m 0 c).A w = Gen.V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = closeVal (iblk m c 3 t) (iblk m c 4 t) (trace m c (t.val + 1)).a := by
  dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body leaves in the output's buffer: a last key block's point the tile, any other what it found. -/
def leaves5 (c : Dev nD) (t : Fin cfg0.N) : sProp (MT nD τ sig Unit (Elt F) ℕ (UR sig nD τ) ℕ) :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ leaves5 m c t)

theorem leaves_of (c : Dev nD) (t : Fin cfg0.N) (s : St F) (hs : s = trace m c (t.val + 1)) (d) :
    owns (c : Thread nD τ) (st0_5 t) fullShare (outVal (grid0.coords t) (iblk m c 3 t) (iblk m c 4 t) s ((dats m 0 c).before 5 t d)) ⊢ leaves5 m c t := by
  subst hs
  have hi : cfg0.idle 5 (cfg0.grid.coords t) = !(k0_cond4 (grid0.coords t) == 1#1) := rfl
  have ha := after0_5 m c t
  unfold leaves5 outVal
  by_cases h : k0_cond4 (grid0.coords t) = 1#1
  · have h1 : cfg0.idle 5 (cfg0.grid.coords t) = false := by rw [hi, h]; rfl
    rw [if_pos h, h1, ha]
  · have h1 : cfg0.idle 5 (cfg0.grid.coords t) = true := by rw [hi]; simpa using h
    have h2 : (cfg0.win 5).flush t = false := by
      rw [Bool.eq_false_iff]; exact fun e => h ((last_iff t).2 ((flush0_5 t).1 e))
    rw [if_neg h, h1, h2]
    iintro H; iexists _; iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = inv m c (t.val + 1) from rfl, show (dats m 0 c).Φ t.castSucc = inv m c t.val from rfl,
    after0_0, after0_1, after0_2, after0_3, after0_4, cc0_diff_attention_eq_skeleton, body_eq]
  unfold inv
  iintro ⟨⟨⟨%s, %hs, Hs⟩, Hr⟩, Ho, ⟨%d0, H0⟩, ⟨%d1, H1⟩, ⟨%d2, H2⟩, ⟨%d3, H3⟩, ⟨%d4, H4⟩, ⟨%d5, H5⟩⟩
  have hn : stepSt (grid0.coords t) (iblk m c 0 t) (iblk m c 1 t) (iblk m c 2 t) s = trace m c (t.val + 1) := by
    rw [trace_succ]
    by_cases h0 : t.val = 0
    · exact step_first t (by omega) _ _ _ _ _
    · rw [hs h0]
  iapply (wp_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) ((dats m 0 c).before 5 t d5) s _) $$ [H0 H1 H2 H3 H4 H5 Hs]
  · isplitl [H0]; · iexact H0
    isplitl [H1]; · iexact H1
    isplitl [H2]; · iexact H2
    isplitl [H3]; · iexact H3
    isplitl [H4]; · iexact H4
    isplitl [H5]; · iexact H5
    iexact Hs
  iintro ⟨H0, H1, H2, H3, H4, H5, Hs⟩
  isplitl [Hs Hr]
  · isplitl [Hs]
    · iexists (stepSt (grid0.coords t) (iblk m c 0 t) (iblk m c 1 t) (iblk m c 2 t) s); isplitr [Hs]
      · ipureintro; exact fun _ => hn
      · iexact Hs
    · iexact Hr
  isplitl [Ho]; · iexact Ho
  isplitl [H0]; · iexact H0
  isplitl [H1]; · iexact H1
  isplitl [H2]; · iexact H2
  isplitl [H3]; · iexact H3
  isplitl [H4]; · iexact H4
  iapply (leaves_of m c t _ hn d5); iexact H5

/-- The body table's row at the slots of a point is the body at that point. -/
theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

theorem inv_in (c : Dev nD) : Pipeline.ΦA spec0 c ⊢ (dats m 0 c).Φ 0 := by
  rw [show (dats m 0 c).Φ 0 = inv m c 0 from rfl]
  unfold Pipeline.ΦA inv held
  rw [Gen.scopedRest0_eq]
  iintro ⟨⟨⟨%f0, H0⟩, ⟨%f1, H1⟩, ⟨%f2, H2⟩⟩, Hr⟩
  isplitr [Hr]
  · iexists (⟨f0, f1, f2⟩ : St F)
    isplitr [H0 H1 H2]
    · ipureintro; exact fun h => absurd rfl h
    · simp only [own, owns_whole]
      isplitl [H0]; · iexact H0
      isplitl [H1]; · iexact H1
      iexact H2
  · iexact Hr

theorem inv_out (c : Dev nD) : (dats m 0 c).Φ (Fin.last cfg0.N) ⊢ Pipeline.ΦA spec0 c := by
  rw [show (dats m 0 c).Φ (Fin.last cfg0.N) = inv m c cfg0.N from rfl]
  unfold Pipeline.ΦA inv held
  rw [Gen.scopedRest0_eq]
  simp only [own, owns_whole]
  iintro ⟨⟨%s, %hs, ⟨H0, H1, H2⟩⟩, Hr⟩
  isplitr [Hr]
  · isplitl [H0]; · iexists _; iexact H0
    isplitl [H1]; · iexists _; iexact H1
    iexists _; iexact H2
  · iexact Hr

/-- The run: every execution ends with the arrays at what the points wrote back, the rest as it was, and the counters at zero. -/
theorem run_main : θ_run defs (onTc (τ := τ) (main (F := F))) (s₀ m ρ)
    (fun r => Pipeline.FramePost cfgs (dats m) 0 (Gen.V m) r ∧ r.2.sem = fun _ => 0) :=
  Pipeline.θ_run_frame_track (Q' := _) cfgs (dats m) (0 : Fin 1) Gen.launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m)
    (hin := inv_in m) (hout := inv_out m) (hQ' := fun _ h => h)

end Cert.KernelIdeal.Attn
-- ==== Proof.Attn.Args.lean ====
module

public import proofs.«01_k».proof.Proof.Attn.Run

@[expose] public section

set_option maxRecDepth 16384

noncomputable section

namespace Cert.KernelIdeal.Attn

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- After the run the ten arguments are as they were. -/
theorem args_kept {r : _} (h : Pipeline.FramePost cfgs (dats m) 0 (Gen.V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  have k (b : Ref sig .tc) (h1) (h2) (h3 : Gen.V m c b = m ((c.tc : Thread nD τ).loc b)) :
      r.2.mem ((c.tc : Thread nD τ).loc b) = m ((c.tc : Thread nD τ).loc b) :=
    ((h c).2 b (Pipeline.mem_restRefs_of b h1 h2)).trans h3
  ⟨k _ (by decide) (by decide) (V_main_arg0 m c), k _ (by decide) (by decide) (V_main_arg1 m c), k _ (by decide) (by decide) (V_main_arg2 m c),
    k _ (by decide) (by decide) (V_main_arg3 m c), k _ (by decide) (by decide) (V_main_arg4 m c), k _ (by decide) (by decide) (V_main_arg5 m c),
    k _ (by decide) (by decide) (V_main_arg6 m c), k _ (by decide) (by decide) (V_main_arg7 m c), k _ (by decide) (by decide) (V_main_arg8 m c),
    k _ (by decide) (by decide) (V_main_arg9 m c)⟩

end Cert.KernelIdeal.Attn
-- ==== Proof.Frames.lean ====
module

public import proofs.«01_k».proof.Defs
public import proofs.«01_k».proof.Proof.Gen.ReferenceIdeal.Run
public import proofs.«01_k».proof.Proof.Attn.Args
public import proofs.«01_k».proof.Proof.AttnBits.Args
public import Idealize.ShloMosaic.Lib.Quiescent

@[expose] public section

noncomputable section

namespace Cert.Proof

open Idealize.ShloMosaic Idealize.ShloMosaic.TcCoe Idealize.SL.Sem

/-- The attention call runs, keeps its arguments and leaves every counter at zero: over the floats' bits, -/
theorem frame_bits : Cert.quiescent_Kernel := fun m ρ _ =>
  (θ_run Cert.Kernel.defs _ _).mono (fun _ h => ⟨Cert.Kernel.Attn.args_kept m h.1, h.2⟩) (Cert.Kernel.Attn.run_main (F := Bits) m ρ)

/-- over the extended reals, -/
theorem frame_ideal : Cert.quiescent_KernelIdeal := fun m ρ _ =>
  (θ_run Cert.KernelIdeal.defs _ _).mono (fun _ h => ⟨Cert.KernelIdeal.Attn.args_kept m h.1, h.2⟩) (Cert.KernelIdeal.Attn.run_main (F := Ideal) m ρ)

/-- and the reference likewise. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The scale of the queries is named as what its word rounds. -/
theorem preserved : Cert.preserves_Kernel_KernelIdeal :=
  IdealRules.named_const.statement Cert.KernelIdeal.κ "qscale" .f32 0x3E38AA3B#32 ((8⁻¹ * (Real.log 2)⁻¹ : ℝ) : EReal) rfl

end Cert.Proof
-- ==== Proof.Attn.Spec.lean ====
module

public import Idealize.ShloMosaic.PureOps.Ideal
public import Idealize.ShloMosaic.Lib.Pointwise

/-! The differential attention of the latent tokens, on real arguments: what both programs are shown to compute. -/

@[expose] public section

noncomputable section

namespace Cert.Attention

open Idealize.ShloMosaic

/-- The arguments: queries, latent keys and values, context keys and values, the four vectors of the mixing weight, the gain. -/
structure Data where
  q : ℕ → ℕ → ℕ → ℝ
  kl : ℕ → ℕ → ℕ → ℝ
  vl : ℕ → ℕ → ℕ → ℝ
  kc : ℕ → ℕ → ℕ → ℝ
  vc : ℕ → ℕ → ℕ → ℝ
  l : ℕ → ℕ → ℝ
  g : ℕ → EReal

namespace Data

variable (D : Data)

/-- The keys and values of latent and context tokens. -/
def k (b j e : ℕ) : ℝ := if j < 8192 then D.kl b j e else D.kc b (j - 8192) e
def v (b j e : ℕ) : ℝ := if j < 8192 then D.vl b j e else D.vc b (j - 8192) e

/-- The score of a key for a query in one of a head's two maps. -/
def score (b h mi l j : ℕ) : ℝ := (∑ d : Fin 64, D.q b l (128 * h + 64 * mi + d.val) * D.k b j (128 * h + 64 * mi + d.val)) * 8⁻¹

/-- The weight of a key for a query: the softmax of the scores. -/
def wt (b h mi l j : ℕ) : ℝ := Real.exp (D.score b h mi l j) * (1 / ∑ j' ∈ Finset.range 8448, Real.exp (D.score b h mi l j'))

/-- The mixing weight of the second map. -/
def lam : ℝ := Real.exp (∑ x : Fin 64, D.l 0 x.val * D.l 1 x.val) - Real.exp (∑ x : Fin 64, D.l 2 x.val * D.l 3 x.val) + 13421773 / 2 ^ 26

/-- The values mixed by the difference of the two maps. -/
def o (b h l r : ℕ) : ℝ := ∑ j ∈ Finset.range 8448, (D.wt b h 0 l j - D.lam * D.wt b h 1 l j) * D.v b j (128 * h + r)

/-- The sum of a head's squares. -/
def sq (b h l : ℕ) : EReal := ∑ r : Fin 128, (D.o b h l r.val : EReal) * (D.o b h l r.val : EReal)

/-- The result: each head's values normalised, times the gain and a constant. -/
def out (b h l r : ℕ) : EReal :=
  (D.o b h l r : EReal) * Ideal.rsqrt (Ideal.div (D.sq b h l) (Ideal.ofBits FTy.f32 1124073472#32) + Ideal.ofBits FTy.f32 897988541#32)
    * D.g r * Ideal.ofBits FTy.f32 1061997773#32

end Data

/-- Ten arrays that hold the arguments. -/
structure Data.Of (D : Data) (a0 a1 a2 : (⟨3, ![8, 8192, 512]⟩ : Shape).Idx → EReal) (a3 a4 : (⟨3, ![8, 256, 512]⟩ : Shape).Idx → EReal)
    (a5 a6 a7 a8 : (⟨2, ![1, 64]⟩ : Shape).Idx → EReal) (a9 : (⟨2, ![1, 128]⟩ : Shape).Idx → EReal) : Prop where
  q : ∀ (b : Fin 8) (l : Fin 8192) (e : Fin 512), a0 (ix3 b l e) = (D.q b.val l.val e.val : EReal)
  kl : ∀ (b : Fin 8) (l : Fin 8192) (e : Fin 512), a1 (ix3 b l e) = (D.kl b.val l.val e.val : EReal)
  vl : ∀ (b : Fin 8) (l : Fin 8192) (e : Fin 512), a2 (ix3 b l e) = (D.vl b.val l.val e.val : EReal)
  kc : ∀ (b : Fin 8) (l : Fin 256) (e : Fin 512), a3 (ix3 b l e) = (D.kc b.val l.val e.val : EReal)
  vc : ∀ (b : Fin 8) (l : Fin 256) (e : Fin 512), a4 (ix3 b l e) = (D.vc b.val l.val e.val : EReal)
  l0 : ∀ x : Fin 64, a5 (ix2 (0 : Fin 1) x) = (D.l 0 x.val : EReal)
  l1 : ∀ x : Fin 64, a6 (ix2 (0 : Fin 1) x) = (D.l 1 x.val : EReal)
  l2 : ∀ x : Fin 64, a7 (ix2 (0 : Fin 1) x) = (D.l 2 x.val : EReal)
  l3 : ∀ x : Fin 64, a8 (ix2 (0 : Fin 1) x) = (D.l 3 x.val : EReal)
  g : ∀ r : Fin 128, a9 (ix2 (0 : Fin 1) r) = D.g r.val

/-- The constant of the mixing weight. -/
theorem ofBits_init : Ideal.ofBits FTy.f32 1045220557#32 = ((13421773 / 2 ^ 26 : ℝ) : EReal) := by
  simp [Ideal.ofBits, Ideal.ieee, -EReal.coe_mul]
  norm_num

end Cert.Attention
-- ==== Proof.Finite.lean ====
module

public import proofs.«01_k».proof.Defs
public import proofs.«01_k».proof.Proof.Attn.Spec

/-! Finite arguments are reals, held by one record of data. -/

@[expose] public section

noncomputable section

namespace Cert.Proof

open Idealize.ShloMosaic Idealize.ShloMosaic.TcCoe Idealize.SL.Sem
open Cert.Attention

/-- The side conditions of the precondition. -/
theorem pre_facts : Cert.Pre_finite.Facts := ⟨by decide, by decide, by decide⟩

theorem ofBits_top : Ideal.ofBits FTy.f32 2139095040#32 = ⊤ := by
  simp [Ideal.ofBits, Ideal.ieee]

/-- An array every element of which compares below infinity in absolute value holds reals. -/
theorem reals_of {s : Shape} (h : (⟨0, ![]⟩ : Shape).BroadcastsInDim s (![] : Fin 0 → Fin s.rank)) (a : FVec Ideal s .f32)
    (ha : cmpf .olt (Host.absf a) (broadcastInDim s ![] h (constant (⟨0, ![]⟩ : Shape) .f32 0x7F800000#32)) = fun _ => 1#1) (i : s.Idx) :
    a i = ((a i).toReal : EReal) := by
  have h1 : Ideal.cmp .olt (max (a i) (-(a i))) (Ideal.ofBits FTy.f32 2139095040#32) = 1#1 := congrFun ha i
  rw [ofBits_top] at h1
  have h2 : max (a i) (-(a i)) < ⊤ := by
    by_contra h
    simp [Ideal.cmp, h] at h1
  refine (EReal.coe_toReal (fun e => ?_) (fun e => ?_)).symm
  · rw [e] at h2; simp at h2
  · rw [e] at h2; simp at h2

/-- An array's reals under natural coordinates. -/
def nat3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

theorem nat3_eq {a b c : ℕ} (x : (⟨3, ![a, b, c]⟩ : Shape).Idx → EReal) (hx : ∀ i, x i = ((x i).toReal : EReal)) (i : Fin a) (j : Fin b) (k : Fin c) :
    x (ix3 i j k) = (nat3 x i.val j.val k.val : EReal) := by
  unfold nat3
  rw [dif_pos ⟨i.isLt, j.isLt, k.isLt⟩]
  exact hx _

/-- A row's elements under natural coordinates. -/
def nat1 {b : ℕ} (x : (⟨2, ![1, b]⟩ : Shape).Idx → EReal) (j : ℕ) : EReal := if h : j < b then x (ix2 (0 : Fin 1) ⟨j, h⟩) else 0

theorem nat1_eq {b : ℕ} (x : (⟨2, ![1, b]⟩ : Shape).Idx → EReal) (j : Fin b) : x (ix2 (0 : Fin 1) j) = nat1 x j.val := by
  unfold nat1
  rw [dif_pos j.isLt]

/-- The data of ten arrays. -/
def dataOf (a0 a1 a2 : (⟨3, ![8, 8192, 512]⟩ : Shape).Idx → EReal) (a3 a4 : (⟨3, ![8, 256, 512]⟩ : Shape).Idx → EReal)
    (a5 a6 a7 a8 : (⟨2, ![1, 64]⟩ : Shape).Idx → EReal) (a9 : (⟨2, ![1, 128]⟩ : Shape).Idx → EReal) : Data :=
  ⟨nat3 a0, nat3 a1, nat3 a2, nat3 a3, nat3 a4, fun j x => (nat1 (![a5, a6, a7, a8] (Fin.ofNat 4 j)) x).toReal, nat1 a9⟩

theorem dataOf_of {a0 a1 a2 : (⟨3, ![8, 8192, 512]⟩ : Shape).Idx → EReal} {a3 a4 : (⟨3, ![8, 256, 512]⟩ : Shape).Idx → EReal}
    {a5 a6 a7 a8 : (⟨2, ![1, 64]⟩ : Shape).Idx → EReal} (a9 : (⟨2, ![1, 128]⟩ : Shape).Idx → EReal)
    (h0 : ∀ i, a0 i = ((a0 i).toReal : EReal)) (h1 : ∀ i, a1 i = ((a1 i).toReal : EReal)) (h2 : ∀ i, a2 i = ((a2 i).toReal : EReal))
    (h3 : ∀ i, a3 i = ((a3 i).toReal : EReal)) (h4 : ∀ i, a4 i = ((a4 i).toReal : EReal)) (h5 : ∀ i, a5 i = ((a5 i).toReal : EReal))
    (h6 : ∀ i, a6 i = ((a6 i).toReal : EReal)) (h7 : ∀ i, a7 i = ((a7 i).toReal : EReal)) (h8 : ∀ i, a8 i = ((a8 i).toReal : EReal)) :
    (dataOf a0 a1 a2 a3 a4 a5 a6 a7 a8 a9).Of a0 a1 a2 a3 a4 a5 a6 a7 a8 a9 where
  q := nat3_eq _ h0
  kl := nat3_eq _ h1
  vl := nat3_eq _ h2
  kc := nat3_eq _ h3
  vc := nat3_eq _ h4
  l0 x := (h5 _).trans (congrArg (fun y : EReal => (y.toReal : EReal)) (nat1_eq _ x))
  l1 x := (h6 _).trans (congrArg (fun y : EReal => (y.toReal : EReal)) (nat1_eq _ x))
  l2 x := (h7 _).trans (congrArg (fun y : EReal => (y.toReal : EReal)) (nat1_eq _ x))
  l3 x := (h8 _).trans (congrArg (fun y : EReal => (y.toReal : EReal)) (nat1_eq _ x))
  g := nat1_eq _

variable (m : (ℓ : Loc Cert.KernelIdeal.nD Cert.KernelIdeal.τ Cert.KernelIdeal.sig) → Buf (Elt Ideal) ℓ) (c : Dev Cert.KernelIdeal.nD)

/-- The data of the arguments. -/
theorem data_of [Cert.Pre_finite.Facts] (h : Cert.Pre_KernelIdeal_finite m) :
    ∃ D : Data, D.Of (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) := by
  obtain ⟨h0, h1, h2, h3, h4, h5, h6, h7, h8⟩ := h c
  exact ⟨_, dataOf_of _ (reals_of Cert.Pre_finite.Facts.bcast_S_S8x8192x512 _ h0) (reals_of Cert.Pre_finite.Facts.bcast_S_S8x8192x512 _ h1)
    (reals_of Cert.Pre_finite.Facts.bcast_S_S8x8192x512 _ h2) (reals_of Cert.Pre_finite.Facts.bcast_S_S8x256x512 _ h3)
    (reals_of Cert.Pre_finite.Facts.bcast_S_S8x256x512 _ h4) (reals_of Cert.Pre_finite.Facts.bcast_S_S1x64 _ h5) (reals_of Cert.Pre_finite.Facts.bcast_S_S1x64 _ h6)
    (reals_of Cert.Pre_finite.Facts.bcast_S_S1x64 _ h7) (reals_of Cert.Pre_finite.Facts.bcast_S_S1x64 _ h8)⟩

end Cert.Proof
-- ==== Proof.Attn.Blocks.lean ====
module

public import proofs.«01_k».proof.Proof.Attn.Run
public import proofs.«01_k».proof.Proof.Attn.Spec
public import Idealize.ShloMosaic.Lib.Pointwise
public import Idealize.ShloMosaic.Lib.Pipeline.ValueKit

/-! The call's input blocks, read entry by entry from the arguments. -/

@[expose] public section

set_option maxRecDepth 16384

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

theorem V24 (b : Fin 8) (e : Fin 512) (l : Fin 8192) : Gen.V m c main_v24 (ix3 b e l) = m ((c : Thread nD τ).loc main_arg0) (ix3 b l e) := by
  entry_read
  pointwise

theorem V14 (b : Fin 8) (k : Fin 8448) (e : Fin 512) : Gen.V m c main_v14 (ix3 b k e)
    = if h : k.val < 8192 then m ((c : Thread nD τ).loc main_arg1) (ix3 b ⟨k.val, h⟩ e) else m ((c : Thread nD τ).loc main_arg3) (ix3 b ⟨k.val - 8192, by omega⟩ e) := by
  entry_read
  pointwise

set_option maxHeartbeats 4000000 in
theorem V23 (b : Fin 8) (h : Fin 4) (r : Fin 144) (k : Fin 8448) : Gen.V m c main_v23 (ix4 b h r k)
    = if hk : k.val < 8192 then
        (if hr : r.val < 128 then m ((c : Thread nD τ).loc main_arg2) (ix3 b ⟨k.val, hk⟩ ⟨h.val * 128 + r.val, by omega⟩) else (1 : EReal))
      else if hr : r.val < 128 then m ((c : Thread nD τ).loc main_arg4) (ix3 b ⟨k.val - 8192, by omega⟩ ⟨h.val * 128 + r.val, by omega⟩) else (1 : EReal) := by
  entry_read
  pointwise
  after_results_simp
  pointwise

set_option maxHeartbeats 4000000 in
theorem V13 (j : Fin 4) (x : Fin 64) : Gen.V m c main_v13 (ix2 j x)
    = (![m ((c : Thread nD τ).loc main_arg5), m ((c : Thread nD τ).loc main_arg6), m ((c : Thread nD τ).loc main_arg7), m ((c : Thread nD τ).loc main_arg8)] : Fin 4 → S1x64.Idx → EReal) j (ix2 (0 : Fin 1) x) := by
  unfold Gen.V Gen.hostOps0
  simp only [StableHlo.after_cons, StableHlo.after_nil]
  after_results_simp
  fin_cases j <;> (pointwise; after_results_simp; pointwise)

theorem V26 (r : Fin 128) : Gen.V m c main_v26 (ix2 (0 : Fin 1) r)
    = m ((c : Thread nD τ).loc main_arg9) (ix2 (0 : Fin 1) r) := by
  entry_read
  pointwise

theorem idx0 : ∀ t : Fin cfg0.N, win0_0.index t = ![t.val / 96, t.val / 24 % 4, t.val / 6 % 4] :=
  (by decide +kernel : ∀ t : Fin grid0.N, win0_0.index t = ![t.val / 96, t.val / 24 % 4, t.val / 6 % 4])
theorem idx1 : ∀ t : Fin cfg0.N, win0_1.index t = ![t.val / 96, t.val % 6, t.val / 24 % 4] :=
  (by decide +kernel : ∀ t : Fin grid0.N, win0_1.index t = ![t.val / 96, t.val % 6, t.val / 24 % 4])
theorem idx2 : ∀ t : Fin cfg0.N, win0_2.index t = ![t.val / 96, t.val / 24 % 4, 0, t.val % 6] :=
  (by decide +kernel : ∀ t : Fin grid0.N, win0_2.index t = ![t.val / 96, t.val / 24 % 4, 0, t.val % 6])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])

theorem pts (t : Fin cfg0.N) : t.val < 768 := t.isLt

theorem iblk0 (t : Fin cfg0.N) (d : Fin 128) (l : Fin 2048) : iblk m c 0 t (ix3 (0 : Fin 1) d l)
    = Gen.V m c main_v24 (ix3 (⟨t.val / 96, by have := pts t; omega⟩ : Fin 8) (⟨128 * (t.val / 24 % 4) + d.val, by omega⟩ : Fin 512)
        (⟨2048 * (t.val / 6 % 4) + l.val, by omega⟩ : Fin 8192)) := by
  blk_ext [iblk, idx0 t]

theorem iblk1 (t : Fin cfg0.N) (k : Fin 1408) (d : Fin 128) : iblk m c 1 t (ix3 (0 : Fin 1) k d)
    = Gen.V m c main_v14 (ix3 (⟨t.val / 96, by have := pts t; omega⟩ : Fin 8) (⟨1408 * (t.val % 6) + k.val, by omega⟩ : Fin 8448)
        (⟨128 * (t.val / 24 % 4) + d.val, by omega⟩ : Fin 512)) := by
  blk_ext [iblk, idx1 t]

theorem iblk2 (t : Fin cfg0.N) (r : Fin 144) (k : Fin 1408) : iblk m c 2 t (ix4 (0 : Fin 1) (0 : Fin 1) r k)
    = Gen.V m c main_v23 (ix4 (⟨t.val / 96, by have := pts t; omega⟩ : Fin 8) (⟨t.val / 24 % 4, by omega⟩ : Fin 4) r
        (⟨1408 * (t.val % 6) + k.val, by omega⟩ : Fin 8448)) := by
  blk_ext [iblk, idx2 t]

theorem iblk3 (t : Fin cfg0.N) (j : Fin 4) (x : Fin 64) : iblk m c 3 t (ix2 j x) = Gen.V m c main_v13 (ix2 j x) := by
  blk_ext [iblk, idx3 t]

theorem iblk4 (t : Fin cfg0.N) (r : Fin 128) : iblk m c 4 t (ix2 (0 : Fin 1) r) = Gen.V m c main_v26 (ix2 (0 : Fin 1) r) := by
  blk_ext [iblk, idx4 t]

/-! The blocks of real arguments. -/

variable {D : Attention.Data}
  (hD : D.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)))

include hD

theorem blk_q (t : Fin cfg0.N) (d : Fin 128) (l : Fin 2048) : iblk m c 0 t (ix3 (0 : Fin 1) d l)
    = (D.q (t.val / 96) (2048 * (t.val / 6 % 4) + l.val) (128 * (t.val / 24 % 4) + d.val) : EReal) :=
  (iblk0 m c t d l).trans ((V24 m c _ _ _).trans (hD.q _ _ _))

theorem blk_k (t : Fin cfg0.N) (k : Fin 1408) (d : Fin 128) : iblk m c 1 t (ix3 (0 : Fin 1) k d)
    = (D.k (t.val / 96) (1408 * (t.val % 6) + k.val) (128 * (t.val / 24 % 4) + d.val) : EReal) := by
  refine (iblk1 m c t k d).trans ((V14 m c _ _ _).trans ?_)
  unfold Attention.Data.k
  by_cases h : 1408 * (t.val % 6) + k.val < 8192
  · rw [if_pos h]
    exact (dif_pos h).trans (hD.kl _ _ _)
  · rw [if_neg h]
    exact (dif_neg h).trans (hD.kc _ _ _)

theorem blk_v (t : Fin cfg0.N) (r : Fin 144) (k : Fin 1408) : iblk m c 2 t (ix4 (0 : Fin 1) (0 : Fin 1) r k)
    = ((if r.val < 128 then D.v (t.val / 96) (1408 * (t.val % 6) + k.val) (128 * (t.val / 24 % 4) + r.val) else 1 : ℝ) : EReal) := by
  refine (iblk2 m c t r k).trans ((V23 m c _ _ _ _).trans ?_)
  have hc := mul_comm (t.val / 24 % 4) 128
  unfold Attention.Data.v
  by_cases hr : r.val < 128
  · by_cases h : 1408 * (t.val % 6) + k.val < 8192
    · rw [if_pos hr, if_pos h, ← hc]
      exact (dif_pos h).trans ((dif_pos hr).trans (hD.vl _ _ _))
    · rw [if_pos hr, if_neg h, ← hc]
      exact (dif_neg h).trans ((dif_pos hr).trans (hD.vc _ _ _))
  · rw [if_neg hr]
    by_cases h : 1408 * (t.val % 6) + k.val < 8192
    · exact (dif_pos h).trans (dif_neg hr)
    · exact (dif_neg h).trans (dif_neg hr)

theorem blk_l (t : Fin cfg0.N) (j : Fin 4) (x : Fin 64) : iblk m c 3 t (ix2 j x) = (D.l j.val x.val : EReal) := by
  refine (iblk3 m c t j x).trans ((V13 m c j x).trans ?_)
  fin_cases j
  exacts [hD.l0 x, hD.l1 x, hD.l2 x, hD.l3 x]

theorem blk_g (t : Fin cfg0.N) (r : Fin 128) : iblk m c 4 t (ix2 (0 : Fin 1) r) = D.g r.val :=
  (iblk4 m c t r).trans ((V26 m c r).trans (hD.g r))

end Cert.KernelIdeal.Attn
-- ==== Proof.Attn.Reads.lean ====
module

public import proofs.«01_k».proof.Proof.Attn.State
public import Idealize.ShloMosaic.Lib.Pointwise

/-! The body's computations read entry by entry on extended reals. -/

@[expose] public section

set_option maxRecDepth 16384

noncomputable section

namespace Cert.KernelIdeal.Attn

open Cert.KernelIdeal Cert.KernelIdeal.Gen
open Idealize.ShloMosaic Idealize.SL.Sem

/-- The largest finite-or-not start of a maximum. -/
theorem ofBits_bot : Ideal.ofBits FTy.f32 4286578688#32 = (⊥ : EReal) := by simp [Ideal.ofBits, Ideal.ieee, -EReal.coe_mul]

/-- The named scale. -/
theorem named_scale (b : BitVec 32) : Named.named (F := Ideal) κ "qscale" b (φ := .f32) = ((8⁻¹ * (Real.log 2)⁻¹ : ℝ) : EReal) :=
  IdealRules.named_const.ideal_named_scalar _ _ _ _ rfl

theorem lane_eq_mid : ∀ d : Fin 128, IntOp.cmpi .eq (BitVec.ofNat 32 d.val) 64#32 = if d.val = 64 then 1#1 else 0#1 := by decide
theorem lane_eq_zero : ∀ d : Fin 128, IntOp.cmpi .eq (BitVec.ofNat 32 d.val) 0#32 = if d.val = 0 then 1#1 else 0#1 := by decide
theorem lane_lt_mid : ∀ d : Fin 128, IntOp.cmpi .slt (BitVec.ofNat 32 d.val) 64#32 = if d.val < 64 then 1#1 else 0#1 := by decide

theorem dite_eq_of {p : Prop} [Decidable p] {α : Type} {a : p → α} {b : ¬p → α} {c : α} (h : ∀ h, a h = c) (h' : ∀ h, b h = c) :
    dite p a b = c := by
  by_cases hp : p
  · rw [dif_pos hp, h]
  · rw [dif_neg hp, h']

theorem pay13_apply (x : FVec Ideal S1408x128 .bf16) (y : Vec Ideal S1x128x256 .f32) (k : Fin 128) (c : Fin 256) :
    k0_pay13 (F := Ideal) x y (ix2 k c) = ∑ d : Fin 128, x (ix2 (⟨k.val, by omega⟩ : Fin 1408) d) * y (ix3 0 d c) := by
  pointwise [k0_pay13]

theorem pay264_apply (x : FVec Ideal S1408x128 .bf16) (y : Vec Ideal S1x128x256 .f32) (k : Fin 1408) (c : Fin 256) :
    k0_pay264 (F := Ideal) x y (ix2 k c) = ∑ d : Fin 128, x (ix2 k d) * y (ix3 0 d c) := by
  pointwise [k0_pay264]

theorem pay258_apply (x : Vec Ideal S1x1408x128 .bf16) (k : Fin 1408) (d : Fin 128) :
    k0_pay258 (F := Ideal) x (ix2 k d) = if d.val = 64 then 1 else x (ix3 0 k d) := by
  pointwise [k0_pay258, k0_pay257]
  rw [lane_eq_mid]
  split_ifs <;> rfl

theorem pay259_apply (x : Vec Ideal S1x1408x128 .bf16) (k : Fin 1408) (d : Fin 128) :
    k0_pay259 (F := Ideal) x (ix2 k d) = if d.val = 0 then 1 else x (ix3 0 k d) := by
  pointwise [k0_pay259, k0_pay257]
  rw [lane_eq_zero]
  split_ifs <;> rfl

theorem pay260_apply (x : Vec Ideal S1x1x144x1408 .bf16) (r : Fin 144) (k : Fin 1408) :
    k0_pay260 (F := Ideal) x (ix2 r k) = x (ix4 0 0 r k) := by
  pointwise [k0_pay260]

theorem pay79_apply (mx : FVec Ideal S1x256 .f32) (pv : FVec Ideal S144x256 .f32) (m : Vec Ideal S1x1x256 .f32) (a : Vec Ideal S1x144x256 .f32) (r : Fin 144) (c : Fin 256) :
    k0_pay79 (F := Ideal) mx pv m a (ix3 0 r c) = (a (ix3 0 r c) + pv (ix2 r c)) * Ideal.exp2 (m (ix3 0 0 c) - (m (ix3 0 0 c) + max (mx (ix2 0 c)) 0)) := by
  pointwise [k0_pay79, k0_pay78, k0_pay77]
  rfl

theorem pay80_apply (mx : FVec Ideal S1x256 .f32) (m : Vec Ideal S1x1x256 .f32) (c : Fin 256) :
    k0_pay80 (F := Ideal) mx m (ix3 0 0 c) = m (ix3 0 0 c) + max (mx (ix2 0 c)) 0 := by
  pointwise [k0_pay80, k0_pay78, k0_pay77]

theorem pay81_apply (mx : FVec Ideal S1x256 .f32) (m : Vec Ideal S1x1x256 .f32) (c : Fin 256) :
    k0_pay81 (F := Ideal) mx m (ix3 0 0 c) = 0 - (m (ix3 0 0 c) + max (mx (ix2 0 c)) 0) := by
  pointwise [k0_pay81, k0_pay78, k0_pay77]

theorem pay158_apply (s : FVec Ideal S1408x256 .f32) (m : Vec Ideal S1x1x256 .f32) (c : Fin 256) :
    k0_pay158 (F := Ideal) s m (ix2 0 c) = m (ix3 0 0 c) + max (Finset.fold max ⊥ (fun x => s (ix2 x c)) Finset.univ) 0 := by
  rw [← ofBits_bot]
  pointwise [k0_pay158, k0_pay157]

theorem pay160_apply (s : FVec Ideal S1408x256 .f32) (m : Vec Ideal S1x1x256 .f32) (c : Fin 256) :
    k0_pay160 (F := Ideal) s m (ix3 0 0 c) = k0_pay158 (F := Ideal) s m (ix2 0 c) := by
  pointwise [k0_pay160]

theorem pay161_apply (s : FVec Ideal S1408x256 .f32) (m : Vec Ideal S1x1x256 .f32) (c : Fin 256) :
    k0_pay161 (F := Ideal) s m (ix3 0 0 c) = 0 - k0_pay158 (F := Ideal) s m (ix2 0 c) := by
  pointwise [k0_pay161]

theorem pay159_apply (vt : FVec Ideal S144x1408 .bf16) (s : FVec Ideal S1408x256 .f32) (m : Vec Ideal S1x1x256 .f32) (a : Vec Ideal S1x144x256 .f32) (r : Fin 144) (c : Fin 256) :
    k0_pay159 (F := Ideal) vt s m a (ix3 0 r c) = Ideal.exp2 (0 - (k0_pay158 (F := Ideal) s m (ix2 0 c) - m (ix3 0 0 c))) * a (ix3 0 r c)
      + ∑ x : Fin 1408, vt (ix2 r x) * Ideal.exp2 (s (ix2 x c) - (k0_pay158 (F := Ideal) s m (ix2 0 c) - m (ix3 0 0 c))) := by
  pointwise [k0_pay159, k0_pay157]
  rfl

theorem pay6_apply (x : Vec Ideal S1x128x2048 .bf16) (d : Fin 128) (c : Fin 2048) :
    k0_pay6 (F := Ideal) x (ix3 0 d c) = if d.val < 64 then x (ix3 0 d c) * ((8⁻¹ * (Real.log 2)⁻¹ : ℝ) : EReal) else 0 := by
  pointwise [k0_pay6, k0_pay5]
  rw [lane_lt_mid, named_scale]
  split_ifs <;> rfl

theorem pay7_apply (x : Vec Ideal S1x128x2048 .bf16) (d : Fin 128) (c : Fin 2048) :
    k0_pay7 (F := Ideal) x (ix3 0 d c) = if d.val < 64 then 0 else x (ix3 0 d c) * ((8⁻¹ * (Real.log 2)⁻¹ : ℝ) : EReal) := by
  pointwise [k0_pay7, k0_pay5]
  rw [lane_lt_mid, named_scale]
  split_ifs <;> rfl

theorem pay8_apply (mi : Fin 2) (r : Fin 144) (c : Fin 2048) : k0_pay8 (F := Ideal) (ix3 mi r c) = 0 := by
  pointwise [k0_pay8]

theorem pay29_apply (s : FVec Ideal S128x256 .f32) (c : Fin 256) :
    k0_pay29 (F := Ideal) s (ix3 0 0 c) = Finset.fold max ⊥ (fun x => s (ix2 x c)) Finset.univ := by
  rw [← ofBits_bot]
  pointwise [k0_pay29, k0_pay28]

theorem pay30_apply (s : FVec Ideal S128x256 .f32) (c : Fin 256) :
    k0_pay30 (F := Ideal) s (ix3 0 0 c) = 0 - Finset.fold max ⊥ (fun x => s (ix2 x c)) Finset.univ := by
  rw [← ofBits_bot]
  pointwise [k0_pay30, k0_pay28]

theorem top_apply (s : FVec Ideal S1408x256 .f32) (g : Fin 11) (c : Fin 256) :
    top (F := Ideal) s g (ix2 0 c) = Finset.fold max ⊥ (fun x : Fin 128 => s (ix2 (⟨128 * g.val + x.val, by omega⟩ : Fin 1408) c)) Finset.univ := by
  rw [← ofBits_bot]
  pointwise [top, grp]

set_option maxHeartbeats 2000000 in
theorem pv_apply (vt : FVec Ideal S144x1408 .bf16) (s : FVec Ideal S1408x256 .f32) (r : Fin 144) (c : Fin 256) :
    pvOf (F := Ideal) vt s (ix2 r c) = ∑ k : Fin 1408, vt (ix2 r k) * Ideal.exp2 (s (ix2 k c)) := by
  pointwise [pvOf, egrp, grp]
  refine Finset.sum_congr rfl fun x _ => congrArg _ ?_
  refine dite_eq_of (fun _ => rfl) fun h => ?_
  iterate 9 refine dite_eq_of (fun h => congrArg (fun k => Ideal.exp2 (s (ix2 k c))) (Fin.ext (by simp only []; omega))) fun h => ?_
  exact congrArg (fun k => Ideal.exp2 (s (ix2 k c))) (Fin.ext (by simp only []; omega))

theorem pay4_apply (s : FVec Ideal S128x2048 .f32) (t : FVec Ideal S2048 .f32) (g : Vec Ideal S1x128 .f32) (r : Fin 2048) (c : Fin 128) :
    k0_pay4 (F := Ideal) s t g (ix3 0 r c) = s (ix2 c r) * Ideal.rsqrt (Ideal.div (t (ix1 r)) (Ideal.ofBits FTy.f32 1124073472#32) + Ideal.ofBits FTy.f32 897988541#32)
      * g (ix2 0 c) * Ideal.ofBits FTy.f32 1061997773#32 := by
  pointwise [k0_pay4]

theorem pay255_apply (l0 l1 l2 l3 : Vec Ideal S1x64 .f32) (a0 : Vec Ideal S1x128x2048 .f32) (d0 : Vec Ideal S1x1x2048 .f32) (a1 : Vec Ideal S1x128x2048 .f32) (d1 : Vec Ideal S1x1x2048 .f32) (r : Fin 128) (c : Fin 2048) :
    k0_pay255 (F := Ideal) l0 l1 l2 l3 a0 d0 a1 d1 (ix2 r c) = Ideal.div (a0 (ix3 0 r c)) (d0 (ix3 0 0 c))
      - (Ideal.exp (∑ x : Fin 64, l0 (ix2 0 x) * l1 (ix2 0 x)) - Ideal.exp (∑ x : Fin 64, l2 (ix2 0 x) * l3 (ix2 0 x)) + Ideal.ofBits FTy.f32 1045220557#32)
        * Ideal.div (a1 (ix3 0 r c)) (d1 (ix3 0 0 c)) := by
  pointwise [k0_pay255]

theorem pay256_apply (l0 l1 l2 l3 : Vec Ideal S1x64 .f32) (a0 : Vec Ideal S1x128x2048 .f32) (d0 : Vec Ideal S1x1x2048 .f32) (a1 : Vec Ideal S1x128x2048 .f32) (d1 : Vec Ideal S1x1x2048 .f32) (c : Fin 2048) :
    k0_pay256 (F := Ideal) l0 l1 l2 l3 a0 d0 a1 d1 (ix1 c) = ∑ x : Fin 128, k0_pay255 (F := Ideal) l0 l1 l2 l3 a0 d0 a1 d1 (ix2 x c) * k0_pay255 (F := Ideal) l0 l1 l2 l3 a0 d0 a1 d1 (ix2 x c) := by
  pointwise [k0_pay256]

end Cert.KernelIdeal.Attn
-- ==== Proof.Attn.ChainMath.lean ====
module

public import proofs.«01_k».proof.Proof.Attn.Reads
public import proofs.«01_k».proof.Proof.Attn.Local

/-! One chain on real numbers: its accumulator holds the values summed with the exponentials of the scores over the key
    blocks seen so far, less its reference. -/

@[expose] public section

set_option maxRecDepth 16384

noncomputable section

namespace Cert.KernelIdeal.Attn

open Cert.KernelIdeal Cert.KernelIdeal.Gen
open Idealize.ShloMosaic Idealize.SL.Sem
open Idealize.ShloMosaic.VecWindow

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of reals is not the top. -/
theorem fold_ne_top {ι : Type} (s : Finset ι) (f : ι → EReal) (h : ∀ i, f i ≠ ⊤) : Finset.fold max ⊥ f s ≠ ⊤ := by
  classical
  induction s using Finset.induction_on with
  | empty => simp
  | insert a s ha ih => rw [Finset.fold_insert ha]; rcases max_choice (f a) (Finset.fold max ⊥ f s) with e | e <;> rw [e]; exacts [h a, ih]

theorem max_ne_top {a b : EReal} (ha : a ≠ ⊤) (hb : b ≠ ⊤) : max a b ≠ ⊤ := by
  rcases max_choice a b with e | e <;> rw [e] <;> assumption

/-- The largest of at least one real is a real. -/
theorem fold_real {k : ℕ} (f : Fin (k + 1) → ℝ) : ∃ M : ℝ, Finset.fold max ⊥ (fun i => (f i : EReal)) Finset.univ = (M : EReal) := by
  have ht := fold_ne_top Finset.univ (fun i => (f i : EReal)) fun i => EReal.coe_ne_top _
  have hb : Finset.fold max ⊥ (fun i => (f i : EReal)) Finset.univ ≠ ⊥ := by
    have h0 : (f 0 : EReal) ≤ Finset.fold max ⊥ (fun i => (f i : EReal)) Finset.univ :=
      (Finset.le_fold_max _).2 (.inr ⟨0, Finset.mem_univ _, le_rfl⟩)
    exact fun e => EReal.coe_ne_bot (f 0) (le_bot_iff.1 (e ▸ h0))
  exact ⟨_, (EReal.coe_toReal ht hb).symm⟩

/-- What is not the top, raised to zero at least, is a real. -/
theorem max_zero_real {a : EReal} (ha : a ≠ ⊤) : ∃ D : ℝ, max a 0 = (D : EReal) :=
  ⟨_, (EReal.coe_toReal (max_ne_top ha EReal.zero_ne_top) (fun e => by
    have : (0 : EReal) ≤ ⊥ := e ▸ le_max_right a 0
    exact absurd this (by simp))).symm⟩

theorem setRow_apply (n : Fin 16) (q : Vec Ideal S1x128x256 .f32) (r : Vec Ideal S1x1x256 .f32) (d : Fin 128) (c : Fin 256) :
    setRow n q r (ix3 0 d c) = if d.val = rrow n then r (ix3 0 0 c) else q (ix3 0 d c) := by
  unfold setRow put
  by_cases h : d.val = rrow n
  · rw [if_pos h]
    have hx : ∀ a : Fin 3, (![0, rrow n, 0] : Fin 3 → ℕ) a ≤ ((ix3 (0 : Fin 1) d c : S1x128x256.Idx) a).val
        ∧ ((ix3 (0 : Fin 1) d c : S1x128x256.Idx) a).val < (![0, rrow n, 0] : Fin 3 → ℕ) a + S1x1x256.size a := fun a => by
      fin_cases a
      · exact ⟨le_rfl, Nat.one_pos⟩
      · exact ⟨h.ge, by show d.val < rrow n + 1; omega⟩
      · exact ⟨Nat.zero_le _, by show c.val < 0 + 256; omega⟩
    refine (dif_pos hx).trans (congrArg r (funext fun a => Fin.ext ?_))
    fin_cases a
    · rfl
    · show d.val - rrow n = 0
      omega
    · show c.val - 0 = c.val
      omega
  · rw [if_neg h]
    exact dif_neg fun hx => h (by have h1 := hx 1; have a1 : rrow n ≤ d.val := h1.1; have a2 : d.val < rrow n + 1 := h1.2; omega)

theorem keysOf_apply (K : Vec Ideal S1x1408x128 .bf16) (n : Fin 16) (k : Fin 1408) (d : Fin 128) :
    keysOf (F := Ideal) K n (ix2 k d) = if d.val = rrow n then 1 else K (ix3 0 k d) := by
  unfold keysOf
  rcases Nat.mod_two_eq_zero_or_one n.val with h | h
  · have e : (⟨n.val % 2, Nat.mod_lt _ (by decide)⟩ : Fin 2) = 0 := Fin.ext h
    rw [e]
    refine (pay258_apply K k d).trans ?_
    rw [show rrow n = 64 by unfold rrow; omega]
  · have e : (⟨n.val % 2, Nat.mod_lt _ (by decide)⟩ : Fin 2) = 1 := Fin.ext h
    rw [e]
    refine (pay259_apply K k d).trans ?_
    rw [show rrow n = 0 by unfold rrow; omega]

theorem mxOf_ne_top (s : FVec Ideal S1408x256 .f32) (c : Fin 256) (h : ∀ k, s (ix2 k c) ≠ ⊤) : mxOf (F := Ideal) s (ix2 0 c) ≠ ⊤ := by
  have ht : ∀ g, top (F := Ideal) s g (ix2 0 c) ≠ ⊤ := fun g => by
    rw [top_apply]
    exact fold_ne_top _ _ fun _ => h _
  unfold mxOf
  iterate 10 refine max_ne_top ?_ (ht _)
  exact ht 0

/-- The score of a key, in powers of two. -/
def sc (X : ℕ → Fin 128 → ℝ) (Q : Fin 128 → ℝ) (k : ℕ) : ℝ := ∑ d, X k d * Q d

/-- What a chain holds after `N` keys: its reference, its queries with the reference in their unused half, and the values
    summed with the exponentials. -/
structure Holds (n : Fin 16) (X : ℕ → Fin 128 → ℝ) (V : Fin 144 → ℕ → ℝ) (Q : Fin 256 → Fin 128 → ℝ) (N : ℕ) (l : Chain Ideal)
    (M : Fin 256 → ℝ) : Prop where
  m : ∀ c, l.m (ix3 0 0 c) = (M c : EReal)
  q : ∀ d c, l.q (ix3 0 d c) = if d.val = rrow n then ((-M c : ℝ) : EReal) else (Q c d : EReal)
  a : ∀ r c, l.a (ix3 0 r c) = ((∑ k ∈ Finset.range N, V r k * (2 : ℝ) ^ (sc X (Q c) k - M c) : ℝ) : EReal)

variable {n : Fin 16} {X : ℕ → Fin 128 → ℝ} {V : Fin 144 → ℕ → ℝ} {Q : Fin 256 → Fin 128 → ℝ} {N : ℕ} {l : Chain Ideal} {M : Fin 256 → ℝ}

/-- The scores against a block of keys, less the reference. -/
theorem dot_row (hQ : ∀ c d, d.val = rrow n → Q c d = 0) (hq : ∀ d c, l.q (ix3 0 d c) = if d.val = rrow n then ((-M c : ℝ) : EReal) else (Q c d : EReal))
    (K : Vec Ideal S1x1408x128 .bf16) (hK : ∀ k d, K (ix3 0 k d) = (X (N + k.val) d : EReal)) (k : Fin 1408) (c : Fin 256) :
    ∑ d : Fin 128, keysOf (F := Ideal) K n (ix2 k d) * l.q (ix3 0 d c) = ((sc X (Q c) (N + k.val) - M c : ℝ) : EReal) := by
  have hr : rrow n < 128 := by unfold rrow; omega
  have ht : ∀ d : Fin 128, keysOf (F := Ideal) K n (ix2 k d) * l.q (ix3 0 d c)
      = ((X (N + k.val) d * Q c d + if d = ⟨rrow n, hr⟩ then -M c else 0 : ℝ) : EReal) := fun d => by
    rw [keysOf_apply, hq, hK]
    by_cases h : d.val = rrow n
    · rw [if_pos h, if_pos h, if_pos (Fin.ext h), hQ c d h, mul_zero, zero_add]
      exact one_mul _
    · rw [if_neg h, if_neg h, if_neg (fun e => h (congrArg Fin.val e)), add_zero]
      exact (EReal.coe_mul _ _).symm
  rw [Finset.sum_congr rfl fun d _ => ht d]
  refine (coe_sum _ _).symm.trans (congrArg _ ?_)
  rw [Finset.sum_add_distrib, Finset.sum_ite_eq' Finset.univ, if_pos (Finset.mem_univ _)]
  rfl

/-- A block of keys more in the sum. -/
theorem sum_more (f : ℕ → ℝ) : ∑ k ∈ Finset.range (N + 1408), f k = (∑ k ∈ Finset.range N, f k) + ∑ k : Fin 1408, f (N + k.val) := by
  rw [Finset.sum_range_add, Fin.sum_univ_eq_sum_range (fun k => f (N + k))]

theorem exp2_real (x : ℝ) : Ideal.exp2 (x : EReal) = ((2 : ℝ) ^ x : ℝ) := Ideal.exp2_coe x

theorem two_shift (x a b : ℝ) : (2 : ℝ) ^ (x - a) * 2 ^ (a - b) = 2 ^ (x - b) := by
  rw [← Real.rpow_add (by norm_num)]
  congr 1
  ring

variable (hQ : ∀ c d, d.val = rrow n → Q c d = 0) (K : Vec Ideal S1x1408x128 .bf16) (hK : ∀ k d, K (ix3 0 k d) = (X (N + k.val) d : EReal))
  (W : Vec Ideal S1x1x144x1408 .bf16) (hW : ∀ r k, W (ix4 0 0 r k) = (V r (N + k.val) : EReal))

include hQ hK in
theorem score_row (h : Holds n X V Q N l M) (k : Fin 1408) (c : Fin 256) :
    k0_pay264 (F := Ideal) (keysOf K n) l.q (ix2 k c) = ((sc X (Q c) (N + k.val) - M c : ℝ) : EReal) := by
  rw [pay264_apply]
  exact dot_row hQ h.q K hK k c

include hQ hK hW in
theorem keep_holds (h : Holds n X V Q N l M) :
    ∃ M', Holds n X V Q (N + 1408) (keepL (mxOf (k0_pay264 (F := Ideal) (keysOf K n) l.q)) (pvOf (k0_pay260 W) (k0_pay264 (F := Ideal) (keysOf K n) l.q)) n l) M' := by
  have hs := score_row hQ K hK h
  generalize k0_pay264 (F := Ideal) (keysOf K n) l.q = s at hs
  choose D hD using fun c => max_zero_real (mxOf_ne_top s c fun k => by rw [hs]; exact EReal.coe_ne_top _)
  have hm : ∀ c, l.m (ix3 0 0 c) + max (mxOf (F := Ideal) s (ix2 0 c)) 0 = ((M c + D c : ℝ) : EReal) := fun c => by
    rw [h.m, hD]; exact (EReal.coe_add _ _).symm
  refine ⟨fun c => M c + D c, ?_, ?_, ?_⟩
  · exact fun c => (pay80_apply _ _ c).trans (hm c)
  · intro d c
    refine (setRow_apply n _ _ d c).trans ?_
    by_cases hd : d.val = rrow n
    · rw [if_pos hd, if_pos hd, pay81_apply, hm, zero_sub]; exact (EReal.coe_neg _).symm
    · rw [if_neg hd, if_neg hd, h.q, if_neg hd]
  · intro r c
    refine (pay79_apply _ _ _ _ r c).trans ?_
    have hp : pvOf (F := Ideal) (k0_pay260 W) s (ix2 r c) = ((∑ k : Fin 1408, V r (N + k.val) * (2 : ℝ) ^ (sc X (Q c) (N + k.val) - M c) : ℝ) : EReal) := by
      rw [pv_apply, coe_sum]
      exact Finset.sum_congr rfl fun k _ => by rw [pay260_apply, hW, hs, exp2_real]; exact (EReal.coe_mul _ _).symm
    rw [hm, h.m, hp, h.a]
    refine (congrArg₂ (· * ·) (EReal.coe_add _ _).symm ((congrArg Ideal.exp2 (EReal.coe_sub _ _).symm).trans (exp2_real _))).trans
      ((EReal.coe_mul _ _).symm.trans (congrArg _ ?_))
    rw [← sum_more (fun k => V r k * (2 : ℝ) ^ (sc X (Q c) k - M c)), Finset.sum_mul]
    exact Finset.sum_congr rfl fun k _ => by rw [mul_assoc, two_shift]

include hQ hK hW in
theorem redo_holds (h : Holds n X V Q N l M) :
    ∃ M', Holds n X V Q (N + 1408) (redoL (k0_pay260 W) (k0_pay264 (F := Ideal) (keysOf K n) l.q) n l) M' := by
  have hs := score_row hQ K hK h
  generalize k0_pay264 (F := Ideal) (keysOf K n) l.q = s at hs
  choose D hD using fun c => max_zero_real (fold_ne_top Finset.univ (fun x : Fin 1408 => s (ix2 x c)) fun k => by rw [hs]; exact EReal.coe_ne_top _)
  have hm : ∀ c, k0_pay158 (F := Ideal) s l.m (ix2 0 c) = ((M c + D c : ℝ) : EReal) := fun c => by
    rw [pay158_apply, h.m]
    exact (congrArg _ (hD c)).trans (EReal.coe_add _ _).symm
  have hd' : ∀ c, k0_pay158 (F := Ideal) s l.m (ix2 0 c) - l.m (ix3 0 0 c) = ((D c : ℝ) : EReal) := fun c => by
    rw [hm, h.m]
    exact (EReal.coe_sub _ _).symm.trans (congrArg _ (by ring))
  refine ⟨fun c => M c + D c, ?_, ?_, ?_⟩
  · exact fun c => (pay160_apply _ _ c).trans (hm c)
  · intro d c
    refine (setRow_apply n _ _ d c).trans ?_
    by_cases hd : d.val = rrow n
    · rw [if_pos hd, if_pos hd, pay161_apply, hm, zero_sub]; exact (EReal.coe_neg _).symm
    · rw [if_neg hd, if_neg hd, h.q, if_neg hd]
  · intro r c
    refine (pay159_apply _ _ _ _ r c).trans ?_
    have hp : ∑ x : Fin 1408, k0_pay260 (F := Ideal) W (ix2 r x) * Ideal.exp2 (s (ix2 x c) - (D c : EReal))
        = ((∑ k : Fin 1408, V r (N + k.val) * (2 : ℝ) ^ (sc X (Q c) (N + k.val) - (M c + D c)) : ℝ) : EReal) := by
      rw [coe_sum]
      refine Finset.sum_congr rfl fun k _ => ?_
      rw [pay260_apply, hW, hs]
      refine (congrArg _ ((congrArg Ideal.exp2 (EReal.coe_sub _ _).symm).trans (exp2_real _))).trans ((EReal.coe_mul _ _).symm.trans (congrArg _ ?_))
      rw [sub_sub]
    rw [hd', hp, h.a, zero_sub]
    refine (congrArg₂ (· + ·) (congrArg₂ (· * ·) ((congrArg Ideal.exp2 (EReal.coe_neg _).symm).trans (exp2_real _)) rfl) rfl).trans
      ((congrArg₂ (· + ·) (EReal.coe_mul _ _).symm rfl).trans ((EReal.coe_add _ _).symm.trans (congrArg _ ?_)))
    rw [sum_more (fun k => V r k * (2 : ℝ) ^ (sc X (Q c) k - (M c + D c))), Finset.mul_sum]
    refine congrArg₂ _ (Finset.sum_congr rfl fun k _ => ?_) rfl
    rw [mul_left_comm, ← two_shift _ (M c) (M c + D c), mul_comm ((2 : ℝ) ^ (-D c))]
    congr 3
    ring

/-- The opening: the reference from the first keys, nothing summed yet. -/
theorem first_holds (hQ : ∀ c d, d.val = rrow n → Q c d = 0) (K : Vec Ideal S1x1408x128 .bf16) (hK : ∀ k d, K (ix3 0 k d) = (X (0 + k.val) d : EReal))
    (hq : ∀ d c, l.q (ix3 0 d c) = (Q c d : EReal)) (ha : ∀ r c, l.a (ix3 0 r c) = 0) :
    ∃ M, Holds n X V Q 0 (firstL (k0_pay13 (F := Ideal) (keysOf K n) l.q) n l) M := by
  have hs : ∀ k c, k0_pay13 (F := Ideal) (keysOf K n) l.q (ix2 k c) = ((sc X (Q c) (0 + k.val) - 0 : ℝ) : EReal) := fun k c => by
    rw [pay13_apply]
    refine dot_row (l := l) (M := fun _ => 0) hQ (fun d c => ?_) K hK ⟨k.val, by omega⟩ c
    rw [hq]
    by_cases hd : d.val = rrow n
    · rw [if_pos hd, hQ c d hd, neg_zero]
    · rw [if_neg hd]
  generalize k0_pay13 (F := Ideal) (keysOf K n) l.q = s at hs
  choose M hM using fun c => fold_real (k := 127) fun k => sc X (Q c) (0 + k.val) - 0
  have hm : ∀ c, Finset.fold max ⊥ (fun x : Fin 128 => s (ix2 x c)) Finset.univ = (M c : EReal) := fun c => by
    rw [← hM c]
    exact congrArg (fun f => Finset.fold max ⊥ f Finset.univ) (funext fun k => hs k c)
  refine ⟨M, fun c => (pay29_apply _ c).trans (hm c), ?_, ?_⟩
  · intro d c
    refine (setRow_apply n _ _ d c).trans ?_
    by_cases hd : d.val = rrow n
    · rw [if_pos hd, if_pos hd, pay30_apply, hm, zero_sub]; exact (EReal.coe_neg _).symm
    · rw [if_neg hd, if_neg hd, hq]
  · intro r c
    refine (ha r c).trans ?_
    rw [Finset.range_zero, Finset.sum_empty]
    rfl

end Cert.KernelIdeal.Attn
-- ==== Proof.Attn.Tile.lean ====
module

public import proofs.«01_k».proof.Proof.Attn.Blocks
public import proofs.«01_k».proof.Proof.Attn.ChainMath

/-! A tile of queries over its six key blocks: what the accumulators hold at the last, and the result's block. -/

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.VecWindow
open Cert.Attention

/-! Scores in powers of two against scores. -/

/-- A map's half of a scaled query, zero in the other half. -/
def half (D : Data) (b h mi l d : ℕ) : ℝ := if d < 64 ↔ mi = 0 then D.q b l (128 * h + d) * (8⁻¹ * (Real.log 2)⁻¹) else 0

/-- The values of a head, and a row of ones below. -/
def vals (D : Data) (b h : ℕ) (r : Fin 144) (k : ℕ) : ℝ := if r.val < 128 then D.v b k (128 * h + r.val) else 1

theorem sc_half (D : Data) (b h mi l : ℕ) (hmi : mi < 2) (k : ℕ) :
    sc (fun k d => D.k b k (128 * h + d.val)) (fun d => half D b h mi l d.val) k = D.score b h mi l k * (Real.log 2)⁻¹ := by
  unfold sc Data.score
  have hs : ∀ f : ℕ → ℝ, ∑ d : Fin 128, f d.val = (∑ d : Fin 64, f d.val) + ∑ d : Fin 64, f (64 + d.val) := fun f => by
    rw [Fin.sum_univ_eq_sum_range f 128, Fin.sum_univ_eq_sum_range f 64, Fin.sum_univ_eq_sum_range (fun d => f (64 + d)) 64]
    exact Finset.sum_range_add f 64 64
  refine (hs fun d => D.k b k (128 * h + d) * half D b h mi l d).trans ?_
  rw [Finset.sum_mul, Finset.sum_mul]
  obtain rfl | rfl : mi = 0 ∨ mi = 1 := by omega
  · rw [Finset.sum_eq_zero (s := Finset.univ) (f := fun d : Fin 64 => D.k b k (128 * h + (64 + d.val)) * half D b h 0 l (64 + d.val)) fun d _ => by
      unfold half; rw [if_neg (by omega), mul_zero], add_zero]
    exact Finset.sum_congr rfl fun d _ => by
      unfold half
      rw [if_pos (by omega)]
      simp only [Nat.mul_zero, Nat.add_zero]
      ring
  · rw [Finset.sum_eq_zero (s := Finset.univ) (f := fun d : Fin 64 => D.k b k (128 * h + d.val) * half D b h 1 l d.val) fun d _ => by
      unfold half; rw [if_neg (by omega), mul_zero], zero_add]
    exact Finset.sum_congr rfl fun d _ => by
      unfold half
      rw [if_pos (by omega)]
      simp only [Nat.mul_one, Nat.add_assoc]
      ring

theorem two_log (x : ℝ) : (2 : ℝ) ^ (x * (Real.log 2)⁻¹) = Real.exp x := by
  have h : Real.log 2 ≠ 0 := (Real.log_pos (by norm_num)).ne'
  rw [Real.rpow_def_of_pos (by norm_num), mul_left_comm, mul_inv_cancel₀ h, mul_one]

/-- The quotient of the two sums is the mean of the values under the softmax weights. -/
theorem mean_eq (s v : ℕ → ℝ) (M : ℝ) :
    (∑ k ∈ Finset.range 8448, v k * (2 : ℝ) ^ (s k * (Real.log 2)⁻¹ - M)) * (1 / ∑ k ∈ Finset.range 8448, 1 * (2 : ℝ) ^ (s k * (Real.log 2)⁻¹ - M))
      = ∑ k ∈ Finset.range 8448, (Real.exp (s k) * (1 / ∑ k' ∈ Finset.range 8448, Real.exp (s k'))) * v k := by
  have hp : (0 : ℝ) < 2 ^ (-M) := Real.rpow_pos_of_pos (by norm_num) _
  have e : ∀ k, (2 : ℝ) ^ (s k * (Real.log 2)⁻¹ - M) = Real.exp (s k) * 2 ^ (-M) := fun k => by
    rw [sub_eq_add_neg, Real.rpow_add (by norm_num), two_log]
  have hZ : (0 : ℝ) < ∑ k' ∈ Finset.range 8448, Real.exp (s k') :=
    Finset.sum_pos (fun k _ => Real.exp_pos _) ⟨0, Finset.mem_range.2 (by norm_num)⟩
  simp only [e, one_mul, ← Finset.sum_mul, ← mul_assoc]
  rw [Finset.sum_congr rfl fun k _ => (by ring : (Real.exp (s k) * (1 / ∑ k' ∈ Finset.range 8448, Real.exp (s k'))) * v k = v k * Real.exp (s k) * (1 / ∑ k' ∈ Finset.range 8448, Real.exp (s k'))),
    ← Finset.sum_mul]
  field_simp

theorem ones_pos (s : ℕ → ℝ) (M : ℝ) : (∑ k ∈ Finset.range 8448, 1 * (2 : ℝ) ^ (s k * (Real.log 2)⁻¹ - M)) ≠ 0 :=
  (Finset.sum_pos (fun k _ => by rw [one_mul]; exact Real.rpow_pos_of_pos (by norm_num) _) ⟨0, Finset.mem_range.2 (by norm_num)⟩).ne'

/-! The steps of a chain. -/

theorem layQ_apply (X : Vec Ideal S1x128x2048 .bf16) (q : Vec Ideal S2x128x2048 .f32) (mi : Fin 2) (d : Fin 128) (c : Fin 2048) :
    layQ X q (ix3 mi d c) = if (d.val < 64 ↔ mi.val = 0) then X (ix3 0 d c) * ((8⁻¹ * (Real.log 2)⁻¹ : ℝ) : EReal) else 0 := by
  unfold layQ
  fin_cases mi
  · refine (dif_neg fun hx => absurd (hx 0).1 (by show ¬ (1 : ℕ) ≤ 0; omega)).trans ?_
    have hx : ∀ a : Fin 3, (![0, 0, 0] : Fin 3 → ℕ) a ≤ ((ix3 (0 : Fin 2) d c : S2x128x2048.Idx) a).val
        ∧ ((ix3 (0 : Fin 2) d c : S2x128x2048.Idx) a).val < (![0, 0, 0] : Fin 3 → ℕ) a + S1x128x2048.size a := fun a => by
      fin_cases a
      · exact ⟨le_rfl, Nat.one_pos⟩
      · exact ⟨Nat.zero_le _, by show d.val < 0 + 128; omega⟩
      · exact ⟨Nat.zero_le _, by show c.val < 0 + 2048; omega⟩
    refine (dif_pos hx).trans ((congrArg (k0_pay6 (F := Ideal) X) (funext fun a => Fin.ext ?_)).trans ((pay6_apply X d c).trans (if_congr (by simp) rfl rfl)))
    fin_cases a <;> rfl
  · have hx : ∀ a : Fin 3, (![1, 0, 0] : Fin 3 → ℕ) a ≤ ((ix3 (1 : Fin 2) d c : S2x128x2048.Idx) a).val
        ∧ ((ix3 (1 : Fin 2) d c : S2x128x2048.Idx) a).val < (![1, 0, 0] : Fin 3 → ℕ) a + S1x128x2048.size a := fun a => by
      fin_cases a
      · exact ⟨le_rfl, by show (1 : ℕ) < 1 + 1; omega⟩
      · exact ⟨Nat.zero_le _, by show d.val < 0 + 128; omega⟩
      · exact ⟨Nat.zero_le _, by show c.val < 0 + 2048; omega⟩
    refine (dif_pos hx).trans ((congrArg (k0_pay7 (F := Ideal) X) (funext fun a => Fin.ext ?_)).trans ((pay7_apply X d c).trans ?_))
    · fin_cases a <;> rfl
    · by_cases hd : d.val < 64 <;> simp [hd]

theorem mp_lt (n : Fin 16) : mp n < 2 := Nat.mod_lt _ (by decide)
theorem col_lt (n : Fin 16) (c : Fin 256) : col n + c.val < 2048 := by have := n.isLt; have := c.isLt; unfold col; omega

theorem qW_apply (s : St Ideal) (n : Fin 16) (d : Fin 128) (c : Fin 256) :
    s.qW n (ix3 (0 : Fin 1) d c) = s.q (ix3 (⟨mp n, mp_lt n⟩ : Fin 2) d (⟨col n + c.val, col_lt n c⟩ : Fin 2048)) :=
  congrArg s.q (funext fun a => Fin.ext (by
    fin_cases a
    · rfl
    · show 0 + 1 * d.val = d.val
      omega
    · show col n + 1 * c.val = col n + c.val
      omega))

theorem aW_apply (s : St Ideal) (n : Fin 16) (r : Fin 144) (c : Fin 256) :
    s.aW n (ix3 (0 : Fin 1) r c) = s.a (ix3 (⟨mp n, mp_lt n⟩ : Fin 2) r (⟨col n + c.val, col_lt n c⟩ : Fin 2048)) :=
  congrArg s.a (funext fun a => Fin.ext (by
    fin_cases a
    · rfl
    · show 0 + 1 * r.val = r.val
      omega
    · show col n + 1 * c.val = col n + c.val
      omega))

/-- A chain's step over a block of keys. -/
theorem chain_holds {n : Fin 16} {X : ℕ → Fin 128 → ℝ} {V : Fin 144 → ℕ → ℝ} {Q : Fin 256 → Fin 128 → ℝ} {N : ℕ} {M : Fin 256 → ℝ}
    (hQ : ∀ c d, d.val = rrow n → Q c d = 0) (K : Vec Ideal S1x1408x128 .bf16) (hK : ∀ k d, K (ix3 0 k d) = (X (N + k.val) d : EReal))
    (W : Vec Ideal S1x1x144x1408 .bf16) (hW : ∀ r k, W (ix4 0 0 r k) = (V r (N + k.val) : EReal)) (s : St Ideal) (h : Holds n X V Q N (s.loc n) M) :
    ∃ M', Holds n X V Q (N + 1408) ((chainSt K W s).loc n) M' := by
  rw [loc_chainSt]
  by_cases hb : redoBit (fun n => mxOf (scores K s n)) = 1#1
  · rw [if_pos hb]
    exact redo_holds (l := s.loc n) hQ K hK W hW h
  · rw [if_neg hb]
    exact keep_holds (l := s.loc n) hQ K hK W hW h

/-- A chain's opening and first step. -/
theorem opens_holds {n : Fin 16} {X : ℕ → Fin 128 → ℝ} {V : Fin 144 → ℕ → ℝ} {Q : Fin 256 → Fin 128 → ℝ}
    (hQ : ∀ c d, d.val = rrow n → Q c d = 0) (K : Vec Ideal S1x1408x128 .bf16) (hK : ∀ k d, K (ix3 0 k d) = (X (0 + k.val) d : EReal))
    (L : Vec Ideal S1x128x2048 .bf16) (s : St Ideal) (hq : ∀ d c, layQ L s.q (ix3 (⟨mp n, mp_lt n⟩ : Fin 2) d (⟨col n + c.val, col_lt n c⟩ : Fin 2048)) = (Q c d : EReal)) :
    ∃ M, Holds n X V Q 0 ((openSt L K s).loc n) M := by
  rw [loc_open]
  refine first_holds (l := (⟨layQ L s.q, s.m, k0_pay8 (F := Ideal)⟩ : St Ideal).loc n) hQ K hK (fun d c => (qW_apply (⟨layQ L s.q, s.m, k0_pay8 (F := Ideal)⟩ : St Ideal) n d c).trans (hq d c)) fun r c => ?_
  exact (aW_apply (⟨layQ L s.q, s.m, k0_pay8 (F := Ideal)⟩ : St Ideal) n r c).trans (pay8_apply (⟨mp n, mp_lt n⟩ : Fin 2) r (⟨col n + c.val, col_lt n c⟩ : Fin 2048))

/-! The tile. -/

variable (m : (ℓ : Loc nD τ sig) → Buf (Elt Ideal) ℓ) (c : Dev nD) {D : Attention.Data}
  (hD : D.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)))

/-- A chain's contents at a point after `N` keys. -/
def At (D : Data) (t N : ℕ) (n : Fin 16) (l : Chain Ideal) : Prop :=
  ∃ M, Holds n (fun k d => D.k (t / 96) k (128 * (t / 24 % 4) + d.val)) (vals D (t / 96) (t / 24 % 4))
    (fun c d => half D (t / 96) (t / 24 % 4) (mp n) (2048 * (t / 6 % 4) + (col n + c.val)) d.val) N l M

theorem half_row (D : Data) (b h l : ℕ) (n : Fin 16) (d : Fin 128) (hd : d.val = rrow n) : half D b h (mp n) l d.val = 0 := by
  unfold half
  refine if_neg ?_
  have := mp_lt n
  have e : rrow n = 64 * (1 - mp n) := rfl
  omega

include hD

theorem at_step (t : Fin cfg0.N) (n : Fin 16) (h : t.val % 6 = 0 ∨ At D t.val (1408 * (t.val % 6)) n ((trace m c t.val).loc n)) :
    At D t.val (1408 * (t.val % 6) + 1408) n ((trace m c (t.val + 1)).loc n) := by
  rw [trace_succ]
  have hs : At D t.val (1408 * (t.val % 6)) n ((startSt (grid0.coords t) (iblk m c 0 t) (iblk m c 1 t) (trace m c t.val)).loc n) := by
    unfold startSt
    by_cases h0 : t.val % 6 = 0
    · rw [if_pos ((first_iff t).2 h0), h0]
      refine opens_holds (fun c d hd => half_row D _ _ _ n d hd) _ (fun k d => ?_) _ _ fun d c' => ?_
      · have := blk_k m c hD t k d
        rw [h0] at this
        exact this
      · refine (layQ_apply _ _ _ d _).trans ?_
        rw [blk_q m c hD]
        unfold half
        by_cases hh : (d.val < 64 ↔ mp n = 0)
        · rw [if_pos hh, if_pos hh]; exact (EReal.coe_mul _ _).symm
        · rw [if_neg hh, if_neg hh]; rfl
    · rw [if_neg (fun e => h0 ((first_iff t).1 e))]
      exact h.resolve_left h0
  obtain ⟨M, hM⟩ := hs
  exact chain_holds (fun c d hd => half_row D _ _ _ n d hd) _ (fun k d => blk_k m c hD t k d) _ (fun r k => blk_v m c hD t r k) _ hM

/-- After a point its tile's keys so far are in. -/
theorem at_all (n : Fin 16) (u : ℕ) : ∀ j, j < 6 → ∀ h : 6 * u + j < cfg0.N, At D (6 * u + j) (1408 * j + 1408) n ((trace m c (6 * u + j + 1)).loc n) := by
  intro j
  induction j with
  | zero =>
    intro _ h
    have := at_step m c hD ⟨6 * u + 0, h⟩ n (.inl (by show (6 * u + 0) % 6 = 0; omega))
    rwa [show (⟨6 * u + 0, h⟩ : Fin cfg0.N).val % 6 = 0 by show (6 * u + 0) % 6 = 0; omega] at this
  | succ j ih =>
    intro hj h
    have hp := ih (by omega) (by omega)
    have e6 : (6 * u + (j + 1)) % 6 = j + 1 := by omega
    have := at_step m c hD ⟨6 * u + (j + 1), h⟩ n (.inr (by
      show At D (6 * u + (j + 1)) (1408 * ((6 * u + (j + 1)) % 6)) n _
      rw [e6]
      unfold At at hp ⊢
      rw [show (6 * u + (j + 1)) / 96 = (6 * u + j) / 96 by omega, show (6 * u + (j + 1)) / 24 = (6 * u + j) / 24 by omega,
        show (6 * u + (j + 1)) / 6 = (6 * u + j) / 6 by omega]
      exact hp))
    have e : (⟨6 * u + (j + 1), h⟩ : Fin cfg0.N).val % 6 = j + 1 := e6
    rwa [e] at this

/-- The accumulators at a tile's last key block. -/
theorem acc_last (t : Fin cfg0.N) (ht : t.val % 6 = 5) (mi : Fin 2) (l : Fin 2048) : ∃ M : ℝ, ∀ r : Fin 144,
    (trace m c (t.val + 1)).a (ix3 mi r l) = ((∑ k ∈ Finset.range 8448, vals D (t.val / 96) (t.val / 24 % 4) r k
      * (2 : ℝ) ^ (D.score (t.val / 96) (t.val / 24 % 4) mi.val (2048 * (t.val / 6 % 4) + l.val) k * (Real.log 2)⁻¹ - M) : ℝ) : EReal) := by
  have e : t.val = 6 * (t.val / 6) + 5 := by omega
  have hn : 2 * (l.val / 256) + mi.val < 16 := by omega
  have h := at_all m c hD ⟨2 * (l.val / 256) + mi.val, hn⟩ (t.val / 6) 5 (by omega) (by have := t.isLt; omega)
  rw [← e] at h
  obtain ⟨M, hM⟩ := h
  have hmp : mp ⟨2 * (l.val / 256) + mi.val, hn⟩ = mi.val := by unfold mp; show (2 * (l.val / 256) + mi.val) % 2 = mi.val; omega
  have hcol : col ⟨2 * (l.val / 256) + mi.val, hn⟩ + l.val % 256 = l.val := by unfold col; show 256 * ((2 * (l.val / 256) + mi.val) / 2) + l.val % 256 = l.val; omega
  refine ⟨M ⟨l.val % 256, by omega⟩, fun r => ?_⟩
  refine Eq.trans ?_ ((aW_apply _ _ r _).symm.trans ((hM.a r ⟨l.val % 256, by omega⟩).trans ?_))
  · exact congrArg _ (funext fun a => Fin.ext (by
      fin_cases a
      · exact hmp.symm
      · rfl
      · exact hcol.symm))
  · refine congrArg _ (Finset.sum_congr rfl fun k _ => ?_)
    rw [sc_half D _ _ _ _ (mp_lt _), hmp, hcol]

end Cert.KernelIdeal.Attn
-- ==== Proof.Attn.Close.lean ====
module

public import proofs.«01_k».proof.Proof.Attn.Tile

/-! The result's block at a tile's last key block, and the result's array. -/

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic.VecWindow
open Cert.Attention

variable (m : (ℓ : Loc nD τ sig) → Buf (Elt Ideal) ℓ) (c : Dev nD) {D : Attention.Data}
  (hD : D.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)))

theorem lam_row (L : Vec Ideal S4x64 .f32) (j : Fin 4) (x : Fin 64) :
    window (s := S4x64) L ![j.val, 0] S1x64.size (inbL j) (ix2 (0 : Fin 1) x) = L (ix2 j x) :=
  congrArg L (funext fun a => Fin.ext (by
    fin_cases a
    · rfl
    · show 0 + 1 * x.val = x.val
      omega))

theorem val_row (a : Vec Ideal S2x144x2048 .f32) (j : Fin 2) (r : Fin 128) (l : Fin 2048) :
    window (s := S2x144x2048) a ![j.val, 0, 0] S1x128x2048.size (inbW j) (ix3 (0 : Fin 1) r l) = a (ix3 j (⟨r.val, by omega⟩ : Fin 144) l) :=
  congrArg a (funext fun x => Fin.ext (by
    fin_cases x
    · rfl
    · show 0 + 1 * r.val = r.val
      omega
    · show 0 + 1 * l.val = l.val
      omega))

theorem one_row (a : Vec Ideal S2x144x2048 .f32) (j : Fin 2) (l : Fin 2048) :
    window (s := S2x144x2048) a ![j.val, 128, 0] S1x1x2048.size (inbD j) (ix3 (0 : Fin 1) (0 : Fin 1) l) = a (ix3 j (⟨128, by decide⟩ : Fin 144) l) :=
  congrArg a (funext fun x => Fin.ext (by
    fin_cases x
    · rfl
    · rfl
    · show 0 + 1 * l.val = l.val
      omega))

include hD

/-- A map's mean of the values. -/
theorem mean_at (t : Fin cfg0.N) (ht : t.val % 6 = 5) (mi : Fin 2) (l : Fin 2048) (r : Fin 128) :
    Ideal.div (window (s := S2x144x2048) (trace m c (t.val + 1)).a ![mi.val, 0, 0] S1x128x2048.size (inbW mi) (ix3 (0 : Fin 1) r l))
        (window (s := S2x144x2048) (trace m c (t.val + 1)).a ![mi.val, 128, 0] S1x1x2048.size (inbD mi) (ix3 (0 : Fin 1) (0 : Fin 1) l))
      = ((∑ k ∈ Finset.range 8448, D.wt (t.val / 96) (t.val / 24 % 4) mi.val (2048 * (t.val / 6 % 4) + l.val) k
          * D.v (t.val / 96) k (128 * (t.val / 24 % 4) + r.val) : ℝ) : EReal) := by
  obtain ⟨M, hM⟩ := acc_last m c hD t ht mi l
  rw [val_row, one_row, hM, hM]
  have h1 : ∀ k, vals D (t.val / 96) (t.val / 24 % 4) ⟨128, by decide⟩ k = 1 := fun k => if_neg (by show ¬ (128 : ℕ) < 128; omega)
  have hr : ∀ k, vals D (t.val / 96) (t.val / 24 % 4) ⟨r.val, by omega⟩ k = D.v (t.val / 96) k (128 * (t.val / 24 % 4) + r.val) := fun k => if_pos r.isLt
  simp only [h1, hr]
  rw [Ideal.div_coe (ones_pos _ _)]
  exact (EReal.coe_mul _ _).symm.trans (congrArg _ (mean_eq _ _ M))

omit hD in
theorem lam_at (L : Vec Ideal S4x64 .f32) (hL : ∀ (j : Fin 4) (x : Fin 64), L (ix2 j x) = (D.l j.val x.val : EReal)) :
    Ideal.exp (∑ x : Fin 64, window (s := S4x64) L ![(0 : Fin 4).val, 0] S1x64.size (inbL 0) (ix2 (0 : Fin 1) x)
          * window (s := S4x64) L ![(1 : Fin 4).val, 0] S1x64.size (inbL 1) (ix2 (0 : Fin 1) x))
        - Ideal.exp (∑ x : Fin 64, window (s := S4x64) L ![(2 : Fin 4).val, 0] S1x64.size (inbL 2) (ix2 (0 : Fin 1) x)
          * window (s := S4x64) L ![(3 : Fin 4).val, 0] S1x64.size (inbL 3) (ix2 (0 : Fin 1) x)) + Ideal.ofBits FTy.f32 1045220557#32
      = (D.lam : EReal) := by
  have h : ∀ j j' : Fin 4, ∑ x : Fin 64, window (s := S4x64) L ![j.val, 0] S1x64.size (inbL j) (ix2 (0 : Fin 1) x)
          * window (s := S4x64) L ![j'.val, 0] S1x64.size (inbL j') (ix2 (0 : Fin 1) x) = ((∑ x : Fin 64, D.l j.val x.val * D.l j'.val x.val : ℝ) : EReal) := fun j j' => by
    rw [coe_sum]
    exact Finset.sum_congr rfl fun x _ => by
      rw [lam_row, lam_row, hL, hL]; exact (EReal.coe_mul _ _).symm
  rw [h 0 1, h 2 3, Ideal.exp_coe, Ideal.exp_coe, ofBits_init]
  rfl

theorem diff_at (L : Vec Ideal S4x64 .f32) (hL : ∀ (j : Fin 4) (x : Fin 64), L (ix2 j x) = (D.l j.val x.val : EReal)) (t : Fin cfg0.N) (ht : t.val % 6 = 5) (r : Fin 128) (l : Fin 2048) :
    k0_pay255 (F := Ideal) (window (s := S4x64) L ![(0 : Fin 4).val, 0] S1x64.size (inbL 0)) (window (s := S4x64) L ![(1 : Fin 4).val, 0] S1x64.size (inbL 1))
        (window (s := S4x64) L ![(2 : Fin 4).val, 0] S1x64.size (inbL 2)) (window (s := S4x64) L ![(3 : Fin 4).val, 0] S1x64.size (inbL 3))
        (window (s := S2x144x2048) (trace m c (t.val + 1)).a ![(0 : Fin 2).val, 0, 0] S1x128x2048.size (inbW 0))
        (window (s := S2x144x2048) (trace m c (t.val + 1)).a ![(0 : Fin 2).val, 128, 0] S1x1x2048.size (inbD 0))
        (window (s := S2x144x2048) (trace m c (t.val + 1)).a ![(1 : Fin 2).val, 0, 0] S1x128x2048.size (inbW 1))
        (window (s := S2x144x2048) (trace m c (t.val + 1)).a ![(1 : Fin 2).val, 128, 0] S1x1x2048.size (inbD 1)) (ix2 r l)
      = (D.o (t.val / 96) (t.val / 24 % 4) (2048 * (t.val / 6 % 4) + l.val) r.val : EReal) := by
  rw [pay255_apply, mean_at m c hD t ht 0, mean_at m c hD t ht 1, lam_at L hL, ← EReal.coe_mul, ← EReal.coe_sub]
  refine congrArg _ ?_
  unfold Data.o
  rw [Finset.mul_sum, ← Finset.sum_sub_distrib]
  exact Finset.sum_congr rfl fun k _ => by
    show _ = (D.wt _ _ 0 _ k - D.lam * D.wt _ _ 1 _ k) * _
    rw [sub_mul, mul_assoc]
    rfl

theorem close_at (t : Fin cfg0.N) (ht : t.val % 6 = 5) (l : Fin 2048) (r : Fin 128) :
    closeVal (F := Ideal) (iblk m c 3 t) (iblk m c 4 t) (trace m c (t.val + 1)).a (ix3 (0 : Fin 1) l r)
      = D.out (t.val / 96) (t.val / 24 % 4) (2048 * (t.val / 6 % 4) + l.val) r.val := by
  unfold closeVal Data.out
  dsimp only
  rw [pay4_apply, diff_at m c hD (iblk m c 3 t) (blk_l m c hD t) t ht, pay256_apply, blk_g m c hD]
  refine congrArg (fun x => _ * Ideal.rsqrt (Ideal.div x _ + _) * _ * _) ?_
  exact Finset.sum_congr rfl fun x _ => by rw [diff_at m c hD (iblk m c 3 t) (blk_l m c hD t) t ht]

end Cert.KernelIdeal.Attn
-- ==== Proof.Attn.Array.lean ====
module

public import proofs.«01_k».proof.Proof.Attn.Close
public import Idealize.ShloMosaic.Lib.Pipeline.Covers

/-! The result's array after the run. -/

@[expose] public section

set_option maxRecDepth 16384

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (c : Dev nD) {D : Attention.Data}
  (hD : D.Of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)))

theorem idx5 : ∀ t : Fin cfg0.N, win0_5.index t = ![t.val / 96, t.val / 6 % 4, t.val / 24 % 4] :=
  (by decide +kernel : ∀ t : Fin grid0.N, win0_5.index t = ![t.val / 96, t.val / 6 % 4, t.val / 24 % 4])

/-- The result: sample, token, and a head's column. -/
def result (D : Attention.Data) : S8x8192x512.Idx → EReal := fun i => D.out (i 0).val ((i 2).val / 128) (i 1).val ((i 2).val % 128)

include hD

theorem close_out (t : Fin cfg0.N) (ht : t.val % 6 = 5) (y : S1x2048x128.Idx) (i : S8x8192x512.Idx)
    (h0 : (i 0).val = t.val / 96) (h1 : (i 1).val = 2048 * (t.val / 6 % 4) + (y 1).val) (h2 : (i 2).val = 128 * (t.val / 24 % 4) + (y 2).val) :
    closeVal (F := Ideal) (iblk m c 3 t) (iblk m c 4 t) (trace m c (t.val + 1)).a y = result D i := by
  have hy : y = ix3 (0 : Fin 1) (y 1 : Fin 2048) (y 2 : Fin 128) := funext fun a => by
    fin_cases a
    · exact Subsingleton.elim (α := Fin 1) _ _
    · rfl
    · rfl
  have h3 : (y 2).val < 128 := (y 2).isLt
  refine (congrArg _ hy).trans ((close_at m c hD t ht _ _).trans ?_)
  unfold result
  rw [h0, h1, h2, show (128 * (t.val / 24 % 4) + (y 2).val) / 128 = t.val / 24 % 4 by omega,
    show (128 * (t.val / 24 % 4) + (y 2).val) % 128 = (y 2).val by omega]

theorem final : (dats m 0 c).arrAt 5 cfg0.N = result D := by
  refine (dats m 0 c).arrAt_eq_of_covers 5 _ (by decide +kernel) fun t hf y => ?_
  have ht := (flush0_5 t).1 hf
  rw [after0_5]
  blk_simp
  refine close_out m c hD t ht _ _ ?_ ?_ ?_ <;> simp [idx5 t, Nat.mul_comm]

end Cert.KernelIdeal.Attn
-- ==== Proof.Ref.Stage.lean ====
module

public import proofs.«01_k».proof.Proof.Gen.ReferenceIdeal.Run
public import proofs.«01_k».proof.Proof.Attn.Spec

/-! The reference's term in stages. -/

@[expose] public section

set_option maxRecDepth 16384

noncomputable section

namespace Cert.ReferenceIdeal.Stage

open Cert.ReferenceIdeal Cert.ReferenceIdeal.Gen
open Idealize.ShloMosaic Idealize.ShloMosaic.TcCoe Idealize.SL.Sem

/-- The keys by head and map. -/
def keys (a1 : FVec Ideal S8x8192x512 .f32) (a3 : FVec Ideal S8x256x512 .f32) : FVec Ideal S8x4x2x8448x64 .f32 :=
  concatenate S8x4x2x8448x64 3 [⟨S8x4x2x8192x64, (transpose S8x4x2x8192x64 [0, 2, 3, 1, 4] (shapeCast _ a1 shapeCasts_S8x8192x512_S8x8192x4x2x64) transposes_S8x8192x4x2x64_S8x4x2x8192x64_0_2_3_1_4)⟩, ⟨S8x4x2x256x64, (transpose S8x4x2x256x64 [0, 2, 3, 1, 4] (shapeCast _ a3 shapeCasts_S8x256x512_S8x256x4x2x64) transposes_S8x256x4x2x64_S8x4x2x256x64_0_2_3_1_4)⟩] concatenates_S8x4x2x8192x64_S8x4x2x256x64_S8x4x2x8448x64_d3

/-- The values by head. -/
def vals (a2 : FVec Ideal S8x8192x512 .f32) (a4 : FVec Ideal S8x256x512 .f32) : FVec Ideal S8x4x8448x128 .f32 :=
  concatenate S8x4x8448x128 2 [⟨S8x4x8192x128, (transpose S8x4x8192x128 [0, 2, 1, 3] (shapeCast _ a2 shapeCasts_S8x8192x512_S8x8192x4x128) transposes_S8x8192x4x128_S8x4x8192x128_0_2_1_3)⟩, ⟨S8x4x256x128, (transpose S8x4x256x128 [0, 2, 1, 3] (shapeCast _ a4 shapeCasts_S8x256x512_S8x256x4x128) transposes_S8x256x4x128_S8x4x256x128_0_2_1_3)⟩] concatenates_S8x4x8192x128_S8x4x256x128_S8x4x8448x128_d2

/-- The scores. -/
def score (a0 : FVec Ideal S8x8192x512 .f32) (k : FVec Ideal S8x4x2x8448x64 .f32) : FVec Ideal S8x4x2x8192x8448 .f32 :=
  mulf (Host.dotGeneral dot_S8x4x2x8192x64_S8x4x2x8448x64_S8x4x2x8192x8448_4_4_3_3_012_012 none (transpose S8x4x2x8192x64 [0, 2, 3, 1, 4] (shapeCast _ a0 shapeCasts_S8x8192x512_S8x8192x4x2x64) transposes_S8x8192x4x2x64_S8x4x2x8192x64_0_2_3_1_4) k) (broadcastInDim S8x4x2x8192x8448 ![] bcast_S_S8x4x2x8192x8448 (constant S_ .f32 0x3E000000#32))

/-- The largest score of each query. -/
def most (s : FVec Ideal S8x4x2x8192x8448 .f32) : FVec Ideal S8x4x2x8192 .f32 :=
  maximumf (broadcastInDim S8x4x2x8192 ![] bcast_S_S8x4x2x8192 (constant S_ .f32 0xFF800000#32)) (Host.reduce FloatOps.maximumf s (constant S_ .f32 0xFF800000#32) reducesTo_S8x4x2x8192x8448_S8x4x2x8192_d4 h_S_)

/-- The exponentials of the scores less their largest. -/
def expo (s : FVec Ideal S8x4x2x8192x8448 .f32) (u : FVec Ideal S8x4x2x8192 .f32) : FVec Ideal S8x4x2x8192x8448 .f32 :=
  Host.exp (subf s (broadcastInDim S8x4x2x8192x8448 ![0, 1, 2, 3, 4] bcast_S8x4x2x8192x1_S8x4x2x8192x8448_0_1_2_3_4 (broadcastInDim S8x4x2x8192x1 ![0, 1, 2, 3] bcast_S8x4x2x8192_S8x4x2x8192x1_0_1_2_3 u)))

/-- The exponentials over their sum. -/
def soft (e : FVec Ideal S8x4x2x8192x8448 .f32) : FVec Ideal S8x4x2x8192x8448 .f32 :=
  Host.divf e (broadcastInDim S8x4x2x8192x8448 ![0, 1, 2, 3, 4] bcast_S8x4x2x8192x1_S8x4x2x8192x8448_0_1_2_3_4 (broadcastInDim S8x4x2x8192x1 ![0, 1, 2, 3] bcast_S8x4x2x8192_S8x4x2x8192x1_0_1_2_3 (Host.reduceAdd e (constant S_ .f32 0x00000000#32) reducesTo_S8x4x2x8192x8448_S8x4x2x8192_d4 h_S_)))

/-- The mixing weight. -/
def lam (a5 a6 a7 a8 : FVec Ideal S1x64 .f32) : FVec Ideal S_ .f32 :=
  addf (subf (Host.exp (Host.reduceAdd (mulf (shapeCast _ a5 shapeCasts_S1x64_S64) (shapeCast _ a6 shapeCasts_S1x64_S64)) (constant S_ .f32 0x00000000#32) reducesTo_S64_S_d0 h_S_)) (Host.exp (Host.reduceAdd (mulf (shapeCast _ a7 shapeCasts_S1x64_S64) (shapeCast _ a8 shapeCasts_S1x64_S64)) (constant S_ .f32 0x00000000#32) reducesTo_S64_S_d0 h_S_))) (constant S_ .f32 0x3E4CCCCD#32)

/-- The values mixed by the difference of the maps. -/
def mix (p : FVec Ideal S8x4x2x8192x8448 .f32) (w : FVec Ideal S_ .f32) (v : FVec Ideal S8x4x8448x128 .f32) : FVec Ideal S8x4x8192x128 .f32 :=
  Host.dotGeneral dot_S8x4x8192x8448_S8x4x8448x128_S8x4x8192x128_3_2_2_3_01_01 none (subf (shapeCast _ (extractStridedSlice S8x4x1x8192x8448 ![0, 0, 0, 0, 0] p slices_S8x4x2x8192x8448_S8x4x1x8192x8448_0_0_0_0_0) shapeCasts_S8x4x1x8192x8448_S8x4x8192x8448) (mulf (broadcastInDim S8x4x8192x8448 ![] bcast_S_S8x4x8192x8448 w) (shapeCast _ (extractStridedSlice S8x4x1x8192x8448 ![0, 0, 1, 0, 0] p slices_S8x4x2x8192x8448_S8x4x1x8192x8448_0_0_1_0_0) shapeCasts_S8x4x1x8192x8448_S8x4x8192x8448))) v

/-- The normalised result. -/
def close (o : FVec Ideal S8x4x8192x128 .f32) (a9 : FVec Ideal S1x128 .f32) : FVec Ideal S8x8192x512 .bf16 :=
  truncf .bf16 (shapeCast _ (transpose S8x8192x4x128 [0, 2, 1, 3] (mulf (mulf (mulf o (broadcastInDim S8x4x8192x128 ![0, 1, 2, 3] bcast_S8x4x8192x1_S8x4x8192x128_0_1_2_3 (Host.rsqrt (addf (Host.divf (broadcastInDim S8x4x8192x1 ![0, 1, 2] bcast_S8x4x8192_S8x4x8192x1_0_1_2 (Host.reduceAdd (mulf o o) (constant S_ .f32 0x00000000#32) reducesTo_S8x4x8192x128_S8x4x8192_d3 h_S_)) (broadcastInDim S8x4x8192x1 ![] bcast_S_S8x4x8192x1 (constant S_ .f32 0x43000000#32))) (broadcastInDim S8x4x8192x1 ![] bcast_S_S8x4x8192x1 (constant S_ .f32 0x358637BD#32)))))) (broadcastInDim S8x4x8192x128 ![0, 1, 2, 3] bcast_S1x1x1x128_S8x4x8192x128_0_1_2_3 (broadcastInDim S1x1x1x128 ![3] bcast_S128_S1x1x1x128_3 (shapeCast _ a9 shapeCasts_S1x128_S128)))) (broadcastInDim S8x4x8192x128 ![] bcast_S_S8x4x8192x128 (constant S_ .f32 0x3F4CCCCD#32))) transposes_S8x4x8192x128_S8x8192x4x128_0_2_1_3) shapeCasts_S8x8192x4x128_S8x8192x512) bitsLt_bf16_f32

/-- The reference's result in stages. -/
def whole (a0 a1 a2 : FVec Ideal S8x8192x512 .f32) (a3 a4 : FVec Ideal S8x256x512 .f32) (a5 a6 a7 a8 : FVec Ideal S1x64 .f32) (a9 : FVec Ideal S1x128 .f32) : FVec Ideal S8x8192x512 .bf16 :=
  close (mix (soft (expo (score a0 (keys a1 a3)) (most (score a0 (keys a1 a3))))) (lam a5 a6 a7 a8) (vals a2 a4)) a9

theorem res_eq (m : (ℓ : Loc nD τ sig) → Buf (Elt Ideal) ℓ) (c : Dev nD) :
    Value.res_main_v64 (F := Ideal) m c
      = whole (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := rfl

theorem keys_apply (a1 : FVec Ideal S8x8192x512 .f32) (a3 : FVec Ideal S8x256x512 .f32) (b : Fin 8) (h : Fin 4) (mi : Fin 2) (k : Fin 8448) (d : Fin 64) :
    keys a1 a3 (ix5 b h mi k d) = if hk : k.val < 8192 then a1 (ix3 b (⟨k.val, hk⟩ : Fin 8192) (⟨h.val * 128 + mi.val * 64 + d.val, by omega⟩ : Fin 512))
      else a3 (ix3 b (⟨k.val - 8192, by omega⟩ : Fin 256) (⟨h.val * 128 + mi.val * 64 + d.val, by omega⟩ : Fin 512)) := by
  pointwise [keys]

theorem vals_apply (a2 : FVec Ideal S8x8192x512 .f32) (a4 : FVec Ideal S8x256x512 .f32) (b : Fin 8) (h : Fin 4) (k : Fin 8448) (r : Fin 128) :
    vals a2 a4 (ix4 b h k r) = if hk : k.val < 8192 then a2 (ix3 b (⟨k.val, hk⟩ : Fin 8192) (⟨h.val * 128 + r.val, by omega⟩ : Fin 512))
      else a4 (ix3 b (⟨k.val - 8192, by omega⟩ : Fin 256) (⟨h.val * 128 + r.val, by omega⟩ : Fin 512)) := by
  pointwise [vals]

theorem score_apply (a0 : FVec Ideal S8x8192x512 .f32) (k : FVec Ideal S8x4x2x8448x64 .f32) (b : Fin 8) (h : Fin 4) (mi : Fin 2) (l : Fin 8192) (j : Fin 8448) :
    score a0 k (ix5 b h mi l j) = (∑ d : Fin 64, a0 (ix3 b l (⟨h.val * 128 + mi.val * 64 + d.val, by omega⟩ : Fin 512)) * k (ix5 b h mi j d)) * Ideal.ofBits FTy.f32 1040187392#32 := by
  pointwise [score]

/-- A maximum over one axis. -/
theorem reduce_max {s t : Shape} {a : Fin s.rank} (x : FVec Ideal s .f32) (init : FVec Ideal S_ .f32) (h' : s.ReducesTo [a] t) (h : s.Reduces [a] t)
    (hu : 0 < S_.numel) (j : t.Idx) :
    Host.reduce (FloatOps.maximumf (F := Ideal) (φ := .f32)) x init h' hu j = Finset.univ.fold max (init (Shape.Idx.first hu)) (x ∘ h.lift j) := by
  rw [Ideal.maximumf_eq_max]
  exact Host.reduce_eq_fold_single max x init h' h hu j

theorem max_read {s : Shape} (x y : FVec Ideal s .f32) (i : s.Idx) : maximumf x y i = max (x i) (y i) := rfl

theorem most_apply (s : FVec Ideal S8x4x2x8192x8448 .f32) (b : Fin 8) (h : Fin 4) (mi : Fin 2) (l : Fin 8192) :
    most s (ix4 b h mi l) = max (Ideal.ofBits FTy.f32 4286578688#32) (Finset.fold max (Ideal.ofBits FTy.f32 4286578688#32) (fun x : Fin 8448 => s (ix5 b h mi l x)) Finset.univ) := by
  have hr : S8x4x2x8192x8448.Reduces [4] S8x4x2x8192 := by decide
  have e : Host.reduce (FloatOps.maximumf (F := Ideal) (φ := .f32)) s (constant S_ .f32 0xFF800000#32) reducesTo_S8x4x2x8192x8448_S8x4x2x8192_d4 h_S_ (ix4 b h mi l)
      = Finset.fold max (Ideal.ofBits FTy.f32 4286578688#32) (fun x : Fin 8448 => s (ix5 b h mi l x)) Finset.univ := by
    refine (reduce_max s _ _ hr _ _).trans ?_
    refine congrArg (fun f => Finset.fold max (Ideal.ofBits FTy.f32 4286578688#32) f (Finset.univ : Finset (Fin 8448))) (funext fun k => congrArg s (funext fun x => Fin.ext ?_))
    rw [Shape.Reduces.lift_val]
    fin_cases x <;> rfl
  exact (max_read _ _ _).trans (congrArg₂ max rfl e)

theorem expo_apply (s : FVec Ideal S8x4x2x8192x8448 .f32) (u : FVec Ideal S8x4x2x8192 .f32) (b : Fin 8) (h : Fin 4) (mi : Fin 2) (l : Fin 8192) (j : Fin 8448) :
    expo s u (ix5 b h mi l j) = Ideal.exp (s (ix5 b h mi l j) - u (ix4 b h mi l)) := by
  pointwise [expo]

theorem soft_apply (e : FVec Ideal S8x4x2x8192x8448 .f32) (b : Fin 8) (h : Fin 4) (mi : Fin 2) (l : Fin 8192) (j : Fin 8448) :
    soft e (ix5 b h mi l j) = Ideal.div (e (ix5 b h mi l j)) (∑ x : Fin 8448, e (ix5 b h mi l x)) := by
  pointwise [soft]

theorem lam_apply (a5 a6 a7 a8 : FVec Ideal S1x64 .f32) :
    lam a5 a6 a7 a8 ix0 = Ideal.exp (∑ x : Fin 64, a5 (ix2 (0 : Fin 1) x) * a6 (ix2 (0 : Fin 1) x)) - Ideal.exp (∑ x : Fin 64, a7 (ix2 (0 : Fin 1) x) * a8 (ix2 (0 : Fin 1) x)) + Ideal.ofBits FTy.f32 1045220557#32 := by
  pointwise [lam]

theorem mix_apply (p : FVec Ideal S8x4x2x8192x8448 .f32) (w : FVec Ideal S_ .f32) (v : FVec Ideal S8x4x8448x128 .f32) (b : Fin 8) (h : Fin 4) (l : Fin 8192) (r : Fin 128) :
    mix p w v (ix4 b h l r) = ∑ j : Fin 8448, (p (ix5 b h 0 l j) - w ix0 * p (ix5 b h 1 l j)) * v (ix4 b h j r) := by
  pointwise [mix]

theorem close_apply (o : FVec Ideal S8x4x8192x128 .f32) (a9 : FVec Ideal S1x128 .f32) (b : Fin 8) (l : Fin 8192) (e : Fin 512) :
    close o a9 (ix3 b l e) = o (ix4 b (⟨e.val / 128, by omega⟩ : Fin 4) l (⟨e.val % 128, by omega⟩ : Fin 128))
      * Ideal.rsqrt (Ideal.div (∑ r : Fin 128, o (ix4 b (⟨e.val / 128, by omega⟩ : Fin 4) l r) * o (ix4 b (⟨e.val / 128, by omega⟩ : Fin 4) l r)) (Ideal.ofBits FTy.f32 1124073472#32) + Ideal.ofBits FTy.f32 897988541#32)
      * a9 (ix2 (0 : Fin 1) (⟨e.val % 128, by omega⟩ : Fin 128)) * Ideal.ofBits FTy.f32 1061997773#32 := by
  pointwise [close]

end Cert.ReferenceIdeal.Stage
-- ==== Proof.Ref.Value.lean ====
module

public import proofs.«01_k».proof.Proof.Ref.Stage
public import proofs.«01_k».proof.Proof.Attn.ChainMath

/-! The reference on real arguments: stage by stage it computes the attention as `Attn/Spec.lean` states it. -/

@[expose] public section

set_option maxRecDepth 16384

noncomputable section

namespace Cert.ReferenceIdeal.Stage

open Cert.ReferenceIdeal Cert.ReferenceIdeal.Gen
open Idealize.ShloMosaic Idealize.ShloMosaic.TcCoe Idealize.SL.Sem
open Cert.KernelIdeal.Attn (coe_sum fold_real ofBits_bot)
open Cert.Attention

variable {D : Attention.Data} {a0 a1 a2 : FVec Ideal S8x8192x512 .f32} {a3 a4 : FVec Ideal S8x256x512 .f32} {a5 a6 a7 a8 : FVec Ideal S1x64 .f32}
  {a9 : FVec Ideal S1x128 .f32} (hD : D.Of a0 a1 a2 a3 a4 a5 a6 a7 a8 a9)

/-- The scale of the scores is an eighth. -/
theorem ofBits_eighth : Ideal.ofBits FTy.f32 1040187392#32 = ((8⁻¹ : ℝ) : EReal) := by
  simp [Ideal.ofBits, Ideal.ieee, -EReal.coe_mul]
  norm_num

include hD

theorem keys_real (b : Fin 8) (h : Fin 4) (mi : Fin 2) (j : Fin 8448) (d : Fin 64) :
    keys a1 a3 (ix5 b h mi j d) = (D.k b.val j.val (128 * h.val + 64 * mi.val + d.val) : EReal) := by
  have e : h.val * 128 + mi.val * 64 + d.val = 128 * h.val + 64 * mi.val + d.val := by omega
  rw [keys_apply]
  unfold Data.k
  split_ifs with hk
  · exact (hD.kl _ _ _).trans (congrArg (fun n => ((D.kl b.val j.val n : ℝ) : EReal)) e)
  · exact (hD.kc _ _ _).trans (congrArg (fun n => ((D.kc b.val (j.val - 8192) n : ℝ) : EReal)) e)

theorem vals_real (b : Fin 8) (h : Fin 4) (j : Fin 8448) (r : Fin 128) :
    vals a2 a4 (ix4 b h j r) = (D.v b.val j.val (128 * h.val + r.val) : EReal) := by
  have e : h.val * 128 + r.val = 128 * h.val + r.val := by omega
  rw [vals_apply]
  unfold Data.v
  split_ifs with hk
  · exact (hD.vl _ _ _).trans (congrArg (fun n => ((D.vl b.val j.val n : ℝ) : EReal)) e)
  · exact (hD.vc _ _ _).trans (congrArg (fun n => ((D.vc b.val (j.val - 8192) n : ℝ) : EReal)) e)

theorem score_real (b : Fin 8) (h : Fin 4) (mi : Fin 2) (l : Fin 8192) (j : Fin 8448) :
    score a0 (keys a1 a3) (ix5 b h mi l j) = (D.score b.val h.val mi.val l.val j.val : EReal) := by
  rw [score_apply, ofBits_eighth]
  unfold Data.score
  rw [EReal.coe_mul, coe_sum]
  refine congrArg (· * _) (Finset.sum_congr rfl fun d _ => ?_)
  rw [keys_real hD, EReal.coe_mul]
  refine congrArg (· * _) ((hD.q _ _ _).trans (congrArg (fun n => ((D.q b.val l.val n : ℝ) : EReal)) ?_))
  show h.val * 128 + mi.val * 64 + d.val = _
  omega

theorem lam_real : lam a5 a6 a7 a8 ix0 = (D.lam : EReal) := by
  have e (x y : Fin 64 → ℝ) (p q : Fin 64 → EReal) (hp : ∀ i, p i = x i) (hq : ∀ i, q i = y i) :
      Ideal.exp (∑ i, p i * q i) = (Real.exp (∑ i, x i * y i) : EReal) := by
    rw [Finset.sum_congr rfl fun i _ => by rw [hp, hq, ← EReal.coe_mul], ← coe_sum, Ideal.exp_coe]
  rw [lam_apply, e (fun i => D.l 0 i.val) (fun i => D.l 1 i.val) _ _ hD.l0 hD.l1, e (fun i => D.l 2 i.val) (fun i => D.l 3 i.val) _ _ hD.l2 hD.l3, ofBits_init,
    ← EReal.coe_sub, ← EReal.coe_add]
  rfl

omit hD in
/-- A softmax does not change when its scores are all shifted. -/
theorem softmax_shift (s : ℕ → ℝ) (μ : ℝ) (j : ℕ) :
    Real.exp (s j - μ) * (1 / ∑ x ∈ Finset.range 8448, Real.exp (s x - μ)) = Real.exp (s j) * (1 / ∑ x ∈ Finset.range 8448, Real.exp (s x)) := by
  have hs : ∑ x ∈ Finset.range 8448, Real.exp (s x - μ) = (∑ x ∈ Finset.range 8448, Real.exp (s x)) * (Real.exp μ)⁻¹ := by
    rw [Finset.sum_mul]
    exact Finset.sum_congr rfl fun x _ => by rw [Real.exp_sub, div_eq_mul_inv]
  have h0 : (0 : ℝ) < ∑ x ∈ Finset.range 8448, Real.exp (s x) := Finset.sum_pos (fun _ _ => Real.exp_pos _) ⟨0, by simp⟩
  have h1 := Real.exp_pos μ
  rw [hs, Real.exp_sub]
  field_simp

theorem soft_real (b : Fin 8) (h : Fin 4) (mi : Fin 2) (l : Fin 8192) (j : Fin 8448) :
    soft (expo (score a0 (keys a1 a3)) (most (score a0 (keys a1 a3)))) (ix5 b h mi l j) = (D.wt b.val h.val mi.val l.val j.val : EReal) := by
  have hs := fun j => score_real hD b h mi l j
  generalize score a0 (keys a1 a3) = s at hs
  obtain ⟨μ, hμ⟩ : ∃ μ : ℝ, most s (ix4 b h mi l) = (μ : EReal) := by
    rw [most_apply, ofBits_bot, max_eq_right bot_le]
    obtain ⟨M, hM⟩ := fold_real (k := 8447) fun x => D.score b.val h.val mi.val l.val x.val
    exact ⟨M, (congrArg (fun f => Finset.fold max ⊥ f Finset.univ) (funext fun x => hs x)).trans hM⟩
  have he : ∀ x : Fin 8448, expo s (most s) (ix5 b h mi l x) = (Real.exp (D.score b.val h.val mi.val l.val x.val - μ) : EReal) := fun x => by
    rw [expo_apply, hs, hμ, ← EReal.coe_sub, Ideal.exp_coe]
  have h0 : (0 : ℝ) < ∑ x ∈ Finset.range 8448, Real.exp (D.score b.val h.val mi.val l.val x - μ) := Finset.sum_pos (fun _ _ => Real.exp_pos _) ⟨0, by simp⟩
  rw [soft_apply, Finset.sum_congr rfl fun x _ => he x, he, ← coe_sum,
    Fin.sum_univ_eq_sum_range (fun x => Real.exp (D.score b.val h.val mi.val l.val x - μ)) 8448, Ideal.div_coe h0.ne', ← EReal.coe_mul,
    softmax_shift (fun x => D.score b.val h.val mi.val l.val x)]
  rfl

theorem mix_real (b : Fin 8) (h : Fin 4) (l : Fin 8192) (r : Fin 128) :
    mix (soft (expo (score a0 (keys a1 a3)) (most (score a0 (keys a1 a3))))) (lam a5 a6 a7 a8) (vals a2 a4) (ix4 b h l r)
      = (D.o b.val h.val l.val r.val : EReal) := by
  rw [mix_apply]
  unfold Data.o
  rw [coe_sum, ← Fin.sum_univ_eq_sum_range (fun j => (((D.wt b.val h.val 0 l.val j - D.lam * D.wt b.val h.val 1 l.val j) * D.v b.val j (128 * h.val + r.val) : ℝ) : EReal))]
  refine Finset.sum_congr rfl fun j _ => ?_
  rw [soft_real hD, soft_real hD, vals_real hD, lam_real hD, EReal.coe_mul, EReal.coe_sub, EReal.coe_mul]
  rfl

/-- The reference's result. -/
theorem whole_real (b : Fin 8) (l : Fin 8192) (e : Fin 512) :
    whole a0 a1 a2 a3 a4 a5 a6 a7 a8 a9 (ix3 b l e) = D.out b.val (e.val / 128) l.val (e.val % 128) := by
  unfold whole
  rw [close_apply, mix_real hD, Finset.sum_congr rfl fun r _ => by rw [mix_real hD], hD.g]
  rfl

end Cert.ReferenceIdeal.Stage
-- ==== Proof.Algebraic.lean ====
module

public import proofs.«01_k».proof.Proof.Finite
public import proofs.«01_k».proof.Proof.Frames
public import proofs.«01_k».proof.Proof.Attn.Array
public import proofs.«01_k».proof.Proof.Ref.Value

/-! On finite arguments the attention call and the reference return the same array. -/

@[expose] public section

set_option maxRecDepth 16384

noncomputable section

namespace Cert.Proof

open Idealize.ShloMosaic Idealize.ShloMosaic.TcCoe Idealize.SL.Sem
open Cert.Attention

/-- The reference's result, from what its arguments hold. -/
theorem reference_result {D : Data} (m : (ℓ : Loc Cert.ReferenceIdeal.nD Cert.ReferenceIdeal.τ Cert.ReferenceIdeal.sig) → Buf (Elt Ideal) ℓ) (c : Dev Cert.ReferenceIdeal.nD)
    (hD : D.Of (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))) :
    Cert.ReferenceIdeal.Value.res_main_v64 (F := Ideal) m c = Cert.KernelIdeal.Attn.result D := by
  rw [Cert.ReferenceIdeal.Stage.res_eq]
  funext i
  have hi : i = ix3 (i 0 : Fin 8) (i 1 : Fin 8192) (i 2 : Fin 512) := funext fun a => by fin_cases a <;> rfl
  rw [hi]
  exact Cert.ReferenceIdeal.Stage.whole_real hD _ _ _

theorem algebraic [Cert.Pre_finite.Facts] : Cert.algebraic_KernelIdeal_ReferenceIdeal_pre_finite := by
  intro m ρ m' ρ' hpre hagree
  choose D hD using fun c => data_of m c hpre
  refine ⟨fun c => Cert.KernelIdeal.Attn.result (D c), ?_, ?_⟩
  · exact (θ_run Cert.KernelIdeal.defs _ _).mono
      (fun r h c => ⟨(h.1.out_eq c 5).trans (Cert.KernelIdeal.Attn.final m c (hD c)), Cert.KernelIdeal.Attn.args_kept m h.1 c⟩)
      (Cert.KernelIdeal.Attn.run_main (F := Ideal) m ρ)
  · refine (θ_run Cert.ReferenceIdeal.defs _ _).mono (fun r h c => ⟨(h c).1.trans (reference_result m' c ?_), (h c).2⟩)
      (Cert.ReferenceIdeal.Value.run (F := Ideal) m' ρ')
    obtain ⟨e0, e1, e2, e3, e4, e5, e6, e7, e8, e9⟩ := hagree c
    rw [e0, e1, e2, e3, e4, e5, e6, e7, e8, e9]
    exact hD c

end Cert.Proof
-- ==== Proof.Mlp.Frames.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

/-! The frames of the two layers' projections and feed-forward calls, of the last layer's input projection, and of their references. -/

@[expose] public section

noncomputable section

namespace Cert.Proof

open Idealize.ShloMosaic Idealize.ShloMosaic.TcCoe Idealize.SL.Sem

theorem frame2_bits : Cert.quiescent_Kernel2 := fun m ρ _ => Cert.Kernel2.Gen.frame m ρ

theorem frame2_ideal : Cert.quiescent_Kernel2Ideal := fun m ρ _ => Cert.Kernel2Ideal.Gen.frame m ρ

theorem frame2_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame3_bits : Cert.quiescent_Kernel3 := fun m ρ _ => Cert.Kernel3.Gen.frame m ρ

theorem frame3_ideal : Cert.quiescent_Kernel3Ideal := fun m ρ _ => Cert.Kernel3Ideal.Gen.frame m ρ

theorem frame3_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame4_bits : Cert.quiescent_Kernel4 := fun m ρ _ => Cert.Kernel4.Gen.frame m ρ

theorem frame4_ideal : Cert.quiescent_Kernel4Ideal := fun m ρ _ => Cert.Kernel4Ideal.Gen.frame m ρ

theorem frame4_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

end Cert.Proof
-- ==== Proof.Mlp.Spec.lean ====
module

public import Idealize.ShloMosaic.Lib.Pointwise

/-! What the layer does with one token's row after its attention: the projection's residual, a normalised and modulated row,
    two products with a squared rectifier between them, and a second residual. All on extended reals, no entry assumed finite. -/

@[expose] public section

noncomputable section

namespace Cert.Mlp

open Idealize.ShloMosaic

/-- The mean of a row's squares. -/
def meanSq (x : Fin 1024 → EReal) : EReal := Ideal.div (∑ d, x d * x d) (Ideal.ofBits FTy.f32 0x44800000#32)

/-- A row over the root of its mean square, times a gain. -/
def normed (x g : Fin 1024 → EReal) (e : Fin 1024) : EReal :=
  x e * Ideal.rsqrt (meanSq x + Ideal.ofBits FTy.f32 0x358637BD#32) * g e

/-- A normalised row scaled and shifted. -/
def modulated (x g sh sc : Fin 1024 → EReal) (e : Fin 1024) : EReal :=
  normed x g e * (1 + sc e) + sh e

/-- The square of the positive part. -/
def relu2 (y : EReal) : EReal := max y 0 * max y 0

/-- A hidden unit. -/
def hidden (h : Fin 1024 → EReal) (w : Fin 1024 → EReal) : EReal := relu2 (∑ e, h e * w e)

/-- The two products, over all the hidden units. -/
def mlp (h : Fin 1024 → EReal) (w1 : Fin 1024 → Fin 4096 → EReal) (w2 : Fin 4096 → Fin 1024 → EReal) (e : Fin 1024) : EReal :=
  ∑ f, hidden h (fun d => w1 d f) * w2 f e

/-- The two products over one quarter of the hidden units. -/
def quarter (h : Fin 1024 → EReal) (w1 : Fin 1024 → Fin 4096 → EReal) (w2 : Fin 4096 → Fin 1024 → EReal) (e : Fin 1024) (j : Fin 4) : EReal :=
  ∑ f : Fin 1024, hidden h (fun d => w1 d ⟨1024 * j.val + f.val, by omega⟩) * w2 ⟨1024 * j.val + f.val, by omega⟩ e

/-- The row with the gated result of the two products added. -/
def tail (x g sh sc gt : Fin 1024 → EReal) (w1 : Fin 1024 → Fin 4096 → EReal) (w2 : Fin 4096 → Fin 1024 → EReal) (e : Fin 1024) : EReal :=
  x e + gt e * mlp (modulated x g sh sc) w1 w2 e

/-- The row with the gated projection added. -/
def head (x gt p : Fin 1024 → EReal) (w : Fin 1024 → Fin 1024 → EReal) (e : Fin 1024) : EReal :=
  x e + gt e * ∑ d, p d * w d e

/-- Two rows of 512 side by side. -/
def beside (u v : Fin 512 → EReal) (d : Fin 1024) : EReal := if h : d.val < 512 then u ⟨d.val, h⟩ else v ⟨d.val - 512, by omega⟩

/-- A sum over the joined row, half by half. -/
theorem sum_beside (u v : Fin 512 → EReal) (w : Fin 1024 → EReal) :
    ∑ d, beside u v d * w d = ∑ d : Fin 512, u d * w ⟨d.val, by omega⟩ + ∑ d : Fin 512, v d * w ⟨512 + d.val, by omega⟩ := by
  refine (Fin.sum_univ_add (a := 512) (b := 512) fun d : Fin 1024 => beside u v d * w d).trans (congrArg₂ _ ?_ ?_)
  · exact Finset.sum_congr rfl fun d _ => congrArg (· * _) (dif_pos d.isLt)
  · refine Finset.sum_congr rfl fun d _ => congrArg (· * _) ?_
    refine (dif_neg (by show ¬ 512 + d.val < 512; omega)).trans (congrArg v (Fin.ext ?_))
    show 512 + d.val - 512 = d.val
    omega

/-- A sum over 4096 in four parts. -/
theorem sum_quarters (f : Fin 4096 → EReal) :
    ∑ i, f i = ∑ j : Fin 4, ∑ i : Fin 1024, f ⟨1024 * j.val + i.val, by omega⟩ := by
  rw [← Fintype.sum_prod_type' fun (j : Fin 4) (i : Fin 1024) => f ⟨1024 * j.val + i.val, by omega⟩]
  refine (Equiv.sum_comp (finProdFinEquiv (m := 4) (n := 1024)) f).symm.trans (Finset.sum_congr rfl fun p _ => congrArg f (Fin.ext ?_))
  show p.2.val + 1024 * p.1.val = 1024 * p.1.val + p.2.val
  omega

theorem mlp_quarters (h : Fin 1024 → EReal) (w1 : Fin 1024 → Fin 4096 → EReal) (w2 : Fin 4096 → Fin 1024 → EReal) (e : Fin 1024) :
    mlp h w1 w2 e = quarter h w1 w2 e 0 + quarter h w1 w2 e 1 + quarter h w1 w2 e 2 + quarter h w1 w2 e 3 := by
  unfold mlp
  rw [sum_quarters, Fin.sum_univ_four]
  rfl

/-- One delta head's row: over the root of its mean square, times a gain, times a gated linear unit. -/
def headRow (o g z : Fin 128 → EReal) (d : Fin 128) : EReal :=
  o d * Ideal.rsqrt (Ideal.div (∑ x, o x * o x) (Ideal.ofBits FTy.f32 0x43000000#32) + Ideal.ofBits FTy.f32 0x358637BD#32) * g d * (z d * Ideal.logistic (z d))

/-- The columns of one head. -/
def part (o : Fin 512 → EReal) (h : Fin 4) (d : Fin 128) : EReal := o ⟨128 * h.val + d.val, by omega⟩

theorem part_zero (o : Fin 512 → EReal) : part o 0 = fun d => o ⟨d.val, by omega⟩ :=
  funext fun d => congrArg o (Fin.ext (by simp))

/-- The four heads' rows side by side. -/
def gated (o : Fin 512 → EReal) (g : Fin 128 → EReal) (z : Fin 512 → EReal) (e : Fin 512) : EReal :=
  headRow (part o ⟨e.val / 128, by omega⟩) g (part z ⟨e.val / 128, by omega⟩) ⟨e.val % 128, by omega⟩

/-- Four rows of 128 side by side. -/
def beside4 (u0 u1 u2 u3 : Fin 128 → EReal) (e : Fin 512) : EReal :=
  if h : e.val < 128 then u0 ⟨e.val, h⟩ else if h : e.val - 128 < 128 then u1 ⟨e.val - 128, h⟩
  else if h : e.val - 128 - 128 < 128 then u2 ⟨e.val - 128 - 128, h⟩ else u3 ⟨e.val - 128 - 128 - 128, by omega⟩

theorem beside4_gated (o : Fin 512 → EReal) (g : Fin 128 → EReal) (z : Fin 512 → EReal) (e : Fin 512) :
    beside4 (headRow (part o 0) g (part z 0)) (headRow (part o 1) g (part z 1)) (headRow (part o 2) g (part z 2)) (headRow (part o 3) g (part z 3)) e = gated o g z e := by
  unfold beside4 gated
  split_ifs with h0 h1 h2 <;> congr 1 <;> first | (congr 1; apply Fin.ext; simp; omega) | (apply Fin.ext; simp; omega)

end Cert.Mlp
-- ==== Proof.Mlp2.Reads.lean ====
module

public import proofs.«01_k».proof.Proof.Mlp.Spec
public import proofs.«01_k».proof.Proof.Gen.Kernel2Ideal.Skeleton

/-! The body's computations read entry by entry. -/

@[expose] public section

set_option maxRecDepth 16384

noncomputable section

namespace Cert.Kernel2Ideal.Row

open Cert.Kernel2Ideal Cert.Kernel2Ideal.Gen Cert.Mlp
open Idealize.ShloMosaic Idealize.SL.Sem

theorem pay2_apply (a b : Vec Ideal S1x512x512 .bf16) (w w' : Vec Ideal S512x1024 .bf16) (x : Vec Ideal S1x512x1024 .f32) (g : Vec Ideal S1x1x1024 .f32)
    (r : Fin 512) (e : Fin 1024) :
    k0_pay2 (F := Ideal) a b w w' x g (ix2 r e)
      = x (ix3 0 r e) + g (ix3 0 0 e) * (∑ d : Fin 512, b (ix3 0 r d) * w (ix2 d e) + ∑ d : Fin 512, a (ix3 0 r d) * w' (ix2 d e)) := by
  pointwise [k0_pay2]

theorem pay6_apply (a b : Vec Ideal S1x512x512 .bf16) (w w' : Vec Ideal S512x1024 .bf16) (x : Vec Ideal S1x512x1024 .f32) (g : Vec Ideal S1x1x1024 .f32)
    (r : Fin 512) :
    k0_pay6 (F := Ideal) a b w w' x g (ix2 r 0) = meanSq fun d => k0_pay2 (F := Ideal) a b w w' x g (ix2 r d) := by
  pointwise [k0_pay6]
  rfl

theorem pay3_apply (g : Vec Ideal S1x1024 .f32) (e : Fin 1024) : k0_pay3 (F := Ideal) g (ix2 0 e) = g (ix2 0 e) := by pointwise [k0_pay3]
theorem pay4_apply (g : Vec Ideal S1x1x1024 .f32) (e : Fin 1024) : k0_pay4 (F := Ideal) g (ix2 0 e) = g (ix3 0 0 e) := by pointwise [k0_pay4]
theorem pay5_apply (g : Vec Ideal S1x1x1024 .f32) (e : Fin 1024) : k0_pay5 (F := Ideal) g (ix2 0 e) = g (ix3 0 0 e) := by pointwise [k0_pay5]

theorem pay7_apply (x : FVec Ideal S512x1024 .f32) (g sh sc : FVec Ideal S1x1024 .f32) (u : FVec Ideal S512x1 .f32) (r : Fin 512) (e : Fin 1024) :
    k0_pay7 (F := Ideal) x g sh sc u (Scalar.ofBits .f32 0x358637BD#32) (ix2 r e)
      = x (ix2 r e) * Ideal.rsqrt (u (ix2 r 0) + Ideal.ofBits FTy.f32 0x358637BD#32) * g (ix2 0 e) * (1 + sc (ix2 0 e)) + sh (ix2 0 e) := by
  pointwise [k0_pay7]

theorem pay9_apply (x : FVec Ideal S512x1024 .f32) (g sh sc : FVec Ideal S1x1024 .f32) (u : FVec Ideal S512x1 .f32) (κ : Ideal .f32) (w : Vec Ideal S1024x1024 .bf16)
    (r : Fin 512) (f : Fin 1024) :
    k0_pay9 (F := Ideal) x g sh sc u κ w (ix2 r f) = ∑ e : Fin 1024, k0_pay7 (F := Ideal) x g sh sc u κ (ix2 r e) * w (ix2 e f) := by
  pointwise [k0_pay9]

theorem pay8_apply (x : FVec Ideal S512x1024 .f32) (g sh sc : FVec Ideal S1x1024 .f32) (u : FVec Ideal S512x1 .f32) (κ : Ideal .f32) (w w' v v' : Vec Ideal S1024x1024 .bf16)
    (r : Fin 512) (e : Fin 1024) :
    k0_pay8 (F := Ideal) x g sh sc u κ w v w' v' (ix2 r e)
      = ∑ f : Fin 1024, hidden (fun d => k0_pay7 (F := Ideal) x g sh sc u κ (ix2 r d)) (fun d => w (ix2 d f)) * v (ix2 f e)
        + ∑ f : Fin 1024, hidden (fun d => k0_pay7 (F := Ideal) x g sh sc u κ (ix2 r d)) (fun d => w' (ix2 d f)) * v' (ix2 f e) := by
  pointwise [k0_pay8]
  rfl

theorem pay1_apply (x : FVec Ideal S512x1024 .f32) (h : FVec Ideal S512x1024 .bf16) (acc q : FVec Ideal S512x1024 .f32) (v w v' : Vec Ideal S1024x1024 .bf16)
    (gt : Vec Ideal S1x1x1024 .f32) (r : Fin 512) (e : Fin 1024) :
    k0_pay1 (F := Ideal) x h acc q (Scalar.ofBits .f32 0x00000000#32) v w v' gt (ix3 0 r e)
      = x (ix2 r e) + gt (ix3 0 0 e) * (acc (ix2 r e) + ∑ f : Fin 1024, relu2 (q (ix2 r f)) * v (ix2 f e)
          + ∑ f : Fin 1024, hidden (fun d => h (ix2 r d)) (fun d => w (ix2 d f)) * v' (ix2 f e)) := by
  pointwise [k0_pay1]
  rfl

end Cert.Kernel2Ideal.Row
-- ==== Proof.Mlp2.Body.lean ====
module

public import proofs.«01_k».proof.Proof.Mlp2.Reads
public import proofs.«01_k».proof.Proof.Gen.Kernel2Ideal.Frame
public import Idealize.ShloMosaic.Lib.Pipeline.ValueKit

/-! What one grid point leaves in the result's block, from the blocks it reads. -/

@[expose] public section

set_option maxRecDepth 16384

noncomputable section

namespace Cert.Kernel2Ideal.Row

open Cert.Kernel2Ideal Cert.Kernel2Ideal.Gen Cert.Mlp
open Idealize.ShloMosaic Idealize.SL.Sem

variable (x0 : Vec Ideal S1x512x1024 .f32) (x1 x2 : Vec Ideal S1x512x512 .bf16) (x3 : Vec Ideal S1024x1024 .bf16) (x4 : Vec Ideal S1x1x1024 .f32)
  (x5 : Vec Ideal S1x1024 .f32) (x6 x7 x8 : Vec Ideal S1x1x1024 .f32) (x9 : Vec Ideal S1024x4096 .bf16) (x10 : Vec Ideal S4096x1024 .bf16)
  (x11 : Vec Ideal S1x1024 .f32)

theorem ld_w1 (j : Fin 4) (inb : ∀ a, (![0, 1024 * j.val] : Fin 2 → ℕ) a + S1024x1024.size a ≤ S1024x4096.size a) (d f : Fin 1024) :
    View.ld (Val := Elt Ideal) (e' := .bf16) x9 (Rect.unit (s := S1024x4096) ![0, 1024 * j.val] S1024x1024.size inb) (ix2 d f) = x9 (ix2 d (⟨1024 * j.val + f.val, by omega⟩ : Fin 4096)) :=
  View.ld_unit_apply_of x9 _ _ inb _ _ fun a => by fin_cases a <;> simp

theorem ld_w2 (j : Fin 4) (inb : ∀ a, (![1024 * j.val, 0] : Fin 2 → ℕ) a + S1024x1024.size a ≤ S4096x1024.size a) (f e : Fin 1024) :
    View.ld (Val := Elt Ideal) (e' := .bf16) x10 (Rect.unit (s := S4096x1024) ![1024 * j.val, 0] S1024x1024.size inb) (ix2 f e) = x10 (ix2 (⟨1024 * j.val + f.val, by omega⟩ : Fin 4096) e) :=
  View.ld_unit_apply_of x10 _ _ inb _ _ fun a => by fin_cases a <;> simp

theorem ld_lo (d : Fin 512) (e : Fin 1024) : View.ld (Val := Elt Ideal) (e' := .bf16) x3 r0_1 (ix2 d e) = x3 (ix2 (⟨d.val, by omega⟩ : Fin 1024) e) :=
  View.ld_unit_apply_of x3 _ _ _ _ _ fun a => by fin_cases a <;> simp

theorem ld_hi (d : Fin 512) (e : Fin 1024) : View.ld (Val := Elt Ideal) (e' := .bf16) x3 r0_2 (ix2 d e) = x3 (ix2 (⟨512 + d.val, by omega⟩ : Fin 1024) e) :=
  View.ld_unit_apply_of x3 _ _ _ _ _ fun a => by fin_cases a <;> simp

theorem zero3 : (![0, 0, 0] : Fin 3 → ℕ) = fun _ => 0 := by decide
theorem zero2 : (![0, 0] : Fin 2 → ℕ) = fun _ => 0 := by decide

theorem ld_rows (X : Vec Ideal S1x512x512 .bf16) : View.ld (Val := Elt Ideal) (e' := .bf16) X r0_0 = X := View.ld_unit_zero zero3 _ X
theorem ld_block (X : Vec Ideal S1x512x1024 .f32) : View.ld (Val := Elt Ideal) (e' := .f32) X r0_3 = X := View.ld_unit_zero zero3 _ X
theorem ld_mod (X : Vec Ideal S1x1x1024 .f32) : View.ld (Val := Elt Ideal) (e' := .f32) X r0_4 = X := View.ld_unit_zero zero3 _ X
theorem ld_gain (X : Vec Ideal S1x1024 .f32) : View.ld (Val := Elt Ideal) (e' := .f32) X r0_5 = X := View.ld_unit_zero zero2 _ X

/-- The row after the projection. -/
def first (r : Fin 512) : Fin 1024 → EReal :=
  head (fun d => x0 (ix3 0 r d)) (fun d => x4 (ix3 0 0 d)) (beside (fun d => x1 (ix3 0 r d)) fun d => x2 (ix3 0 r d)) fun d e => x3 (ix2 d e)

/-- The row that enters the two products. -/
def entry (r : Fin 512) : Fin 1024 → EReal :=
  modulated (first x0 x1 x2 x3 x4 r) (fun d => x5 (ix2 0 d)) (fun d => x6 (ix3 0 0 d)) fun d => x7 (ix3 0 0 d)

theorem first_apply (r : Fin 512) (e : Fin 1024) :
    k0_pay10 (F := Ideal) x0 x1 x2 x3 x4 x5 x6 x7 x8 x9 x10 x11 (ix2 r e) = first x0 x1 x2 x3 x4 r e := by
  unfold k0_pay10 first head
  rw [ld_rows, ld_rows, ld_block, ld_mod, pay2_apply, sum_beside]
  exact congrArg₂ (fun p q : EReal => (x0 (ix3 0 r e) : EReal) + (x4 (ix3 0 0 e) : EReal) * (p + q))
    (Finset.sum_congr rfl fun d _ => congrArg (fun z : EReal => (x1 (ix3 0 r d) : EReal) * z) (ld_lo x3 d e))
    (Finset.sum_congr rfl fun d _ => congrArg (fun z : EReal => (x2 (ix3 0 r d) : EReal) * z) (ld_hi x3 d e))

theorem mean_apply (r : Fin 512) :
    k0_pay14 (F := Ideal) x0 x1 x2 x3 x4 x5 x6 x7 x8 x9 x10 x11 (ix2 r 0) = meanSq (first x0 x1 x2 x3 x4 r) :=
  (pay6_apply _ _ _ _ _ _ r).trans (congrArg meanSq (funext fun d => first_apply x0 x1 x2 x3 x4 x5 x6 x7 x8 x9 x10 x11 r d))

theorem entry_apply (r : Fin 512) (e : Fin 1024) :
    k0_pay7 (F := Ideal) (k0_pay10 x0 x1 x2 x3 x4 x5 x6 x7 x8 x9 x10 x11) (k0_pay11 x0 x1 x2 x3 x4 x5 x6 x7 x8 x9 x10 x11)
        (k0_pay12 x0 x1 x2 x3 x4 x5 x6 x7 x8 x9 x10 x11) (k0_pay13 x0 x1 x2 x3 x4 x5 x6 x7 x8 x9 x10 x11)
        (k0_pay14 x0 x1 x2 x3 x4 x5 x6 x7 x8 x9 x10 x11) (Scalar.ofBits .f32 0x358637BD#32) (ix2 r e)
      = entry x0 x1 x2 x3 x4 x5 x6 x7 r e := by
  rw [pay7_apply, first_apply, mean_apply]
  unfold k0_pay11 k0_pay12 k0_pay13 entry modulated normed
  rw [ld_gain, ld_mod, ld_mod, pay3_apply, pay4_apply, pay5_apply]

/-- The block's row. -/
theorem out_apply (r : Fin 512) (e : Fin 1024) :
    out0_12 (F := Ideal) x0 x1 x2 x3 x4 x5 x6 x7 x8 x9 x10 x11 (ix3 0 r e)
      = tail (first x0 x1 x2 x3 x4 r) (fun d => x5 (ix2 0 d)) (fun d => x6 (ix3 0 0 d)) (fun d => x7 (ix3 0 0 d)) (fun d => x8 (ix3 0 0 d))
          (fun d f => x9 (ix2 d f)) (fun f e => x10 (ix2 f e)) e := by
  unfold out0_12 tail
  rw [View.canon_cons_unit_zero zero3, ld_mod, pay1_apply, pay8_apply, mlp_quarters, first_apply]
  simp only [pay9_apply, entry_apply]
  refine congrArg (fun z : EReal => first x0 x1 x2 x3 x4 r e + (x8 (ix3 0 0 e) : EReal) * z) (congrArg₂ _ (congrArg₂ _ (congrArg₂ _ ?_ ?_) ?_) ?_) <;> refine Finset.sum_congr rfl fun f _ => ?_
  · exact congrArg₂ (fun (u : Fin 1024 → EReal) (v : EReal) => hidden _ u * v) (funext fun d => ld_w1 x9 0 _ d f) (ld_w2 x10 0 _ f e)
  · exact congrArg₂ (fun (u : Fin 1024 → EReal) (v : EReal) => hidden _ u * v) (funext fun d => ld_w1 x9 1 _ d f) (ld_w2 x10 1 _ f e)
  · exact congrArg₂ (fun (u : Fin 1024 → EReal) (v : EReal) => hidden _ u * v) (funext fun d => ld_w1 x9 2 _ d f) (ld_w2 x10 2 _ f e)
  · exact congrArg₂ (fun (u : Fin 1024 → EReal) (v : EReal) => hidden _ u * v) (funext fun d => ld_w1 x9 3 _ d f) (ld_w2 x10 3 _ f e)

end Cert.Kernel2Ideal.Row
-- ==== Proof.Mlp2.Array.lean ====
module

public import proofs.«01_k».proof.Proof.Mlp2.Body
public import proofs.«01_k».proof.Proof.Gen.Kernel2Ideal.Value
public import Idealize.ShloMosaic.Lib.Pipeline.Covers

/-! The result's array after the run. -/

@[expose] public section

set_option maxRecDepth 16384

noncomputable section

namespace Cert.Kernel2Ideal.Row

open Cert.Kernel2Ideal Cert.Kernel2Ideal.Gen Cert.Mlp
open Idealize.ShloMosaic Idealize.ShloMosaic.TcCoe Idealize.SL.Sem

/-- The result from what the arguments hold. -/
def result (a0 : S8x8192x1024.Idx → EReal) (a1 a2 : S8x8192x512.Idx → EReal) (a3 : S1024x1024.Idx → EReal) (a4 : S8x1x1024.Idx → EReal) (a5 : S1024.Idx → EReal)
    (a6 a7 a8 : S8x1x1024.Idx → EReal) (a9 : S1024x4096.Idx → EReal) (a10 : S4096x1024.Idx → EReal) : S8x8192x1024.Idx → EReal := fun i =>
  tail (head (fun d => a0 (ix3 (i 0 : Fin 8) (i 1 : Fin 8192) d)) (fun d => a4 (ix3 (i 0 : Fin 8) 0 d))
      (beside (fun d => a1 (ix3 (i 0 : Fin 8) (i 1 : Fin 8192) d)) fun d => a2 (ix3 (i 0 : Fin 8) (i 1 : Fin 8192) d)) fun d e => a3 (ix2 d e))
    (fun d => a5 (ix1 d)) (fun d => a6 (ix3 (i 0 : Fin 8) 0 d)) (fun d => a7 (ix3 (i 0 : Fin 8) 0 d)) (fun d => a8 (ix3 (i 0 : Fin 8) 0 d))
    (fun d f => a9 (ix2 d f)) (fun f e => a10 (ix2 f e)) (i 2 : Fin 1024)

theorem result_apply (a0 : S8x8192x1024.Idx → EReal) (a1 a2 : S8x8192x512.Idx → EReal) (a3 : S1024x1024.Idx → EReal) (a4 : S8x1x1024.Idx → EReal)
    (a5 : S1024.Idx → EReal) (a6 a7 a8 : S8x1x1024.Idx → EReal) (a9 : S1024x4096.Idx → EReal) (a10 : S4096x1024.Idx → EReal) (b : Fin 8) (l : Fin 8192) (e : Fin 1024) :
    result a0 a1 a2 a3 a4 a5 a6 a7 a8 a9 a10 (ix3 b l e)
      = tail (head (fun d => a0 (ix3 b l d)) (fun d => a4 (ix3 b 0 d)) (beside (fun d => a1 (ix3 b l d)) fun d => a2 (ix3 b l d)) fun d e => a3 (ix2 d e))
          (fun d => a5 (ix1 d)) (fun d => a6 (ix3 b 0 d)) (fun d => a7 (ix3 b 0 d)) (fun d => a8 (ix3 b 0 d)) (fun d f => a9 (ix2 d f)) (fun f e => a10 (ix2 f e)) e := rfl

variable (m : (ℓ : Loc nD τ sig) → Buf (Elt Ideal) ℓ) (c : Dev nD)

theorem V0 (b : Fin 8) (l : Fin 8192) (d : Fin 512) : Gen.V m c main_v0 (ix3 b l d) = m ((c : Thread nD τ).loc main_arg1) (ix3 b l d) := by
  entry_read
  pointwise
theorem V1 (b : Fin 8) (l : Fin 8192) (d : Fin 512) : Gen.V m c main_v1 (ix3 b l d) = m ((c : Thread nD τ).loc main_arg2) (ix3 b l d) := by
  entry_read
  pointwise
theorem V2 (d e : Fin 1024) : Gen.V m c main_v2 (ix2 d e) = m ((c : Thread nD τ).loc main_arg3) (ix2 d e) := by
  entry_read
  pointwise
theorem V3 (d : Fin 1024) (f : Fin 4096) : Gen.V m c main_v3 (ix2 d f) = m ((c : Thread nD τ).loc main_arg9) (ix2 d f) := by
  entry_read
  pointwise
theorem V4 (f : Fin 4096) (e : Fin 1024) : Gen.V m c main_v4 (ix2 f e) = m ((c : Thread nD τ).loc main_arg10) (ix2 f e) := by
  entry_read
  pointwise
theorem V6 (e : Fin 1024) : Gen.V m c main_v6 (ix2 0 e) = m ((c : Thread nD τ).loc main_arg5) (ix1 e) := by
  entry_read
  pointwise
theorem Varg0 : Gen.V m c main_arg0 = m ((c : Thread nD τ).loc main_arg0) := by
  entry_read
  rfl
theorem Varg4 : Gen.V m c main_arg4 = m ((c : Thread nD τ).loc main_arg4) := by
  entry_read
  rfl
theorem Varg6 : Gen.V m c main_arg6 = m ((c : Thread nD τ).loc main_arg6) := by
  entry_read
  rfl
theorem Varg7 : Gen.V m c main_arg7 = m ((c : Thread nD τ).loc main_arg7) := by
  entry_read
  rfl
theorem Varg8 : Gen.V m c main_arg8 = m ((c : Thread nD τ).loc main_arg8) := by
  entry_read
  rfl

theorem pts (t : Fin cfg0.N) : t.val < 128 := t.isLt

/-- A point's sample. -/
abbrev smp (t : Fin cfg0.N) : Fin 8 := ⟨t.val / 16, by have := pts t; omega⟩
/-- A point's token. -/
abbrev tok (t : Fin cfg0.N) (r : Fin 512) : Fin 8192 := ⟨512 * (t.val % 16) + r.val, by omega⟩

theorem idx0 : ∀ t : Fin cfg0.N, win0_0.index t = ![t.val / 16, t.val % 16, 0] := (by decide +kernel : ∀ t : Fin grid0.N, win0_0.index t = ![t.val / 16, t.val % 16, 0])
theorem idx1 : ∀ t : Fin cfg0.N, win0_1.index t = ![t.val / 16, t.val % 16, 0] := (by decide +kernel : ∀ t : Fin grid0.N, win0_1.index t = ![t.val / 16, t.val % 16, 0])
theorem idx2 : ∀ t : Fin cfg0.N, win0_2.index t = ![t.val / 16, t.val % 16, 0] := (by decide +kernel : ∀ t : Fin grid0.N, win0_2.index t = ![t.val / 16, t.val % 16, 0])
theorem idx12 : ∀ t : Fin cfg0.N, win0_12.index t = ![t.val / 16, t.val % 16, 0] := (by decide +kernel : ∀ t : Fin grid0.N, win0_12.index t = ![t.val / 16, t.val % 16, 0])
theorem idx3 : ∀ t : Fin cfg0.N, win0_3.index t = ![0, 0] := (by decide +kernel : ∀ t : Fin grid0.N, win0_3.index t = ![0, 0])
theorem idx5 : ∀ t : Fin cfg0.N, win0_5.index t = ![0, 0] := (by decide +kernel : ∀ t : Fin grid0.N, win0_5.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx4 : ∀ t : Fin cfg0.N, win0_4.index t = ![t.val / 16, 0, 0] := (by decide +kernel : ∀ t : Fin grid0.N, win0_4.index t = ![t.val / 16, 0, 0])
theorem idx6 : ∀ t : Fin cfg0.N, win0_6.index t = ![t.val / 16, 0, 0] := (by decide +kernel : ∀ t : Fin grid0.N, win0_6.index t = ![t.val / 16, 0, 0])
theorem idx7 : ∀ t : Fin cfg0.N, win0_7.index t = ![t.val / 16, 0, 0] := (by decide +kernel : ∀ t : Fin grid0.N, win0_7.index t = ![t.val / 16, 0, 0])
theorem idx8 : ∀ t : Fin cfg0.N, win0_8.index t = ![t.val / 16, 0, 0] := (by decide +kernel : ∀ t : Fin grid0.N, win0_8.index t = ![t.val / 16, 0, 0])

theorem iblk0 (t : Fin cfg0.N) (r : Fin 512) (d : Fin 1024) : iblk m c 0 t (ix3 (0 : Fin 1) r d) = Gen.V m c main_arg0 (ix3 (smp t) (tok t r) d) := by
  blk_ext [iblk, idx0 t]
theorem iblk1 (t : Fin cfg0.N) (r : Fin 512) (d : Fin 512) : iblk m c 1 t (ix3 (0 : Fin 1) r d) = Gen.V m c main_v0 (ix3 (smp t) (tok t r) d) := by
  blk_ext [iblk, idx1 t]
theorem iblk2 (t : Fin cfg0.N) (r : Fin 512) (d : Fin 512) : iblk m c 2 t (ix3 (0 : Fin 1) r d) = Gen.V m c main_v1 (ix3 (smp t) (tok t r) d) := by
  blk_ext [iblk, idx2 t]
theorem iblk3 (t : Fin cfg0.N) (d e : Fin 1024) : iblk m c 3 t (ix2 d e) = Gen.V m c main_v2 (ix2 d e) := by
  blk_ext [iblk, idx3 t]
theorem iblk4 (t : Fin cfg0.N) (d : Fin 1024) : iblk m c 4 t (ix3 (0 : Fin 1) (0 : Fin 1) d) = Gen.V m c main_arg4 (ix3 (smp t) (0 : Fin 1) d) := by
  blk_ext [iblk, idx4 t]
theorem iblk5 (t : Fin cfg0.N) (d : Fin 1024) : iblk m c 5 t (ix2 (0 : Fin 1) d) = Gen.V m c main_v6 (ix2 (0 : Fin 1) d) := by
  blk_ext [iblk, idx5 t]
theorem iblk6 (t : Fin cfg0.N) (d : Fin 1024) : iblk m c 6 t (ix3 (0 : Fin 1) (0 : Fin 1) d) = Gen.V m c main_arg6 (ix3 (smp t) (0 : Fin 1) d) := by
  blk_ext [iblk, idx6 t]
theorem iblk7 (t : Fin cfg0.N) (d : Fin 1024) : iblk m c 7 t (ix3 (0 : Fin 1) (0 : Fin 1) d) = Gen.V m c main_arg7 (ix3 (smp t) (0 : Fin 1) d) := by
  blk_ext [iblk, idx7 t]
theorem iblk8 (t : Fin cfg0.N) (d : Fin 1024) : iblk m c 8 t (ix3 (0 : Fin 1) (0 : Fin 1) d) = Gen.V m c main_arg8 (ix3 (smp t) (0 : Fin 1) d) := by
  blk_ext [iblk, idx8 t]
theorem iblk9 (t : Fin cfg0.N) (d : Fin 1024) (f : Fin 4096) : iblk m c 9 t (ix2 d f) = Gen.V m c main_v3 (ix2 d f) := by
  blk_ext [iblk, idx9 t]
theorem iblk10 (t : Fin cfg0.N) (f : Fin 4096) (e : Fin 1024) : iblk m c 10 t (ix2 f e) = Gen.V m c main_v4 (ix2 f e) := by
  blk_ext [iblk, idx10 t]

/-! The blocks from the arguments. -/

theorem blk0 (t : Fin cfg0.N) (r : Fin 512) (d : Fin 1024) : iblk m c 0 t (ix3 (0 : Fin 1) r d) = m ((c : Thread nD τ).loc main_arg0) (ix3 (smp t) (tok t r) d) :=
  (iblk0 m c t r d).trans (congrFun (Varg0 m c) _)
theorem blk1 (t : Fin cfg0.N) (r : Fin 512) (d : Fin 512) : iblk m c 1 t (ix3 (0 : Fin 1) r d) = m ((c : Thread nD τ).loc main_arg1) (ix3 (smp t) (tok t r) d) :=
  (iblk1 m c t r d).trans (V0 m c _ _ _)
theorem blk2 (t : Fin cfg0.N) (r : Fin 512) (d : Fin 512) : iblk m c 2 t (ix3 (0 : Fin 1) r d) = m ((c : Thread nD τ).loc main_arg2) (ix3 (smp t) (tok t r) d) :=
  (iblk2 m c t r d).trans (V1 m c _ _ _)
theorem blk3 (t : Fin cfg0.N) (d e : Fin 1024) : iblk m c 3 t (ix2 d e) = m ((c : Thread nD τ).loc main_arg3) (ix2 d e) :=
  (iblk3 m c t d e).trans (V2 m c _ _)
theorem blk4 (t : Fin cfg0.N) (d : Fin 1024) : iblk m c 4 t (ix3 (0 : Fin 1) (0 : Fin 1) d) = m ((c : Thread nD τ).loc main_arg4) (ix3 (smp t) (0 : Fin 1) d) :=
  (iblk4 m c t d).trans (congrFun (Varg4 m c) _)
theorem blk5 (t : Fin cfg0.N) (d : Fin 1024) : iblk m c 5 t (ix2 (0 : Fin 1) d) = m ((c : Thread nD τ).loc main_arg5) (ix1 d) :=
  (iblk5 m c t d).trans (V6 m c _)
theorem blk6 (t : Fin cfg0.N) (d : Fin 1024) : iblk m c 6 t (ix3 (0 : Fin 1) (0 : Fin 1) d) = m ((c : Thread nD τ).loc main_arg6) (ix3 (smp t) (0 : Fin 1) d) :=
  (iblk6 m c t d).trans (congrFun (Varg6 m c) _)
theorem blk7 (t : Fin cfg0.N) (d : Fin 1024) : iblk m c 7 t (ix3 (0 : Fin 1) (0 : Fin 1) d) = m ((c : Thread nD τ).loc main_arg7) (ix3 (smp t) (0 : Fin 1) d) :=
  (iblk7 m c t d).trans (congrFun (Varg7 m c) _)
theorem blk8 (t : Fin cfg0.N) (d : Fin 1024) : iblk m c 8 t (ix3 (0 : Fin 1) (0 : Fin 1) d) = m ((c : Thread nD τ).loc main_arg8) (ix3 (smp t) (0 : Fin 1) d) :=
  (iblk8 m c t d).trans (congrFun (Varg8 m c) _)
theorem blk9 (t : Fin cfg0.N) (d : Fin 1024) (f : Fin 4096) : iblk m c 9 t (ix2 d f) = m ((c : Thread nD τ).loc main_arg9) (ix2 d f) :=
  (iblk9 m c t d f).trans (V3 m c _ _)
theorem blk10 (t : Fin cfg0.N) (f : Fin 4096) (e : Fin 1024) : iblk m c 10 t (ix2 f e) = m ((c : Thread nD τ).loc main_arg10) (ix2 f e) :=
  (iblk10 m c t f e).trans (V4 m c _ _)

/-- The result from the memory's arguments. -/
abbrev res : S8x8192x1024.Idx → EReal :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

theorem out_at (t : Fin cfg0.N) (r : Fin 512) (e : Fin 1024) :
    out0_12 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (ix3 (0 : Fin 1) r e) = res m c (ix3 (smp t) (tok t r) e) := by
  unfold res
  rw [out_apply, result_apply]
  unfold first
  simp only [blk0, blk1, blk2, blk3, blk4, blk5, blk6, blk7, blk8, blk9, blk10]

theorem out_block (t : Fin cfg0.N) (y : S1x512x1024.Idx) (i : S8x8192x1024.Idx)
    (h0 : (i 0).val = t.val / 16) (h1 : (i 1).val = 512 * (t.val % 16) + (y 1).val) (h2 : (i 2).val = (y 2).val) :
    out0_12 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) y = res m c i := by
  have hy : y = ix3 (0 : Fin 1) (y 1 : Fin 512) (y 2 : Fin 1024) := funext fun a => by
    fin_cases a
    · exact Subsingleton.elim (α := Fin 1) _ _
    · rfl
    · rfl
  have hi : i = ix3 (smp t) (tok t (y 1)) (y 2 : Fin 1024) := funext fun a => by
    fin_cases a
    · exact Fin.ext h0
    · exact Fin.ext h1
    · exact Fin.ext h2
  rw [hi]
  exact (congrArg _ hy).trans (out_at m c t _ _)

theorem final : (dats m 0 c).arrAt 12 cfg0.N = res m c := by
  refine (dats m 0 c).arrAt_eq_of_covers 12 _ (by decide +kernel) fun t hf y => ?_
  rw [after0_12]
  blk_simp
  refine out_block m c t _ _ ?_ ?_ ?_ <;> simp [idx12 t, Nat.mul_comm]

end Cert.Kernel2Ideal.Row
-- ==== Proof.Mlp2.Reference.lean ====
module

public import proofs.«01_k».proof.Proof.Gen.Reference2Ideal.Run
public import proofs.«01_k».proof.Proof.Mlp.Spec

/-! The reference's term in stages, read entry by entry. -/

@[expose] public section

set_option maxRecDepth 16384

noncomputable section

namespace Cert.Reference2Ideal.Stage

open Cert.Reference2Ideal Cert.Reference2Ideal.Gen Cert.Mlp
open Idealize.ShloMosaic Idealize.ShloMosaic.TcCoe Idealize.SL.Sem

/-- The joined rows. -/
def joined (a1 a2 : FVec Ideal S8x8192x512 .f32) : FVec Ideal S8x8192x1024 .f32 :=
  concatenate S8x8192x1024 2 [⟨S8x8192x512, a1⟩, ⟨S8x8192x512, a2⟩] concatenates_S8x8192x512_S8x8192x512_S8x8192x1024_d2

/-- The projection's residual. -/
def resid (a0 p : FVec Ideal S8x8192x1024 .f32) (a3 : FVec Ideal S1024x1024 .f32) (a4 : FVec Ideal S8x1x1024 .f32) : FVec Ideal S8x8192x1024 .f32 :=
  addf a0 (mulf (broadcastInDim S8x8192x1024 ![0, 1, 2] bcast_S8x1x1024_S8x8192x1024_0_1_2 a4) (Host.dotGeneral dot_S8x8192x1024_S1024x1024_S8x8192x1024_2_0_01_1_n_n none p a3))

/-- The normalised and modulated rows. -/
def entry (x : FVec Ideal S8x8192x1024 .f32) (a5 : FVec Ideal S1024 .f32) (a6 a7 : FVec Ideal S8x1x1024 .f32) : FVec Ideal S8x8192x1024 .f32 :=
  addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 a5))) (broadcastInDim S8x8192x1024 ![0, 1, 2] bcast_S8x1x1024_S8x8192x1024_0_1_2 (addf (broadcastInDim S8x1x1024 ![] bcast_S_S8x1x1024 (constant S_ .f32 0x3F800000#32)) a7))) (broadcastInDim S8x8192x1024 ![0, 1, 2] bcast_S8x1x1024_S8x8192x1024_0_1_2 a6)

/-- The hidden units before their rectifier. -/
def inner (h : FVec Ideal S8x8192x1024 .f32) (a9 : FVec Ideal S1024x4096 .f32) : FVec Ideal S8x8192x4096 .f32 :=
  maximumf (Host.dotGeneral dot_S8x8192x1024_S1024x4096_S8x8192x4096_2_0_01_1_n_n none h a9) (broadcastInDim S8x8192x4096 ![] bcast_S_S8x8192x4096 (constant S_ .f32 0x00000000#32))

/-- The second product's residual. -/
def close (x : FVec Ideal S8x8192x1024 .f32) (u : FVec Ideal S8x8192x4096 .f32) (a8 : FVec Ideal S8x1x1024 .f32) (a10 : FVec Ideal S4096x1024 .f32) : FVec Ideal S8x8192x1024 .f32 :=
  addf x (mulf (broadcastInDim S8x8192x1024 ![0, 1, 2] bcast_S8x1x1024_S8x8192x1024_0_1_2 a8) (Host.dotGeneral dot_S8x8192x4096_S4096x1024_S8x8192x1024_2_0_01_1_n_n none (mulf u u) a10))

/-- The reference's result in stages. -/
def whole (a0 : FVec Ideal S8x8192x1024 .f32) (a1 a2 : FVec Ideal S8x8192x512 .f32) (a3 : FVec Ideal S1024x1024 .f32) (a4 : FVec Ideal S8x1x1024 .f32) (a5 : FVec Ideal S1024 .f32)
    (a6 a7 a8 : FVec Ideal S8x1x1024 .f32) (a9 : FVec Ideal S1024x4096 .f32) (a10 : FVec Ideal S4096x1024 .f32) : FVec Ideal S8x8192x1024 .f32 :=
  close (resid a0 (joined a1 a2) a3 a4) (inner (entry (resid a0 (joined a1 a2) a3 a4) a5 a6 a7) a9) a8 a10

theorem res_eq (m : (ℓ : Loc nD τ sig) → Buf (Elt Ideal) ℓ) (c : Dev nD) :
    Value.res_main_v30 (F := Ideal) m c
      = whole (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := rfl

theorem joined_apply (a1 a2 : FVec Ideal S8x8192x512 .f32) (b : Fin 8) (l : Fin 8192) (d : Fin 1024) :
    joined a1 a2 (ix3 b l d) = beside (fun e => a1 (ix3 b l e)) (fun e => a2 (ix3 b l e)) d := by
  pointwise [joined]
  rfl

theorem resid_apply (a0 p : FVec Ideal S8x8192x1024 .f32) (a3 : FVec Ideal S1024x1024 .f32) (a4 : FVec Ideal S8x1x1024 .f32) (b : Fin 8) (l : Fin 8192) (e : Fin 1024) :
    resid a0 p a3 a4 (ix3 b l e) = head (fun d => a0 (ix3 b l d)) (fun d => a4 (ix3 b 0 d)) (fun d => p (ix3 b l d)) (fun d e => a3 (ix2 d e)) e := by
  pointwise [resid]
  rfl

theorem entry_apply (x : FVec Ideal S8x8192x1024 .f32) (a5 : FVec Ideal S1024 .f32) (a6 a7 : FVec Ideal S8x1x1024 .f32) (b : Fin 8) (l : Fin 8192) (e : Fin 1024) :
    entry x a5 a6 a7 (ix3 b l e) = modulated (fun d => x (ix3 b l d)) (fun d => a5 (ix1 d)) (fun d => a6 (ix3 b 0 d)) (fun d => a7 (ix3 b 0 d)) e := by
  pointwise [entry]
  rfl

theorem inner_apply (h : FVec Ideal S8x8192x1024 .f32) (a9 : FVec Ideal S1024x4096 .f32) (b : Fin 8) (l : Fin 8192) (f : Fin 4096) :
    inner h a9 (ix3 b l f) = max (∑ e, h (ix3 b l e) * a9 (ix2 e f)) 0 := by
  pointwise [inner]

theorem close_apply (x : FVec Ideal S8x8192x1024 .f32) (u : FVec Ideal S8x8192x4096 .f32) (a8 : FVec Ideal S8x1x1024 .f32) (a10 : FVec Ideal S4096x1024 .f32)
    (b : Fin 8) (l : Fin 8192) (e : Fin 1024) :
    close x u a8 a10 (ix3 b l e) = x (ix3 b l e) + a8 (ix3 b 0 e) * ∑ f, u (ix3 b l f) * u (ix3 b l f) * a10 (ix2 f e) := by
  pointwise [close]

theorem whole_apply (a0 : FVec Ideal S8x8192x1024 .f32) (a1 a2 : FVec Ideal S8x8192x512 .f32) (a3 : FVec Ideal S1024x1024 .f32) (a4 : FVec Ideal S8x1x1024 .f32) (a5 : FVec Ideal S1024 .f32)
    (a6 a7 a8 : FVec Ideal S8x1x1024 .f32) (a9 : FVec Ideal S1024x4096 .f32) (a10 : FVec Ideal S4096x1024 .f32) (b : Fin 8) (l : Fin 8192) (e : Fin 1024) :
    whole a0 a1 a2 a3 a4 a5 a6 a7 a8 a9 a10 (ix3 b l e)
      = tail (head (fun d => a0 (ix3 b l d)) (fun d => a4 (ix3 b 0 d)) (beside (fun d => a1 (ix3 b l d)) fun d => a2 (ix3 b l d)) fun d e => a3 (ix2 d e))
          (fun d => a5 (ix1 d)) (fun d => a6 (ix3 b 0 d)) (fun d => a7 (ix3 b 0 d)) (fun d => a8 (ix3 b 0 d)) (fun d f => a9 (ix2 d f)) (fun f e => a10 (ix2 f e)) e := by
  unfold whole
  simp only [close_apply, inner_apply, entry_apply, resid_apply, joined_apply]
  rfl

end Cert.Reference2Ideal.Stage
-- ==== Proof.Mlp2.Algebraic.lean ====
module

public import proofs.«01_k».proof.Defs
public import proofs.«01_k».proof.Proof.Mlp2.Array
public import proofs.«01_k».proof.Proof.Mlp2.Reference

/-! The even layer's call and its reference return the same array. -/

@[expose] public section

set_option maxRecDepth 16384

noncomputable section

namespace Cert.Proof

open Idealize.ShloMosaic Idealize.ShloMosaic.TcCoe Idealize.SL.Sem

theorem reference2_result (a0 : Cert.Reference2Ideal.S8x8192x1024.Idx → EReal) (a1 a2 : Cert.Reference2Ideal.S8x8192x512.Idx → EReal) (a3 : Cert.Reference2Ideal.S1024x1024.Idx → EReal)
    (a4 : Cert.Reference2Ideal.S8x1x1024.Idx → EReal) (a5 : Cert.Reference2Ideal.S1024.Idx → EReal) (a6 a7 a8 : Cert.Reference2Ideal.S8x1x1024.Idx → EReal)
    (a9 : Cert.Reference2Ideal.S1024x4096.Idx → EReal) (a10 : Cert.Reference2Ideal.S4096x1024.Idx → EReal) :
    Cert.Reference2Ideal.Stage.whole a0 a1 a2 a3 a4 a5 a6 a7 a8 a9 a10 = Cert.Kernel2Ideal.Row.result a0 a1 a2 a3 a4 a5 a6 a7 a8 a9 a10 := by
  funext i
  have hi : i = ix3 (i 0 : Fin 8) (i 1 : Fin 8192) (i 2 : Fin 1024) := funext fun a => by fin_cases a <;> rfl
  rw [hi]
  exact Cert.Reference2Ideal.Stage.whole_apply a0 a1 a2 a3 a4 a5 a6 a7 a8 a9 a10 _ _ _

theorem algebraic2 : Cert.algebraic_Kernel2Ideal_Reference2Ideal := by
  intro m ρ m' ρ' _ hagree
  refine ⟨fun c => Cert.Kernel2Ideal.Row.res m c, ?_, ?_⟩
  · exact (θ_run Cert.Kernel2Ideal.defs _ _).mono
      (fun r h c => ⟨(h c).1.trans (Cert.Kernel2Ideal.Row.final m c), (h c).2⟩)
      (Cert.Kernel2Ideal.Value.run_blocks (F := Ideal) m ρ)
  · refine (θ_run Cert.Reference2Ideal.defs _ _).mono (fun r h c => ⟨(h c).1.trans ?_, (h c).2⟩)
      (Cert.Reference2Ideal.Value.run (F := Ideal) m' ρ')
    obtain ⟨e0, e1, e2, e3, e4, e5, e6, e7, e8, e9, e10⟩ := hagree c
    rw [Cert.Reference2Ideal.Stage.res_eq, e0, e1, e2, e3, e4, e5, e6, e7, e8, e9, e10]
    exact reference2_result _ _ _ _ _ _ _ _ _ _ _

end Cert.Proof
-- ==== Proof.Mlp3.Reads.lean ====
module

public import proofs.«01_k».proof.Proof.Mlp.Spec
public import proofs.«01_k».proof.Proof.Gen.Kernel3Ideal.Skeleton

/-! The body's computations read entry by entry. -/

@[expose] public section

set_option maxRecDepth 16384

noncomputable section

namespace Cert.Kernel3Ideal.Row

open Cert.Kernel3Ideal Cert.Kernel3Ideal.Gen Cert.Mlp
open Idealize.ShloMosaic Idealize.SL.Sem

theorem pay2_apply (a b : Vec Ideal S1x512x512 .f32) (r e : Fin 512) : k0_pay2 (F := Ideal) a b (ix2 r e) = a (ix3 0 r e) + b (ix3 0 r e) := by
  pointwise [k0_pay2]

theorem pay3_apply (a b : Vec Ideal S1x512x512 .f32) (g : Vec Ideal S1x128 .f32) (z : Vec Ideal S1x512x128 .f32) (r : Fin 512) (d : Fin 128) :
    k0_pay3 (F := Ideal) a b g z (ix2 r d)
      = headRow (part (fun e => k0_pay2 (F := Ideal) a b (ix2 r e)) 0) (fun d => g (ix2 0 d)) (fun d => z (ix3 0 r d)) d := by
  rw [part_zero]
  pointwise [k0_pay3]
  rfl

theorem pay6_apply (a b : Vec Ideal S1x512x512 .f32) (g : Vec Ideal S1x128 .f32) (z : Vec Ideal S1x512x128 .f32) (r : Fin 512) (d : Fin 128) :
    k0_pay6 (F := Ideal) (k0_pay4 a b) (k0_pay5 g) z (ix2 r d)
      = headRow (part (fun e => k0_pay2 (F := Ideal) a b (ix2 r e)) 1) (fun d => g (ix2 0 d)) (fun d => z (ix3 0 r d)) d := by
  pointwise [k0_pay6, k0_pay4, k0_pay5]
  rfl

theorem pay7_apply (o : FVec Ideal S512x512 .f32) (g : Vec Ideal S1x128 .f32) (z : Vec Ideal S1x512x128 .f32) (r : Fin 512) (d : Fin 128) :
    k0_pay7 (F := Ideal) o g z (ix2 r d) = headRow (part (fun e => o (ix2 r e)) 2) (fun d => g (ix2 0 d)) (fun d => z (ix3 0 r d)) d := by
  pointwise [k0_pay7]
  rfl

theorem pay9_apply (u0 u1 u2 : FVec Ideal S512x128 .bf16) (o : FVec Ideal S512x512 .f32) (g : Vec Ideal S1x128 .f32) (z : Vec Ideal S1x512x128 .f32)
    (hy : Vec Ideal S1x512x512 .f32) (w w' : Vec Ideal S512x1024 .bf16) (x : Vec Ideal S1x512x1024 .f32) (gt : Vec Ideal S1x1x1024 .f32) (r : Fin 512) (e : Fin 1024) :
    k0_pay9 (F := Ideal) u0 u1 u2 (k0_pay8 o g) z hy w w' x gt (ix2 r e)
      = x (ix3 0 r e) + gt (ix3 0 0 e) * (∑ d : Fin 512, hy (ix3 0 d r) * w (ix2 d e)
          + ∑ d : Fin 512, beside4 (fun d => u0 (ix2 r d)) (fun d => u1 (ix2 r d)) (fun d => u2 (ix2 r d))
              (headRow (part (fun e => o (ix2 r e)) 3) (fun d => g (ix2 0 d)) (fun d => z (ix3 0 r d))) d * w' (ix2 d e)) := by
  pointwise [k0_pay9, k0_pay8]
  unfold beside4 headRow part
  rfl

theorem pay13_apply (u0 u1 u2 : FVec Ideal S512x128 .bf16) (u3 : FVec Ideal S512x128 .f32) (z : Vec Ideal S1x512x128 .f32)
    (hy : Vec Ideal S1x512x512 .f32) (w w' : Vec Ideal S512x1024 .bf16) (x : Vec Ideal S1x512x1024 .f32) (gt : Vec Ideal S1x1x1024 .f32) (r : Fin 512) :
    k0_pay13 (F := Ideal) u0 u1 u2 u3 z hy w w' x gt (ix2 r 0)
      = ∑ d, k0_pay9 (F := Ideal) u0 u1 u2 u3 z hy w w' x gt (ix2 r d) * k0_pay9 (F := Ideal) u0 u1 u2 u3 z hy w w' x gt (ix2 r d) := by
  pointwise [k0_pay13]

theorem pay10_apply (g : Vec Ideal S1x1024 .f32) (e : Fin 1024) : k0_pay10 (F := Ideal) g (ix2 0 e) = g (ix2 0 e) := by pointwise [k0_pay10]
theorem pay11_apply (g : Vec Ideal S1x1x1024 .f32) (e : Fin 1024) : k0_pay11 (F := Ideal) g (ix2 0 e) = g (ix3 0 0 e) := by pointwise [k0_pay11]
theorem pay12_apply (g : Vec Ideal S1x1x1024 .f32) (e : Fin 1024) : k0_pay12 (F := Ideal) g (ix2 0 e) = g (ix3 0 0 e) := by pointwise [k0_pay12]

theorem pay14_apply (x : FVec Ideal S512x1024 .f32) (g sh sc : FVec Ideal S1x1024 .f32) (u : FVec Ideal S512x1 .f32) (r : Fin 512) (e : Fin 1024) :
    k0_pay14 (F := Ideal) x g sh sc u (ix2 r e)
      = x (ix2 r e) * Ideal.rsqrt (Ideal.div (u (ix2 r 0)) (Ideal.ofBits FTy.f32 0x44800000#32) + Ideal.ofBits FTy.f32 0x358637BD#32) * g (ix2 0 e) * (1 + sc (ix2 0 e)) + sh (ix2 0 e) := by
  pointwise [k0_pay14]

theorem pay15_apply (x : FVec Ideal S512x1024 .f32) (g sh sc : FVec Ideal S1x1024 .f32) (u : FVec Ideal S512x1 .f32) (w v w' v' : Vec Ideal S1024x1024 .bf16)
    (r : Fin 512) (e : Fin 1024) :
    k0_pay15 (F := Ideal) x g sh sc u w v w' v' (ix2 r e)
      = ∑ f : Fin 1024, hidden (fun d => k0_pay14 (F := Ideal) x g sh sc u (ix2 r d)) (fun d => w (ix2 d f)) * v (ix2 f e)
        + ∑ f : Fin 1024, hidden (fun d => k0_pay14 (F := Ideal) x g sh sc u (ix2 r d)) (fun d => w' (ix2 d f)) * v' (ix2 f e) := by
  pointwise [k0_pay15]
  rfl

/-- The row with both residuals, before the last norm. -/
def second (x : FVec Ideal S512x1024 .f32) (h : FVec Ideal S512x1024 .bf16) (acc : FVec Ideal S512x1024 .f32) (w v w' v' : Vec Ideal S1024x1024 .bf16)
    (gt : Vec Ideal S1x1x1024 .f32) (r : Fin 512) (e : Fin 1024) : EReal :=
  x (ix2 r e) + gt (ix3 0 0 e) * (acc (ix2 r e) + ∑ f : Fin 1024, hidden (fun d => h (ix2 r d)) (fun d => w (ix2 d f)) * v (ix2 f e)
          + ∑ f : Fin 1024, hidden (fun d => h (ix2 r d)) (fun d => w' (ix2 d f)) * v' (ix2 f e))

theorem pay16_apply (x : FVec Ideal S512x1024 .f32) (h : FVec Ideal S512x1024 .bf16) (acc : FVec Ideal S512x1024 .f32) (w v w' v' : Vec Ideal S1024x1024 .bf16)
    (gt : Vec Ideal S1x1x1024 .f32) (gf : Vec Ideal S1x1024 .f32) (r : Fin 512) (e : Fin 1024) :
    k0_pay1 (F := Ideal) (k0_pay16 x h acc w v w' v' gt gf) (ix3 0 r e) = normed (second x h acc w v w' v' gt r) (fun d => gf (ix2 0 d)) e := by
  pointwise [k0_pay1, k0_pay16]
  rfl

end Cert.Kernel3Ideal.Row
-- ==== Proof.Mlp3.Body.lean ====
module

public import proofs.«01_k».proof.Proof.Mlp3.Reads
public import proofs.«01_k».proof.Proof.Gen.Kernel3Ideal.Frame
public import Idealize.ShloMosaic.Lib.Pipeline.ValueKit

/-! What one grid point leaves in the result's block, from the blocks it reads. -/

@[expose] public section

set_option maxRecDepth 16384

noncomputable section

namespace Cert.Kernel3Ideal.Row

open Cert.Kernel3Ideal Cert.Kernel3Ideal.Gen Cert.Mlp
open Idealize.ShloMosaic Idealize.SL.Sem

variable (x0 : Vec Ideal S1x512x1024 .f32) (x1 x2 x3 x4 : Vec Ideal S1x512x512 .f32) (x5 : Vec Ideal S1x128 .f32) (x6 : Vec Ideal S1024x1024 .bf16)
  (x7 : Vec Ideal S1x1x1024 .f32) (x8 : Vec Ideal S1x1024 .f32) (x9 x10 x11 : Vec Ideal S1x1x1024 .f32) (x12 : Vec Ideal S1024x4096 .bf16)
  (x13 : Vec Ideal S4096x1024 .bf16) (x14 : Vec Ideal S1x1024 .f32)

theorem ld_w1 (j : Fin 4) (inb : ∀ a, (![0, 1024 * j.val] : Fin 2 → ℕ) a + S1024x1024.size a ≤ S1024x4096.size a) (d f : Fin 1024) :
    View.ld (Val := Elt Ideal) (e' := .bf16) x12 (Rect.unit (s := S1024x4096) ![0, 1024 * j.val] S1024x1024.size inb) (ix2 d f) = x12 (ix2 d (⟨1024 * j.val + f.val, by omega⟩ : Fin 4096)) :=
  View.ld_unit_apply_of x12 _ _ inb _ _ fun a => by fin_cases a <;> simp

theorem ld_w2 (j : Fin 4) (inb : ∀ a, (![1024 * j.val, 0] : Fin 2 → ℕ) a + S1024x1024.size a ≤ S4096x1024.size a) (f e : Fin 1024) :
    View.ld (Val := Elt Ideal) (e' := .bf16) x13 (Rect.unit (s := S4096x1024) ![1024 * j.val, 0] S1024x1024.size inb) (ix2 f e) = x13 (ix2 (⟨1024 * j.val + f.val, by omega⟩ : Fin 4096) e) :=
  View.ld_unit_apply_of x13 _ _ inb _ _ fun a => by fin_cases a <;> simp

theorem ld_lo (d : Fin 512) (e : Fin 1024) : View.ld (Val := Elt Ideal) (e' := .bf16) x6 r0_6 (ix2 d e) = x6 (ix2 (⟨d.val, by omega⟩ : Fin 1024) e) :=
  View.ld_unit_apply_of x6 _ _ _ _ _ fun a => by fin_cases a <;> simp

theorem ld_hi (d : Fin 512) (e : Fin 1024) : View.ld (Val := Elt Ideal) (e' := .bf16) x6 r0_7 (ix2 d e) = x6 (ix2 (⟨512 + d.val, by omega⟩ : Fin 1024) e) :=
  View.ld_unit_apply_of x6 _ _ _ _ _ fun a => by fin_cases a <;> simp

theorem ld_gate (h : Fin 4) (inb : ∀ a, (![0, 0, 128 * h.val] : Fin 3 → ℕ) a + S1x512x128.size a ≤ S1x512x512.size a) (r : Fin 512) :
    (fun d : Fin 128 => View.ld (Val := Elt Ideal) (e' := .f32) x4 (Rect.unit (s := S1x512x512) ![0, 0, 128 * h.val] S1x512x128.size inb) (ix3 (0 : Fin 1) r d))
      = part (fun e => x4 (ix3 (0 : Fin 1) r e)) h :=
  funext fun d => View.ld_unit_apply_of x4 _ _ inb _ _ fun a => by fin_cases a <;> simp

theorem zero3 : (![0, 0, 0] : Fin 3 → ℕ) = fun _ => 0 := by decide
theorem zero2 : (![0, 0] : Fin 2 → ℕ) = fun _ => 0 := by decide

theorem ld_rows (X : Vec Ideal S1x512x512 .f32) : View.ld (Val := Elt Ideal) (e' := .f32) X r0_0 = X := View.ld_unit_zero zero3 _ X
theorem ld_norm (X : Vec Ideal S1x128 .f32) : View.ld (Val := Elt Ideal) (e' := .f32) X r0_1 = X := View.ld_unit_zero zero2 _ X
theorem ld_block (X : Vec Ideal S1x512x1024 .f32) : View.ld (Val := Elt Ideal) (e' := .f32) X r0_8 = X := View.ld_unit_zero zero3 _ X
theorem ld_mod (X : Vec Ideal S1x1x1024 .f32) : View.ld (Val := Elt Ideal) (e' := .f32) X r0_9 = X := View.ld_unit_zero zero3 _ X
theorem ld_gain (X : Vec Ideal S1x1024 .f32) : View.ld (Val := Elt Ideal) (e' := .f32) X r0_10 = X := View.ld_unit_zero zero2 _ X

/-- The two directions' rows added. -/
def both (r e : Fin 512) : EReal := x2 (ix3 0 r e) + x3 (ix3 0 r e)

/-- The row after the projection. -/
def first (r : Fin 512) : Fin 1024 → EReal :=
  head (fun d => x0 (ix3 0 r d)) (fun d => x7 (ix3 0 0 d))
    (beside (fun d => x1 (ix3 0 d r)) (gated (both x2 x3 r) (fun d => x5 (ix2 0 d)) fun e => x4 (ix3 0 r e))) fun d e => x6 (ix2 d e)

/-- The row that enters the two products. -/
def entry (r : Fin 512) : Fin 1024 → EReal :=
  modulated (first x0 x1 x2 x3 x4 x5 x6 x7 r) (fun d => x8 (ix2 0 d)) (fun d => x9 (ix3 0 0 d)) fun d => x10 (ix3 0 0 d)

theorem both_apply (r : Fin 512) : (fun e => k0_pay2 (F := Ideal) x2 x3 (ix2 r e)) = both x2 x3 r := funext fun e => pay2_apply x2 x3 r e

theorem head0_apply (r : Fin 512) :
    (fun d => k0_pay18 (F := Ideal) x0 x1 x2 x3 x4 x5 x6 x7 x8 x9 x10 x11 x12 x13 x14 (ix2 r d))
      = headRow (part (both x2 x3 r) 0) (fun d => x5 (ix2 0 d)) (part (fun e => x4 (ix3 0 r e)) 0) := by
  funext d
  unfold k0_pay18
  rw [ld_rows, ld_rows, ld_norm, pay3_apply, both_apply]
  exact congrArg (headRow _ _ · d) (ld_gate x4 0 _ r)

theorem head1_apply (r : Fin 512) :
    (fun d => k0_pay19 (F := Ideal) x0 x1 x2 x3 x4 x5 x6 x7 x8 x9 x10 x11 x12 x13 x14 (ix2 r d))
      = headRow (part (both x2 x3 r) 1) (fun d => x5 (ix2 0 d)) (part (fun e => x4 (ix3 0 r e)) 1) := by
  funext d
  unfold k0_pay19
  rw [ld_rows, ld_rows, ld_norm, pay6_apply, both_apply]
  exact congrArg (headRow _ _ · d) (ld_gate x4 1 _ r)

theorem head2_apply (r : Fin 512) :
    (fun d => k0_pay20 (F := Ideal) x0 x1 x2 x3 x4 x5 x6 x7 x8 x9 x10 x11 x12 x13 x14 (ix2 r d))
      = headRow (part (both x2 x3 r) 2) (fun d => x5 (ix2 0 d)) (part (fun e => x4 (ix3 0 r e)) 2) := by
  funext d
  unfold k0_pay20 k0_pay17
  rw [ld_rows, ld_rows, ld_norm, pay7_apply, both_apply]
  exact congrArg (headRow _ _ · d) (ld_gate x4 2 _ r)

theorem first_apply (r : Fin 512) (e : Fin 1024) :
    k0_pay22 (F := Ideal) x0 x1 x2 x3 x4 x5 x6 x7 x8 x9 x10 x11 x12 x13 x14 (ix2 r e) = first x0 x1 x2 x3 x4 x5 x6 x7 r e := by
  unfold k0_pay22 k0_pay21 k0_pay17 first head
  rw [ld_rows, ld_rows, ld_rows, ld_norm, ld_block, ld_mod, pay9_apply, sum_beside, head0_apply, head1_apply, head2_apply, both_apply]
  refine congrArg₂ (fun p q : EReal => (x0 (ix3 0 r e) : EReal) + (x7 (ix3 0 0 e) : EReal) * (p + q))
    (Finset.sum_congr rfl fun d _ => congrArg (fun z : EReal => (x1 (ix3 0 d r) : EReal) * z) (ld_lo x6 d e))
    (Finset.sum_congr rfl fun d _ => congrArg₂ (fun y z : EReal => y * z) ?_ (ld_hi x6 d e))
  rw [← beside4_gated]
  exact congrArg (fun u => beside4 _ _ _ (headRow _ _ u) d) (ld_gate x4 3 _ r)

theorem sq_apply (r : Fin 512) :
    k0_pay26 (F := Ideal) x0 x1 x2 x3 x4 x5 x6 x7 x8 x9 x10 x11 x12 x13 x14 (ix2 r 0) = ∑ d, first x0 x1 x2 x3 x4 x5 x6 x7 r d * first x0 x1 x2 x3 x4 x5 x6 x7 r d :=
  (pay13_apply _ _ _ _ _ _ _ _ _ _ r).trans (Finset.sum_congr rfl fun d _ =>
    congrArg (fun z : EReal => z * z) (first_apply x0 x1 x2 x3 x4 x5 x6 x7 x8 x9 x10 x11 x12 x13 x14 r d))

theorem entry_apply (r : Fin 512) (e : Fin 1024) :
    k0_pay14 (F := Ideal) (k0_pay22 x0 x1 x2 x3 x4 x5 x6 x7 x8 x9 x10 x11 x12 x13 x14) (k0_pay23 x0 x1 x2 x3 x4 x5 x6 x7 x8 x9 x10 x11 x12 x13 x14)
        (k0_pay24 x0 x1 x2 x3 x4 x5 x6 x7 x8 x9 x10 x11 x12 x13 x14) (k0_pay25 x0 x1 x2 x3 x4 x5 x6 x7 x8 x9 x10 x11 x12 x13 x14)
        (k0_pay26 x0 x1 x2 x3 x4 x5 x6 x7 x8 x9 x10 x11 x12 x13 x14) (ix2 r e)
      = entry x0 x1 x2 x3 x4 x5 x6 x7 x8 x9 x10 r e := by
  rw [pay14_apply, first_apply, sq_apply]
  unfold k0_pay23 k0_pay24 k0_pay25 entry modulated normed meanSq
  rw [ld_gain, ld_mod, ld_mod, pay10_apply, pay11_apply, pay12_apply]

/-- The block's row. -/
theorem out_apply (r : Fin 512) (e : Fin 1024) :
    out0_15 (F := Ideal) x0 x1 x2 x3 x4 x5 x6 x7 x8 x9 x10 x11 x12 x13 x14 (ix3 0 r e)
      = normed (tail (first x0 x1 x2 x3 x4 x5 x6 x7 r) (fun d => x8 (ix2 0 d)) (fun d => x9 (ix3 0 0 d)) (fun d => x10 (ix3 0 0 d)) (fun d => x11 (ix3 0 0 d))
          (fun d f => x12 (ix2 d f)) (fun f e => x13 (ix2 f e))) (fun d => x14 (ix2 0 d)) e := by
  unfold out0_15
  rw [View.canon_cons_unit_zero zero3, ld_mod, ld_gain, pay16_apply]
  refine congrArg (normed · _ e) (funext fun e => ?_)
  unfold second tail
  rw [pay15_apply, mlp_quarters, first_apply]
  simp only [entry_apply]
  refine congrArg (fun z : EReal => first x0 x1 x2 x3 x4 x5 x6 x7 r e + (x11 (ix3 0 0 e) : EReal) * z) (congrArg₂ _ (congrArg₂ _ (congrArg₂ _ ?_ ?_) ?_) ?_) <;>
    refine Finset.sum_congr rfl fun f _ => ?_
  · exact congrArg₂ (fun (u : Fin 1024 → EReal) (v : EReal) => hidden _ u * v) (funext fun d => ld_w1 x12 0 _ d f) (ld_w2 x13 0 _ f e)
  · exact congrArg₂ (fun (u : Fin 1024 → EReal) (v : EReal) => hidden _ u * v) (funext fun d => ld_w1 x12 1 _ d f) (ld_w2 x13 1 _ f e)
  · exact congrArg₂ (fun (u : Fin 1024 → EReal) (v : EReal) => hidden _ u * v) (funext fun d => ld_w1 x12 2 _ d f) (ld_w2 x13 2 _ f e)
  · exact congrArg₂ (fun (u : Fin 1024 → EReal) (v : EReal) => hidden _ u * v) (funext fun d => ld_w1 x12 3 _ d f) (ld_w2 x13 3 _ f e)

end Cert.Kernel3Ideal.Row
-- ==== Proof.Mlp3.Array.lean ====
module

public import proofs.«01_k».proof.Proof.Mlp3.Body
public import proofs.«01_k».proof.Proof.Gen.Kernel3Ideal.Value
public import Idealize.ShloMosaic.Lib.Pipeline.Covers

/-! The result's array after the run. -/

@[expose] public section

set_option maxRecDepth 16384

noncomputable section

namespace Cert.Kernel3Ideal.Row

open Cert.Kernel3Ideal Cert.Kernel3Ideal.Gen Cert.Mlp
open Idealize.ShloMosaic Idealize.ShloMosaic.TcCoe Idealize.SL.Sem

/-- A channel's head. -/
abbrev hd (e : Fin 512) : Fin 4 := ⟨e.val / 128, by omega⟩
/-- A channel's place in its head. -/
abbrev ch (e : Fin 512) : Fin 128 := ⟨e.val % 128, by omega⟩

variable (m : (ℓ : Loc nD τ sig) → Buf (Elt Ideal) ℓ) (c : Dev nD)

theorem V2 (b : Fin 8) (l : Fin 8192) (e : Fin 512) : Gen.V m c main_v2 (ix3 b l e) = m ((c : Thread nD τ).loc main_arg2) (ix4 b (hd e) l (ch e)) := by
  simp only [Gen.V, hostOps0, hostOps0_1, List.flatten_cons, List.flatten_nil, List.append_nil, List.cons_append, List.nil_append]
  entry_read
  pointwise
theorem reversed_apply (a : FVec Ideal S8x4x8192x128 .f32) (b : Fin 8) (h : Fin 4) (l : Fin 8192) (d : Fin 128) :
    Host.reverse [2] a (ix4 b h l d) = a (ix4 b h l.rev d) := by
  pointwise
  simp

theorem V4 (b : Fin 8) (l : Fin 8192) (e : Fin 512) : Gen.V m c main_v4 (ix3 b l e) = m ((c : Thread nD τ).loc main_arg3) (ix4 b (hd e) l.rev (ch e)) := by
  simp only [Gen.V, hostOps0, hostOps0_1, List.flatten_cons, List.flatten_nil, List.append_nil, List.cons_append, List.nil_append]
  entry_read
  pointwise
  exact reversed_apply _ b (hd e) l (ch e)
theorem V5 (b : Fin 8) (d : Fin 512) (l : Fin 8192) : Gen.V m c main_v5 (ix3 b d l) = m ((c : Thread nD τ).loc main_arg1) (ix3 b l d) := by
  simp only [Gen.V, hostOps0, hostOps0_1, List.flatten_cons, List.flatten_nil, List.append_nil, List.cons_append, List.nil_append]
  entry_read
  pointwise
theorem V6 (d e : Fin 1024) : Gen.V m c main_v6 (ix2 d e) = m ((c : Thread nD τ).loc main_arg6) (ix2 d e) := by
  simp only [Gen.V, hostOps0, hostOps0_1, List.flatten_cons, List.flatten_nil, List.append_nil, List.cons_append, List.nil_append]
  entry_read
  pointwise
theorem V7 (d : Fin 1024) (f : Fin 4096) : Gen.V m c main_v7 (ix2 d f) = m ((c : Thread nD τ).loc main_arg12) (ix2 d f) := by
  simp only [Gen.V, hostOps0, hostOps0_1, List.flatten_cons, List.flatten_nil, List.append_nil, List.cons_append, List.nil_append]
  entry_read
  pointwise
theorem V8 (f : Fin 4096) (e : Fin 1024) : Gen.V m c main_v8 (ix2 f e) = m ((c : Thread nD τ).loc main_arg13) (ix2 f e) := by
  simp only [Gen.V, hostOps0, hostOps0_1, List.flatten_cons, List.flatten_nil, List.append_nil, List.cons_append, List.nil_append]
  entry_read
  pointwise
theorem V9 (d : Fin 128) : Gen.V m c main_v9 (ix2 0 d) = m ((c : Thread nD τ).loc main_arg5) (ix1 d) := by
  simp only [Gen.V, hostOps0, hostOps0_1, List.flatten_cons, List.flatten_nil, List.append_nil, List.cons_append, List.nil_append]
  entry_read
  pointwise
theorem V10 (e : Fin 1024) : Gen.V m c main_v10 (ix2 0 e) = m ((c : Thread nD τ).loc main_arg14) (ix1 e) := by
  simp only [Gen.V, hostOps0, hostOps0_1, List.flatten_cons, List.flatten_nil, List.append_nil, List.cons_append, List.nil_append]
  entry_read
  pointwise
theorem V11 (e : Fin 1024) : Gen.V m c main_v11 (ix2 0 e) = m ((c : Thread nD τ).loc main_arg8) (ix1 e) := by
  simp only [Gen.V, hostOps0, hostOps0_1, List.flatten_cons, List.flatten_nil, List.append_nil, List.cons_append, List.nil_append]
  entry_read
  pointwise
theorem Varg0 : Gen.V m c main_arg0 = m ((c : Thread nD τ).loc main_arg0) := by
  entry_read
  rfl
theorem Varg4 : Gen.V m c main_arg4 = m ((c : Thread nD τ).loc main_arg4) := by
  entry_read
  rfl
theorem Varg7 : Gen.V m c main_arg7 = m ((c : Thread nD τ).loc main_arg7) := by
  entry_read
  rfl
theorem Varg9 : Gen.V m c main_arg9 = m ((c : Thread nD τ).loc main_arg9) := by
  entry_read
  rfl
theorem Varg10 : Gen.V m c main_arg10 = m ((c : Thread nD τ).loc main_arg10) := by
  entry_read
  rfl
theorem Varg11 : Gen.V m c main_arg11 = m ((c : Thread nD τ).loc main_arg11) := by
  entry_read
  rfl

theorem pts (t : Fin cfg0.N) : t.val < 128 := t.isLt

/-- A point's sample. -/
abbrev smp (t : Fin cfg0.N) : Fin 8 := ⟨t.val / 16, by have := pts t; omega⟩
/-- A point's token. -/
abbrev tok (t : Fin cfg0.N) (r : Fin 512) : Fin 8192 := ⟨512 * (t.val % 16) + r.val, by omega⟩

theorem idx0 : ∀ t : Fin cfg0.N, win0_0.index t = ![t.val / 16, t.val % 16, 0] := (by decide +kernel : ∀ t : Fin grid0.N, win0_0.index t = ![t.val / 16, t.val % 16, 0])
theorem idx1 : ∀ t : Fin cfg0.N, win0_1.index t = ![t.val / 16, 0, t.val % 16] := (by decide +kernel : ∀ t : Fin grid0.N, win0_1.index t = ![t.val / 16, 0, t.val % 16])
theorem idx2 : ∀ t : Fin cfg0.N, win0_2.index t = ![t.val / 16, t.val % 16, 0] := (by decide +kernel : ∀ t : Fin grid0.N, win0_2.index t = ![t.val / 16, t.val % 16, 0])
theorem idx3 : ∀ t : Fin cfg0.N, win0_3.index t = ![t.val / 16, t.val % 16, 0] := (by decide +kernel : ∀ t : Fin grid0.N, win0_3.index t = ![t.val / 16, t.val % 16, 0])
theorem idx4 : ∀ t : Fin cfg0.N, win0_4.index t = ![t.val / 16, t.val % 16, 0] := (by decide +kernel : ∀ t : Fin grid0.N, win0_4.index t = ![t.val / 16, t.val % 16, 0])
theorem idx15 : ∀ t : Fin cfg0.N, win0_15.index t = ![t.val / 16, t.val % 16, 0] := (by decide +kernel : ∀ t : Fin grid0.N, win0_15.index t = ![t.val / 16, t.val % 16, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx8 : ∀ t : Fin cfg0.N, win0_8.index t = ![0, 0] := (by decide +kernel : ∀ t : Fin grid0.N, win0_8.index t = ![0, 0])
theorem idx12 : ∀ t : Fin cfg0.N, win0_12.index t = ![0, 0] := (by decide +kernel : ∀ t : Fin grid0.N, win0_12.index t = ![0, 0])
theorem idx13 : ∀ t : Fin cfg0.N, win0_13.index t = ![0, 0] := (by decide +kernel : ∀ t : Fin grid0.N, win0_13.index t = ![0, 0])
theorem idx14 : ∀ t : Fin cfg0.N, win0_14.index t = ![0, 0] := (by decide +kernel : ∀ t : Fin grid0.N, win0_14.index t = ![0, 0])
theorem idx7 : ∀ t : Fin cfg0.N, win0_7.index t = ![t.val / 16, 0, 0] := (by decide +kernel : ∀ t : Fin grid0.N, win0_7.index t = ![t.val / 16, 0, 0])
theorem idx9 : ∀ t : Fin cfg0.N, win0_9.index t = ![t.val / 16, 0, 0] := (by decide +kernel : ∀ t : Fin grid0.N, win0_9.index t = ![t.val / 16, 0, 0])
theorem idx10 : ∀ t : Fin cfg0.N, win0_10.index t = ![t.val / 16, 0, 0] := (by decide +kernel : ∀ t : Fin grid0.N, win0_10.index t = ![t.val / 16, 0, 0])
theorem idx11 : ∀ t : Fin cfg0.N, win0_11.index t = ![t.val / 16, 0, 0] := (by decide +kernel : ∀ t : Fin grid0.N, win0_11.index t = ![t.val / 16, 0, 0])

theorem iblk0 (t : Fin cfg0.N) (r : Fin 512) (d : Fin 1024) : iblk m c 0 t (ix3 (0 : Fin 1) r d) = Gen.V m c main_arg0 (ix3 (smp t) (tok t r) d) := by
  blk_ext [iblk, idx0 t]
theorem iblk1 (t : Fin cfg0.N) (r : Fin 512) (d : Fin 512) : iblk m c 1 t (ix3 (0 : Fin 1) d r) = Gen.V m c main_v5 (ix3 (smp t) d (tok t r)) := by
  blk_ext [iblk, idx1 t]
theorem iblk2 (t : Fin cfg0.N) (r : Fin 512) (d : Fin 512) : iblk m c 2 t (ix3 (0 : Fin 1) r d) = Gen.V m c main_v2 (ix3 (smp t) (tok t r) d) := by
  blk_ext [iblk, idx2 t]
theorem iblk3 (t : Fin cfg0.N) (r : Fin 512) (d : Fin 512) : iblk m c 3 t (ix3 (0 : Fin 1) r d) = Gen.V m c main_v4 (ix3 (smp t) (tok t r) d) := by
  blk_ext [iblk, idx3 t]
theorem iblk4 (t : Fin cfg0.N) (r : Fin 512) (d : Fin 512) : iblk m c 4 t (ix3 (0 : Fin 1) r d) = Gen.V m c main_arg4 (ix3 (smp t) (tok t r) d) := by
  blk_ext [iblk, idx4 t]
theorem iblk5 (t : Fin cfg0.N) (d : Fin 128) : iblk m c 5 t (ix2 (0 : Fin 1) d) = Gen.V m c main_v9 (ix2 (0 : Fin 1) d) := by
  blk_ext [iblk, idx5 t]
theorem iblk6 (t : Fin cfg0.N) (d e : Fin 1024) : iblk m c 6 t (ix2 d e) = Gen.V m c main_v6 (ix2 d e) := by
  blk_ext [iblk, idx6 t]
theorem iblk7 (t : Fin cfg0.N) (d : Fin 1024) : iblk m c 7 t (ix3 (0 : Fin 1) (0 : Fin 1) d) = Gen.V m c main_arg7 (ix3 (smp t) (0 : Fin 1) d) := by
  blk_ext [iblk, idx7 t]
theorem iblk8 (t : Fin cfg0.N) (d : Fin 1024) : iblk m c 8 t (ix2 (0 : Fin 1) d) = Gen.V m c main_v11 (ix2 (0 : Fin 1) d) := by
  blk_ext [iblk, idx8 t]
theorem iblk9 (t : Fin cfg0.N) (d : Fin 1024) : iblk m c 9 t (ix3 (0 : Fin 1) (0 : Fin 1) d) = Gen.V m c main_arg9 (ix3 (smp t) (0 : Fin 1) d) := by
  blk_ext [iblk, idx9 t]
theorem iblk10 (t : Fin cfg0.N) (d : Fin 1024) : iblk m c 10 t (ix3 (0 : Fin 1) (0 : Fin 1) d) = Gen.V m c main_arg10 (ix3 (smp t) (0 : Fin 1) d) := by
  blk_ext [iblk, idx10 t]
theorem iblk11 (t : Fin cfg0.N) (d : Fin 1024) : iblk m c 11 t (ix3 (0 : Fin 1) (0 : Fin 1) d) = Gen.V m c main_arg11 (ix3 (smp t) (0 : Fin 1) d) := by
  blk_ext [iblk, idx11 t]
theorem iblk12 (t : Fin cfg0.N) (d : Fin 1024) (f : Fin 4096) : iblk m c 12 t (ix2 d f) = Gen.V m c main_v7 (ix2 d f) := by
  blk_ext [iblk, idx12 t]
theorem iblk13 (t : Fin cfg0.N) (f : Fin 4096) (e : Fin 1024) : iblk m c 13 t (ix2 f e) = Gen.V m c main_v8 (ix2 f e) := by
  blk_ext [iblk, idx13 t]
theorem iblk14 (t : Fin cfg0.N) (d : Fin 1024) : iblk m c 14 t (ix2 (0 : Fin 1) d) = Gen.V m c main_v10 (ix2 (0 : Fin 1) d) := by
  blk_ext [iblk, idx14 t]

/-! The blocks from the arguments. -/

theorem blk0 (t : Fin cfg0.N) (r : Fin 512) (d : Fin 1024) : iblk m c 0 t (ix3 (0 : Fin 1) r d) = m ((c : Thread nD τ).loc main_arg0) (ix3 (smp t) (tok t r) d) :=
  (iblk0 m c t r d).trans (congrFun (Varg0 m c) _)
theorem blk1 (t : Fin cfg0.N) (r : Fin 512) (d : Fin 512) : iblk m c 1 t (ix3 (0 : Fin 1) d r) = m ((c : Thread nD τ).loc main_arg1) (ix3 (smp t) (tok t r) d) :=
  (iblk1 m c t r d).trans (V5 m c _ _ _)
theorem blk2 (t : Fin cfg0.N) (r : Fin 512) (d : Fin 512) : iblk m c 2 t (ix3 (0 : Fin 1) r d) = m ((c : Thread nD τ).loc main_arg2) (ix4 (smp t) (hd d) (tok t r) (ch d)) :=
  (iblk2 m c t r d).trans (V2 m c _ _ _)
theorem blk3 (t : Fin cfg0.N) (r : Fin 512) (d : Fin 512) : iblk m c 3 t (ix3 (0 : Fin 1) r d) = m ((c : Thread nD τ).loc main_arg3) (ix4 (smp t) (hd d) (tok t r).rev (ch d)) :=
  (iblk3 m c t r d).trans (V4 m c _ _ _)
theorem blk4 (t : Fin cfg0.N) (r : Fin 512) (d : Fin 512) : iblk m c 4 t (ix3 (0 : Fin 1) r d) = m ((c : Thread nD τ).loc main_arg4) (ix3 (smp t) (tok t r) d) :=
  (iblk4 m c t r d).trans (congrFun (Varg4 m c) _)
theorem blk5 (t : Fin cfg0.N) (d : Fin 128) : iblk m c 5 t (ix2 (0 : Fin 1) d) = m ((c : Thread nD τ).loc main_arg5) (ix1 d) :=
  (iblk5 m c t d).trans (V9 m c _)
theorem blk6 (t : Fin cfg0.N) (d e : Fin 1024) : iblk m c 6 t (ix2 d e) = m ((c : Thread nD τ).loc main_arg6) (ix2 d e) :=
  (iblk6 m c t d e).trans (V6 m c _ _)
theorem blk7 (t : Fin cfg0.N) (d : Fin 1024) : iblk m c 7 t (ix3 (0 : Fin 1) (0 : Fin 1) d) = m ((c : Thread nD τ).loc main_arg7) (ix3 (smp t) (0 : Fin 1) d) :=
  (iblk7 m c t d).trans (congrFun (Varg7 m c) _)
theorem blk8 (t : Fin cfg0.N) (d : Fin 1024) : iblk m c 8 t (ix2 (0 : Fin 1) d) = m ((c : Thread nD τ).loc main_arg8) (ix1 d) :=
  (iblk8 m c t d).trans (V11 m c _)
theorem blk9 (t : Fin cfg0.N) (d : Fin 1024) : iblk m c 9 t (ix3 (0 : Fin 1) (0 : Fin 1) d) = m ((c : Thread nD τ).loc main_arg9) (ix3 (smp t) (0 : Fin 1) d) :=
  (iblk9 m c t d).trans (congrFun (Varg9 m c) _)
theorem blk10 (t : Fin cfg0.N) (d : Fin 1024) : iblk m c 10 t (ix3 (0 : Fin 1) (0 : Fin 1) d) = m ((c : Thread nD τ).loc main_arg10) (ix3 (smp t) (0 : Fin 1) d) :=
  (iblk10 m c t d).trans (congrFun (Varg10 m c) _)
theorem blk11 (t : Fin cfg0.N) (d : Fin 1024) : iblk m c 11 t (ix3 (0 : Fin 1) (0 : Fin 1) d) = m ((c : Thread nD τ).loc main_arg11) (ix3 (smp t) (0 : Fin 1) d) :=
  (iblk11 m c t d).trans (congrFun (Varg11 m c) _)
theorem blk12 (t : Fin cfg0.N) (d : Fin 1024) (f : Fin 4096) : iblk m c 12 t (ix2 d f) = m ((c : Thread nD τ).loc main_arg12) (ix2 d f) :=
  (iblk12 m c t d f).trans (V7 m c _ _)
theorem blk13 (t : Fin cfg0.N) (f : Fin 4096) (e : Fin 1024) : iblk m c 13 t (ix2 f e) = m ((c : Thread nD τ).loc main_arg13) (ix2 f e) :=
  (iblk13 m c t f e).trans (V8 m c _ _)
theorem blk14 (t : Fin cfg0.N) (d : Fin 1024) : iblk m c 14 t (ix2 (0 : Fin 1) d) = m ((c : Thread nD τ).loc main_arg14) (ix1 d) :=
  (iblk14 m c t d).trans (V10 m c _)

/-- The result's row from what the arguments hold. -/
def resultRow (a0 : S8x8192x1024.Idx → EReal) (a1 : S8x8192x512.Idx → EReal) (a2 a3 : S8x4x8192x128.Idx → EReal) (a4 : S8x8192x512.Idx → EReal) (a5 : S128.Idx → EReal)
    (a6 : S1024x1024.Idx → EReal) (a7 : S8x1x1024.Idx → EReal) (a8 : S1024.Idx → EReal) (a9 a10 a11 : S8x1x1024.Idx → EReal) (a12 : S1024x4096.Idx → EReal)
    (a13 : S4096x1024.Idx → EReal) (a14 : S1024.Idx → EReal) (b : Fin 8) (l : Fin 8192) : Fin 1024 → EReal :=
  normed (tail (head (fun d => a0 (ix3 b l d)) (fun d => a7 (ix3 b 0 d))
      (beside (fun d => a1 (ix3 b l d))
        (gated (fun d => a2 (ix4 b (hd d) l (ch d)) + a3 (ix4 b (hd d) l.rev (ch d))) (fun d => a5 (ix1 d)) fun d => a4 (ix3 b l d))) fun d e => a6 (ix2 d e))
    (fun d => a8 (ix1 d)) (fun d => a9 (ix3 b 0 d)) (fun d => a10 (ix3 b 0 d)) (fun d => a11 (ix3 b 0 d)) (fun d f => a12 (ix2 d f)) (fun f e => a13 (ix2 f e)))
    fun d => a14 (ix1 d)

/-- The result from what the arguments hold. -/
def result (a0 : S8x8192x1024.Idx → EReal) (a1 : S8x8192x512.Idx → EReal) (a2 a3 : S8x4x8192x128.Idx → EReal) (a4 : S8x8192x512.Idx → EReal) (a5 : S128.Idx → EReal)
    (a6 : S1024x1024.Idx → EReal) (a7 : S8x1x1024.Idx → EReal) (a8 : S1024.Idx → EReal) (a9 a10 a11 : S8x1x1024.Idx → EReal) (a12 : S1024x4096.Idx → EReal)
    (a13 : S4096x1024.Idx → EReal) (a14 : S1024.Idx → EReal) : S8x8192x1024.Idx → EReal := fun i =>
  resultRow a0 a1 a2 a3 a4 a5 a6 a7 a8 a9 a10 a11 a12 a13 a14 (i 0 : Fin 8) (i 1 : Fin 8192) (i 2 : Fin 1024)

/-- The result's row from the memory's arguments. -/
abbrev resRow (b : Fin 8) (l : Fin 8192) : Fin 1024 → EReal :=
  resultRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) b l

/-- The result from the memory's arguments. -/
def res : S8x8192x1024.Idx → EReal :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

theorem res_apply (b : Fin 8) (l : Fin 8192) (e : Fin 1024) : res m c (ix3 b l e) = resRow m c b l e := rfl

/-- A grid point's block, from the blocks read at the point. -/
abbrev outAt (t : Fin cfg0.N) : Vec Ideal S1x512x1024 .f32 :=
  out0_15 (F := Ideal) (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t)

theorem out_at (t : Fin cfg0.N) (r : Fin 512) (e : Fin 1024) : outAt m c t (ix3 (0 : Fin 1) r e) = res m c (ix3 (smp t) (tok t r) e) := by
  rw [res_apply, outAt, out_apply]
  unfold first resRow resultRow both
  simp only [blk0, blk1, blk2, blk3, blk4, blk5, blk6, blk7, blk8, blk9, blk10, blk11, blk12, blk13, blk14]

theorem out_block (t : Fin cfg0.N) (y : S1x512x1024.Idx) (i : S8x8192x1024.Idx)
    (h0 : (i 0).val = t.val / 16) (h1 : (i 1).val = 512 * (t.val % 16) + (y 1).val) (h2 : (i 2).val = (y 2).val) : outAt m c t y = res m c i := by
  have hy : y = ix3 (0 : Fin 1) (y 1 : Fin 512) (y 2 : Fin 1024) := funext fun a => by
    fin_cases a
    · exact Subsingleton.elim (α := Fin 1) _ _
    · rfl
    · rfl
  have hi : i = ix3 (smp t) (tok t (y 1)) (y 2 : Fin 1024) := funext fun a => by
    fin_cases a
    · exact Fin.ext h0
    · exact Fin.ext h1
    · exact Fin.ext h2
  rw [hi]
  exact (congrArg _ hy).trans (out_at m c t _ _)

theorem final : (dats m 0 c).arrAt 15 cfg0.N = res m c := by
  refine (dats m 0 c).arrAt_eq_of_covers 15 _ (by decide +kernel) fun t hf y => ?_
  rw [after0_15]
  blk_simp
  refine out_block m c t _ _ ?_ ?_ ?_ <;> simp [idx15 t, Nat.mul_comm]

end Cert.Kernel3Ideal.Row
-- ==== Proof.Mlp3.Reference.lean ====
module

public import proofs.«01_k».proof.Proof.Gen.Reference3Ideal.Run
public import proofs.«01_k».proof.Proof.Mlp.Spec

/-! The reference's term in stages, read entry by entry. -/

@[expose] public section

set_option maxRecDepth 16384

noncomputable section

namespace Cert.Reference3Ideal.Stage

open Cert.Reference3Ideal Cert.Reference3Ideal.Gen Cert.Mlp
open Idealize.ShloMosaic Idealize.ShloMosaic.TcCoe Idealize.SL.Sem

/-- The two directions added, token by token. -/
def both (a2 a3 : FVec Ideal S8x4x8192x128 .f32) : FVec Ideal S8x8192x4x128 .f32 :=
  transpose S8x8192x4x128 [0, 2, 1, 3] (addf a2 (Host.reverse [2] a3)) transposes_S8x4x8192x128_S8x8192x4x128_0_2_1_3

/-- A row of a head over its own root mean square, times the head's gain. -/
def scaled (o : FVec Ideal S8x8192x4x128 .f32) (a5 : FVec Ideal S128 .f32) : FVec Ideal S8x8192x4x128 .f32 :=
  mulf (mulf o (broadcastInDim S8x8192x4x128 ![0, 1, 2, 3] bcast_S8x8192x4x1_S8x8192x4x128_0_1_2_3 (Host.rsqrt (addf (Host.divf (broadcastInDim S8x8192x4x1 ![0, 1, 2] bcast_S8x8192x4_S8x8192x4x1_0_1_2 (Host.reduceAdd (mulf o o) (constant S_ .f32 0x00000000#32) reducesTo_S8x8192x4x128_S8x8192x4_d3 h_S_)) (broadcastInDim S8x8192x4x1 ![] bcast_S_S8x8192x4x1 (constant S_ .f32 0x43000000#32))) (broadcastInDim S8x8192x4x1 ![] bcast_S_S8x8192x4x1 (constant S_ .f32 0x358637BD#32)))))) (broadcastInDim S8x8192x4x128 ![0, 1, 2, 3] bcast_S1x1x1x128_S8x8192x4x128_0_1_2_3 (broadcastInDim S1x1x1x128 ![3] bcast_S128_S1x1x1x128_3 a5))

/-- The gate, split into heads. -/
def heads (a4 : FVec Ideal S8x8192x512 .f32) : FVec Ideal S8x8192x4x128 .f32 := shapeCast _ a4 shapeCasts_S8x8192x512_S8x8192x4x128

/-- The gate's factor. -/
def swish (z : FVec Ideal S8x8192x4x128 .f32) : FVec Ideal S8x8192x4x128 .f32 :=
  mulf z (Host.divf (broadcastInDim S8x8192x4x128 ![] bcast_S_S8x8192x4x128 (constant S_ .f32 0x3F800000#32)) (addf (broadcastInDim S8x8192x4x128 ![] bcast_S_S8x8192x4x128 (constant S_ .f32 0x3F800000#32)) (Host.exp (Host.negf z))))

/-- The heads side by side. -/
def flat (u : FVec Ideal S8x8192x4x128 .f32) : FVec Ideal S8x8192x512 .f32 := shapeCast _ u shapeCasts_S8x8192x4x128_S8x8192x512

/-- The joined rows. -/
def joined (a1 a2 : FVec Ideal S8x8192x512 .f32) : FVec Ideal S8x8192x1024 .f32 :=
  concatenate S8x8192x1024 2 [⟨S8x8192x512, a1⟩, ⟨S8x8192x512, a2⟩] concatenates_S8x8192x512_S8x8192x512_S8x8192x1024_d2

/-- A product's residual through a gate. -/
def resid (a0 p : FVec Ideal S8x8192x1024 .f32) (w : FVec Ideal S1024x1024 .f32) (gt : FVec Ideal S8x1x1024 .f32) : FVec Ideal S8x8192x1024 .f32 :=
  addf a0 (mulf (broadcastInDim S8x8192x1024 ![0, 1, 2] bcast_S8x1x1024_S8x8192x1024_0_1_2 gt) (Host.dotGeneral dot_S8x8192x1024_S1024x1024_S8x8192x1024_2_0_01_1_n_n none p w))

/-- A row over its root mean square, times a gain. -/
def norm (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))

/-- The modulation of a normalised row. -/
def shifted (n : FVec Ideal S8x8192x1024 .f32) (sh sc : FVec Ideal S8x1x1024 .f32) : FVec Ideal S8x8192x1024 .f32 :=
  addf (mulf n (broadcastInDim S8x8192x1024 ![0, 1, 2] bcast_S8x1x1024_S8x8192x1024_0_1_2 (addf (broadcastInDim S8x1x1024 ![] bcast_S_S8x1x1024 (constant S_ .f32 0x3F800000#32)) sc))) (broadcastInDim S8x8192x1024 ![0, 1, 2] bcast_S8x1x1024_S8x8192x1024_0_1_2 sh)

/-- The hidden units before their rectifier. -/
def inner (h : FVec Ideal S8x8192x1024 .f32) (w : FVec Ideal S1024x4096 .f32) : FVec Ideal S8x8192x4096 .f32 :=
  maximumf (Host.dotGeneral dot_S8x8192x1024_S1024x4096_S8x8192x4096_2_0_01_1_n_n none h w) (broadcastInDim S8x8192x4096 ![] bcast_S_S8x8192x4096 (constant S_ .f32 0x00000000#32))

/-- The second product's residual. -/
def close (x : FVec Ideal S8x8192x1024 .f32) (u : FVec Ideal S8x8192x4096 .f32) (gt : FVec Ideal S8x1x1024 .f32) (w : FVec Ideal S4096x1024 .f32) : FVec Ideal S8x8192x1024 .f32 :=
  addf x (mulf (broadcastInDim S8x8192x1024 ![0, 1, 2] bcast_S8x1x1024_S8x8192x1024_0_1_2 gt) (Host.dotGeneral dot_S8x8192x4096_S4096x1024_S8x8192x1024_2_0_01_1_n_n none (mulf u u) w))

/-- The delta rule's rows, gated. -/
def delta (a2 a3 : FVec Ideal S8x4x8192x128 .f32) (a4 : FVec Ideal S8x8192x512 .f32) (a5 : FVec Ideal S128 .f32) : FVec Ideal S8x8192x512 .f32 :=
  flat (mulf (scaled (both a2 a3) a5) (swish (heads a4)))

/-- The rows after the projection. -/
def middle (a0 : FVec Ideal S8x8192x1024 .f32) (a1 : FVec Ideal S8x8192x512 .f32) (a2 a3 : FVec Ideal S8x4x8192x128 .f32) (a4 : FVec Ideal S8x8192x512 .f32) (a5 : FVec Ideal S128 .f32)
    (a6 : FVec Ideal S1024x1024 .f32) (a7 : FVec Ideal S8x1x1024 .f32) : FVec Ideal S8x8192x1024 .f32 := resid a0 (joined a1 (delta a2 a3 a4 a5)) a6 a7

/-- The reference's result in stages. -/
def whole (a0 : FVec Ideal S8x8192x1024 .f32) (a1 : FVec Ideal S8x8192x512 .f32) (a2 a3 : FVec Ideal S8x4x8192x128 .f32) (a4 : FVec Ideal S8x8192x512 .f32) (a5 : FVec Ideal S128 .f32)
    (a6 : FVec Ideal S1024x1024 .f32) (a7 : FVec Ideal S8x1x1024 .f32) (a8 : FVec Ideal S1024 .f32) (a9 a10 a11 : FVec Ideal S8x1x1024 .f32) (a12 : FVec Ideal S1024x4096 .f32)
    (a13 : FVec Ideal S4096x1024 .f32) (a14 : FVec Ideal S1024 .f32) : FVec Ideal S8x8192x1024 .f32 :=
  norm (close (middle a0 a1 a2 a3 a4 a5 a6 a7) (inner (shifted (norm (middle a0 a1 a2 a3 a4 a5 a6 a7) a8) a9 a10) a12) a11 a13) a14

theorem res_eq (m : (ℓ : Loc nD τ sig) → Buf (Elt Ideal) ℓ) (c : Dev nD) :
    Value.res_main_v63 (F := Ideal) m c
      = whole (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := rfl

theorem both_apply (a2 a3 : FVec Ideal S8x4x8192x128 .f32) (b : Fin 8) (l : Fin 8192) (h : Fin 4) (d : Fin 128) :
    both a2 a3 (ix4 b l h d) = a2 (ix4 b h l d) + a3 (ix4 b h l.rev d) := by
  pointwise [both]
  simp

theorem scaled_apply (o : FVec Ideal S8x8192x4x128 .f32) (a5 : FVec Ideal S128 .f32) (b : Fin 8) (l : Fin 8192) (h : Fin 4) (d : Fin 128) :
    scaled o a5 (ix4 b l h d)
      = o (ix4 b l h d) * Idealize.ShloMosaic.Ideal.rsqrt (Idealize.ShloMosaic.Ideal.div (∑ e : Fin 128, o (ix4 b l h e) * o (ix4 b l h e)) (Ideal.ofBits .f32 0x43000000#32) + Ideal.ofBits .f32 0x358637BD#32) * a5 (ix1 d) := by
  pointwise [scaled]

theorem heads_apply (a4 : FVec Ideal S8x8192x512 .f32) (b : Fin 8) (l : Fin 8192) (h : Fin 4) (d : Fin 128) :
    heads a4 (ix4 b l h d) = a4 (ix3 b l (⟨128 * h.val + d.val, by omega⟩ : Fin 512)) := by
  pointwise [heads]
  exact congrArg (fun e => a4 (ix3 b l e)) (Fin.ext (by simp [Nat.mul_comm]))

theorem swish_apply (z : FVec Ideal S8x8192x4x128 .f32) (i : S8x8192x4x128.Idx) : swish z i = z i * Ideal.logistic (z i) := by
  pointwise [swish]
  rfl

theorem flat_apply (u : FVec Ideal S8x8192x4x128 .f32) (b : Fin 8) (l : Fin 8192) (e : Fin 512) :
    flat u (ix3 b l e) = u (ix4 b l (⟨e.val / 128, by omega⟩ : Fin 4) (⟨e.val % 128, by omega⟩ : Fin 128)) := by
  pointwise [flat]

theorem joined_apply (a1 a2 : FVec Ideal S8x8192x512 .f32) (b : Fin 8) (l : Fin 8192) (d : Fin 1024) :
    joined a1 a2 (ix3 b l d) = beside (fun e => a1 (ix3 b l e)) (fun e => a2 (ix3 b l e)) d := by
  pointwise [joined]
  rfl

theorem resid_apply (a0 p : FVec Ideal S8x8192x1024 .f32) (w : FVec Ideal S1024x1024 .f32) (gt : FVec Ideal S8x1x1024 .f32) (b : Fin 8) (l : Fin 8192) (e : Fin 1024) :
    resid a0 p w gt (ix3 b l e) = head (fun d => a0 (ix3 b l d)) (fun d => gt (ix3 b 0 d)) (fun d => p (ix3 b l d)) (fun d e => w (ix2 d e)) e := by
  pointwise [resid]
  rfl

theorem norm_apply (x : FVec Ideal S8x8192x1024 .f32) (g : FVec Ideal S1024 .f32) (b : Fin 8) (l : Fin 8192) (e : Fin 1024) :
    norm x g (ix3 b l e) = normed (fun d => x (ix3 b l d)) (fun d => g (ix1 d)) e := by
  pointwise [norm]
  rfl

theorem shifted_apply (n : FVec Ideal S8x8192x1024 .f32) (sh sc : FVec Ideal S8x1x1024 .f32) (b : Fin 8) (l : Fin 8192) (e : Fin 1024) :
    shifted n sh sc (ix3 b l e) = n (ix3 b l e) * (1 + sc (ix3 b 0 e)) + sh (ix3 b 0 e) := by
  pointwise [shifted]

theorem inner_apply (h : FVec Ideal S8x8192x1024 .f32) (w : FVec Ideal S1024x4096 .f32) (b : Fin 8) (l : Fin 8192) (f : Fin 4096) :
    inner h w (ix3 b l f) = max (∑ e, h (ix3 b l e) * w (ix2 e f)) 0 := by
  pointwise [inner]

theorem close_apply (x : FVec Ideal S8x8192x1024 .f32) (u : FVec Ideal S8x8192x4096 .f32) (gt : FVec Ideal S8x1x1024 .f32) (w : FVec Ideal S4096x1024 .f32)
    (b : Fin 8) (l : Fin 8192) (e : Fin 1024) :
    close x u gt w (ix3 b l e) = x (ix3 b l e) + gt (ix3 b 0 e) * ∑ f, u (ix3 b l f) * u (ix3 b l f) * w (ix2 f e) := by
  pointwise [close]

/-- One head of a row of heads side by side is the head. -/
theorem part_rows (u : Fin 4 → Fin 128 → EReal) (h : Fin 4) :
    part (fun d => u (⟨d.val / 128, by omega⟩ : Fin 4) (⟨d.val % 128, by omega⟩ : Fin 128)) h = u h := funext fun d =>
  congrArg₂ u (Fin.ext (show (128 * h.val + d.val) / 128 = h.val by omega)) (Fin.ext (show (128 * h.val + d.val) % 128 = d.val by omega))

theorem delta_apply (a2 a3 : FVec Ideal S8x4x8192x128 .f32) (a4 : FVec Ideal S8x8192x512 .f32) (a5 : FVec Ideal S128 .f32) (b : Fin 8) (l : Fin 8192) (e : Fin 512) :
    delta a2 a3 a4 a5 (ix3 b l e)
      = gated (fun d => a2 (ix4 b (⟨d.val / 128, by omega⟩ : Fin 4) l (⟨d.val % 128, by omega⟩ : Fin 128))
            + a3 (ix4 b (⟨d.val / 128, by omega⟩ : Fin 4) l.rev (⟨d.val % 128, by omega⟩ : Fin 128)))
          (fun d => a5 (ix1 d)) (fun d => a4 (ix3 b l d)) e := by
  unfold delta
  rw [flat_apply]
  change scaled (both a2 a3) a5 (ix4 b l _ _) * swish (heads a4) (ix4 b l _ _) = _
  rw [scaled_apply, swish_apply, heads_apply]
  simp only [both_apply]
  unfold gated
  rw [part_rows fun h d => a2 (ix4 b h l d) + a3 (ix4 b h l.rev d)]
  rfl

theorem middle_apply (a0 : FVec Ideal S8x8192x1024 .f32) (a1 : FVec Ideal S8x8192x512 .f32) (a2 a3 : FVec Ideal S8x4x8192x128 .f32) (a4 : FVec Ideal S8x8192x512 .f32) (a5 : FVec Ideal S128 .f32)
    (a6 : FVec Ideal S1024x1024 .f32) (a7 : FVec Ideal S8x1x1024 .f32) (b : Fin 8) (l : Fin 8192) (e : Fin 1024) :
    middle a0 a1 a2 a3 a4 a5 a6 a7 (ix3 b l e)
      = head (fun d => a0 (ix3 b l d)) (fun d => a7 (ix3 b 0 d))
          (beside (fun d => a1 (ix3 b l d))
            (gated (fun d => a2 (ix4 b (⟨d.val / 128, by omega⟩ : Fin 4) l (⟨d.val % 128, by omega⟩ : Fin 128))
                + a3 (ix4 b (⟨d.val / 128, by omega⟩ : Fin 4) l.rev (⟨d.val % 128, by omega⟩ : Fin 128)))
              (fun d => a5 (ix1 d)) fun d => a4 (ix3 b l d))) (fun d e => a6 (ix2 d e)) e := by
  unfold middle
  rw [resid_apply]
  refine congrArg (head _ _ · _ e) (funext fun d => ?_)
  rw [joined_apply]
  exact congrArg (beside _ · d) (funext fun e => delta_apply a2 a3 a4 a5 b l e)

/-- The rest of the layer from the rows after the projection. -/
theorem rest_apply (x : FVec Ideal S8x8192x1024 .f32) (a8 : FVec Ideal S1024 .f32) (a9 a10 a11 : FVec Ideal S8x1x1024 .f32) (a12 : FVec Ideal S1024x4096 .f32)
    (a13 : FVec Ideal S4096x1024 .f32) (a14 : FVec Ideal S1024 .f32) (b : Fin 8) (l : Fin 8192) (e : Fin 1024) :
    norm (close x (inner (shifted (norm x a8) a9 a10) a12) a11 a13) a14 (ix3 b l e)
      = normed (tail (fun d => x (ix3 b l d)) (fun d => a8 (ix1 d)) (fun d => a9 (ix3 b 0 d)) (fun d => a10 (ix3 b 0 d)) (fun d => a11 (ix3 b 0 d))
          (fun d f => a12 (ix2 d f)) (fun f e => a13 (ix2 f e))) (fun d => a14 (ix1 d)) e := by
  rw [norm_apply]
  refine congrArg (normed · _ e) (funext fun e => ?_)
  simp only [close_apply, inner_apply, shifted_apply, norm_apply]
  rfl

end Cert.Reference3Ideal.Stage
-- ==== Proof.Mlp3.Algebraic.lean ====
module

public import proofs.«01_k».proof.Defs
public import proofs.«01_k».proof.Proof.Mlp3.Array
public import proofs.«01_k».proof.Proof.Mlp3.Reference

/-! The last layer's call and its reference return the same array. -/

@[expose] public section

set_option maxRecDepth 16384

noncomputable section

namespace Cert.Proof

open Idealize.ShloMosaic Idealize.ShloMosaic.TcCoe Idealize.SL.Sem Cert.Reference3Ideal

theorem reference3_result (a0 : S8x8192x1024.Idx → EReal) (a1 : S8x8192x512.Idx → EReal) (a2 a3 : S8x4x8192x128.Idx → EReal) (a4 : S8x8192x512.Idx → EReal) (a5 : S128.Idx → EReal)
    (a6 : S1024x1024.Idx → EReal) (a7 : S8x1x1024.Idx → EReal) (a8 : S1024.Idx → EReal) (a9 a10 a11 : S8x1x1024.Idx → EReal) (a12 : S1024x4096.Idx → EReal)
    (a13 : S4096x1024.Idx → EReal) (a14 : S1024.Idx → EReal) :
    Stage.whole a0 a1 a2 a3 a4 a5 a6 a7 a8 a9 a10 a11 a12 a13 a14 = Cert.Kernel3Ideal.Row.result a0 a1 a2 a3 a4 a5 a6 a7 a8 a9 a10 a11 a12 a13 a14 := by
  funext i
  have hi : i = ix3 (i 0 : Fin 8) (i 1 : Fin 8192) (i 2 : Fin 1024) := funext fun a => by fin_cases a <;> rfl
  rw [hi]
  refine (Stage.rest_apply _ a8 a9 a10 a11 a12 a13 a14 _ _ _).trans ?_
  refine (congrArg (fun x => Cert.Mlp.normed (Cert.Mlp.tail x _ _ _ _ _ _) _ _) (funext fun d => Stage.middle_apply a0 a1 a2 a3 a4 a5 a6 a7 _ _ d)).trans ?_
  rfl

theorem algebraic3 : Cert.algebraic_Kernel3Ideal_Reference3Ideal := by
  intro m ρ m' ρ' _ hagree
  refine ⟨fun c => Cert.Kernel3Ideal.Row.res m c, ?_, ?_⟩
  · exact (θ_run Cert.Kernel3Ideal.defs _ _).mono
      (fun r h c => ⟨(h c).1.trans (Cert.Kernel3Ideal.Row.final m c), (h c).2⟩)
      (Cert.Kernel3Ideal.Value.run_blocks (F := Ideal) m ρ)
  · refine (θ_run Cert.Reference3Ideal.defs _ _).mono (fun r h c => ⟨(h c).1.trans ?_, (h c).2⟩)
      (Cert.Reference3Ideal.Value.run (F := Ideal) m' ρ')
    obtain ⟨e0, e1, e2, e3, e4, e5, e6, e7, e8, e9, e10, e11, e12, e13, e14⟩ := hagree c
    rw [Stage.res_eq, e0, e1, e2, e3, e4, e5, e6, e7, e8, e9, e10, e11, e12, e13, e14]
    exact reference3_result _ _ _ _ _ _ _ _ _ _ _ _ _ _ _

end Cert.Proof
-- ==== Proof.Proj.Reads.lean ====
module

public import proofs.«01_k».proof.Proof.Mlp.Spec
public import proofs.«01_k».proof.Proof.Gen.Kernel4Ideal.Skeleton

/-! The body's computations read entry by entry: a block of rows normalised and modulated, then its products with pieces of the weights. -/

@[expose] public section

set_option maxRecDepth 16384

noncomputable section

namespace Cert.Kernel4Ideal.Row

open Cert.Kernel4Ideal Cert.Kernel4Ideal.Gen Cert.Mlp
open Idealize.ShloMosaic Idealize.SL.Sem

theorem pay4_apply (x : Vec Ideal S1x512x1024 .f32) (g : Vec Ideal S1x1024 .f32) (sh sc : Vec Ideal S1x1x1024 .f32) (r : Fin 512) (d : Fin 1024) :
    k0_pay4 (F := Ideal) x g sh sc (ix2 r d)
      = modulated (fun d => x (ix3 0 r d)) (fun d => g (ix2 0 d)) (fun d => sh (ix3 0 0 d)) (fun d => sc (ix3 0 0 d)) d := by
  pointwise [k0_pay4]
  rfl

theorem pay5_apply (x : Vec Ideal S1x512x1024 .f32) (g : Vec Ideal S1x1024 .f32) (sh sc : Vec Ideal S1x1x1024 .f32) (w : Vec Ideal S512x1024 .bf16) (n r : Fin 512) :
    k0_pay5 (F := Ideal) x g sh sc w (ix3 0 n r) = ∑ d, w (ix2 n d) * k0_pay4 (F := Ideal) x g sh sc (ix2 r d) := by
  pointwise [k0_pay5]

theorem pay6_apply (h : FVec Ideal S512x1024 .bf16) (w : Vec Ideal S512x1024 .bf16) (n r : Fin 512) :
    k0_pay6 (F := Ideal) h w (ix3 0 n r) = ∑ d, w (ix2 n d) * h (ix2 r d) := by
  pointwise [k0_pay6]

theorem pay7_apply (h : FVec Ideal S512x1024 .bf16) (w : Vec Ideal S512x1024 .bf16) (n r : Fin 512) :
    k0_pay7 (F := Ideal) h w (ix3 0 n r) = ∑ d, w (ix2 n d) * h (ix2 r d) := by
  pointwise [k0_pay7]

theorem pay8_apply (h : FVec Ideal S512x1024 .bf16) (w : Vec Ideal S1024x512 .bf16) (r n : Fin 512) :
    k0_pay8 (F := Ideal) h w (ix3 0 r n) = ∑ d, h (ix2 r d) * w (ix2 d n) := by
  pointwise [k0_pay8]

theorem pay9_apply (h : FVec Ideal S512x1024 .bf16) (w : Vec Ideal S1024x512 .bf16) (r n : Fin 512) :
    k0_pay9 (F := Ideal) h w (ix3 0 r n) = ∑ d, h (ix2 r d) * w (ix2 d n) := by
  pointwise [k0_pay9]

theorem pay10_apply (h : FVec Ideal S512x1024 .bf16) (w : Vec Ideal S1024x512 .bf16) (r n : Fin 512) :
    k0_pay1 (F := Ideal) (k0_pay10 h w) (ix3 0 r n) = ∑ d, h (ix2 r d) * w (ix2 d n) := by
  pointwise [k0_pay1, k0_pay10]

theorem pay2_apply (h : FVec Ideal S512x1024 .bf16) (w : Vec Ideal S1024x512 .bf16) (r n : Fin 512) :
    k0_pay2 (F := Ideal) h w (ix3 0 r n) = ∑ d, h (ix2 r d) * w (ix2 d n) := by
  pointwise [k0_pay2]

theorem pay3_apply (h : FVec Ideal S512x1024 .bf16) (w : Vec Ideal S1024x128 .bf16) (r : Fin 512) (n : Fin 128) :
    k0_pay3 (F := Ideal) h w (ix3 0 r n) = ∑ d, h (ix2 r d) * w (ix2 d n) := by
  pointwise [k0_pay3]

end Cert.Kernel4Ideal.Row
-- ==== Proof.Proj.Body.lean ====
module

public import proofs.«01_k».proof.Proof.Proj.Reads
public import proofs.«01_k».proof.Proof.Gen.Kernel4Ideal.Frame
public import Idealize.ShloMosaic.Lib.Pipeline.ValueKit

/-! What one grid point leaves in the four results' blocks, from the blocks it reads. -/

@[expose] public section

set_option maxRecDepth 16384

noncomputable section

namespace Cert.Kernel4Ideal.Row

open Cert.Kernel4Ideal Cert.Kernel4Ideal.Gen Cert.Mlp
open Idealize.ShloMosaic Idealize.SL.Sem

variable (x0 : Vec Ideal S1x512x1024 .f32) (x1 : Vec Ideal S1x1024 .f32) (x2 x3 : Vec Ideal S1x1x1024 .f32) (x4 : Vec Ideal S1024x2176 .bf16)
  (x5 : Vec Ideal S1536x1024 .bf16)

theorem zero3 : (![0, 0, 0] : Fin 3 → ℕ) = fun _ => 0 := by decide
theorem zero2 : (![0, 0] : Fin 2 → ℕ) = fun _ => 0 := by decide

theorem ld_block (X : Vec Ideal S1x512x1024 .f32) : View.ld (Val := Elt Ideal) (e' := .f32) X r0_0 = X := View.ld_unit_zero zero3 _ X
theorem ld_gain (X : Vec Ideal S1x1024 .f32) : View.ld (Val := Elt Ideal) (e' := .f32) X r0_1 = X := View.ld_unit_zero zero2 _ X
theorem ld_mod (X : Vec Ideal S1x1x1024 .f32) : View.ld (Val := Elt Ideal) (e' := .f32) X r0_2 = X := View.ld_unit_zero zero3 _ X

/-- The normalised and modulated row. -/
def row (r : Fin 512) : Fin 1024 → EReal :=
  modulated (fun d => x0 (ix3 0 r d)) (fun d => x1 (ix2 0 d)) (fun d => x2 (ix3 0 0 d)) fun d => x3 (ix3 0 0 d)

theorem rows_apply (r : Fin 512) (d : Fin 1024) :
    k0_pay4 (F := Ideal) (View.ld x0 r0_0) (View.ld x1 r0_1) (View.ld x2 r0_2) (View.ld x3 r0_2) (ix2 r d) = row x0 x1 x2 x3 r d := by
  rw [ld_block, ld_gain, ld_mod, ld_mod, pay4_apply]
  rfl

theorem ld_cols (o : ℕ) (ho : o + 512 ≤ 2176) (inb : ∀ a, (![0, o] : Fin 2 → ℕ) a + S1024x512.size a ≤ S1024x2176.size a) (d : Fin 1024) (n : Fin 512) :
    View.ld (Val := Elt Ideal) (e' := .bf16) x4 (Rect.unit (s := S1024x2176) ![0, o] S1024x512.size inb) (ix2 d n) = x4 (ix2 d (⟨o + n.val, by omega⟩ : Fin 2176)) :=
  View.ld_unit_apply_of x4 _ _ inb _ _ fun a => by fin_cases a <;> simp

theorem ld_last (d : Fin 1024) (n : Fin 128) :
    View.ld (Val := Elt Ideal) (e' := .bf16) x4 r0_17 (ix2 d n) = x4 (ix2 d (⟨2048 + n.val, by omega⟩ : Fin 2176)) :=
  View.ld_unit_apply_of x4 _ _ _ _ _ fun a => by fin_cases a <;> simp

theorem ld_across (o : ℕ) (ho : o + 512 ≤ 1536) (inb : ∀ a, (![o, 0] : Fin 2 → ℕ) a + S512x1024.size a ≤ S1536x1024.size a) (n : Fin 512) (d : Fin 1024) :
    View.ld (Val := Elt Ideal) (e' := .bf16) x5 (Rect.unit (s := S1536x1024) ![o, 0] S512x1024.size inb) (ix2 n d) = x5 (ix2 (⟨o + n.val, by omega⟩ : Fin 1536) d) :=
  View.ld_unit_apply_of x5 _ _ inb _ _ fun a => by fin_cases a <;> simp

/-- A row's products with the columns of the weights from 512 on. -/
def wideAt (r : Fin 512) (n : Fin 1536) : EReal := ∑ d, row x0 x1 x2 x3 r d * x4 (ix2 d (⟨512 + n.val, by omega⟩ : Fin 2176))

/-- A row's products with the transposed weights. -/
def acrossAt (n : Fin 1536) (r : Fin 512) : EReal := ∑ d, row x0 x1 x2 x3 r d * x5 (ix2 n d)

/-- The block of the products with the columns from 512 on. -/
def wide : S1x512x1536.Idx → EReal := fun i => wideAt x0 x1 x2 x3 x4 (i 1 : Fin 512) (i 2 : Fin 1536)

/-- The block of the products with the transposed weights, channels first. -/
def across : S1x1536x512.Idx → EReal := fun i => acrossAt x0 x1 x2 x3 x5 (i 1 : Fin 1536) (i 2 : Fin 512)

theorem wide_emb (o : ℕ) (ho : o + 512 ≤ 1536) (inb : ∀ a, (![0, 0, o] : Fin 3 → ℕ) a + S1x512x512.size a ≤ S1x512x1536.size a) (r n : Fin 512) :
    wide x0 x1 x2 x3 x4 ((Rect.unit (s := S1x512x1536) ![0, 0, o] S1x512x512.size inb).emb (ix3 (0 : Fin 1) r n))
      = ∑ d, row x0 x1 x2 x3 r d * x4 (ix2 d (⟨512 + o + n.val, by omega⟩ : Fin 2176)) := by
  have e1 : ((Rect.unit (s := S1x512x1536) ![0, 0, o] S1x512x512.size inb).emb (ix3 (0 : Fin 1) r n) 1 : Fin 512) = r :=
    Fin.ext ((Rect.idx_unit_val _ _ inb _ _).trans (Nat.zero_add _))
  have e2 : ((Rect.unit (s := S1x512x1536) ![0, 0, o] S1x512x512.size inb).emb (ix3 (0 : Fin 1) r n) 2 : Fin 1536) = (⟨o + n.val, by omega⟩ : Fin 1536) :=
    Fin.ext (Rect.idx_unit_val _ _ inb _ _)
  refine (congrArg₂ (wideAt x0 x1 x2 x3 x4) e1 e2).trans (Finset.sum_congr rfl fun d _ => ?_)
  refine congrArg (fun k : Fin 2176 => row x0 x1 x2 x3 r d * x4 (ix2 d k)) (Fin.ext ?_)
  exact (Nat.add_assoc _ _ _).symm

theorem across_emb (o : ℕ) (ho : o + 512 ≤ 1536) (inb : ∀ a, (![0, o, 0] : Fin 3 → ℕ) a + S1x512x512.size a ≤ S1x1536x512.size a) (n r : Fin 512) :
    across x0 x1 x2 x3 x5 ((Rect.unit (s := S1x1536x512) ![0, o, 0] S1x512x512.size inb).emb (ix3 (0 : Fin 1) n r))
      = ∑ d, row x0 x1 x2 x3 r d * x5 (ix2 (⟨o + n.val, by omega⟩ : Fin 1536) d) := by
  have e1 : ((Rect.unit (s := S1x1536x512) ![0, o, 0] S1x512x512.size inb).emb (ix3 (0 : Fin 1) n r) 1 : Fin 1536) = (⟨o + n.val, by omega⟩ : Fin 1536) :=
    Fin.ext (Rect.idx_unit_val _ _ inb _ _)
  have e2 : ((Rect.unit (s := S1x1536x512) ![0, o, 0] S1x512x512.size inb).emb (ix3 (0 : Fin 1) n r) 2 : Fin 512) = r :=
    Fin.ext ((Rect.idx_unit_val _ _ inb _ _).trans (Nat.zero_add _))
  exact congrArg₂ (acrossAt x0 x1 x2 x3 x5) e1 e2

/-- An index of a piece, by its three parts. -/
theorem piece_idx (x : S1x512x512.Idx) : x = ix3 (0 : Fin 1) (x 1 : Fin 512) (x 2 : Fin 512) := funext fun a => by
  fin_cases a
  · exact Subsingleton.elim (α := Fin 1) _ _
  · rfl
  · rfl

theorem out6_apply (r n : Fin 512) :
    out0_6 (F := Ideal) x0 x1 x2 x3 x4 x5 (ix3 (0 : Fin 1) r n) = ∑ d, row x0 x1 x2 x3 r d * x4 (ix2 d (⟨n.val, by omega⟩ : Fin 2176)) := by
  unfold out0_6
  rw [View.canon_cons_unit_zero zero3, pay8_apply]
  refine Finset.sum_congr rfl fun d _ => congrArg₂ _ (rows_apply x0 x1 x2 x3 r d) ((ld_cols x4 0 (by omega) _ d n).trans (congrArg (x4 <| ix2 d ·) (Fin.ext ?_)))
  exact Nat.zero_add _

theorem out8_apply (r : Fin 512) (n : Fin 128) :
    out0_8 (F := Ideal) x0 x1 x2 x3 x4 x5 (ix3 (0 : Fin 1) r n) = ∑ d, row x0 x1 x2 x3 r d * x4 (ix2 d (⟨2048 + n.val, by omega⟩ : Fin 2176)) := by
  unfold out0_8
  rw [View.canon_cons_unit_zero zero3, pay3_apply]
  exact Finset.sum_congr rfl fun d _ => congrArg₂ _ (rows_apply x0 x1 x2 x3 r d) (ld_last x4 d n)

theorem out7_eq : out0_7 (F := Ideal) x0 x1 x2 x3 x4 x5 = wide x0 x1 x2 x3 x4 := by
  funext y
  refine View.canon_apply_of_pieces (Val := Elt Ideal) (e := .f32) (wide x0 x1 x2 x3 x4) _ ?_ y (cover0_7 _ _ _ y)
  intro p hp x
  simp only [List.mem_cons, List.not_mem_nil, or_false] at hp
  rcases hp with rfl | rfl | rfl <;> rw [piece_idx x]
  · exact (pay2_apply _ _ _ _).trans ((Finset.sum_congr rfl fun d _ => congrArg₂ _ (rows_apply x0 x1 x2 x3 _ d) (ld_cols x4 1536 (by omega) _ d _)).trans
      (wide_emb x0 x1 x2 x3 x4 1024 (by omega) inb_S1x512x1536_S1x512x512_0_0_1024 _ _).symm)
  · exact (pay10_apply _ _ _ _).trans ((Finset.sum_congr rfl fun d _ => congrArg₂ _ (rows_apply x0 x1 x2 x3 _ d) (ld_cols x4 1024 (by omega) _ d _)).trans
      (wide_emb x0 x1 x2 x3 x4 512 (by omega) inb_S1x512x1536_S1x512x512_0_0_512 _ _).symm)
  · exact (pay9_apply _ _ _ _).trans ((Finset.sum_congr rfl fun d _ => congrArg₂ _ (rows_apply x0 x1 x2 x3 _ d) (ld_cols x4 512 (by omega) _ d _)).trans
      (wide_emb x0 x1 x2 x3 x4 0 (by omega) inb_S1x512x1536_S1x512x512_0_0_0 _ _).symm)

/-- A term of a product with the factors in the weights' order, from the row's and the weight's reads. -/
theorem term {u v a b : EReal} (hu : u = a) (hv : v = b) : v * u = a * b := by rw [hu, hv, mul_comm]

theorem out9_eq : out0_9 (F := Ideal) x0 x1 x2 x3 x4 x5 = across x0 x1 x2 x3 x5 := by
  funext y
  refine View.canon_apply_of_pieces (Val := Elt Ideal) (e := .f32) (across x0 x1 x2 x3 x5) _ ?_ y (cover0_9 _ _ _ y)
  intro p hp x
  simp only [List.mem_cons, List.not_mem_nil, or_false] at hp
  rcases hp with rfl | rfl | rfl <;> rw [piece_idx x]
  · exact (pay7_apply _ _ _ _).trans ((Finset.sum_congr rfl fun d _ => term (rows_apply x0 x1 x2 x3 _ d) (ld_across x5 1024 (by omega) _ _ d)).trans
      (across_emb x0 x1 x2 x3 x5 1024 (by omega) inb_S1x1536x512_S1x512x512_0_1024_0 _ _).symm)
  · exact (pay6_apply _ _ _ _).trans ((Finset.sum_congr rfl fun d _ => term (rows_apply x0 x1 x2 x3 _ d) (ld_across x5 512 (by omega) _ _ d)).trans
      (across_emb x0 x1 x2 x3 x5 512 (by omega) inb_S1x1536x512_S1x512x512_0_512_0 _ _).symm)
  · exact (pay5_apply _ _ _ _ _ _ _).trans ((Finset.sum_congr rfl fun d _ => term (rows_apply x0 x1 x2 x3 _ d) (ld_across x5 0 (by omega) _ _ d)).trans
      (across_emb x0 x1 x2 x3 x5 0 (by omega) inb_S1x1536x512_S1x512x512_0_0_0 _ _).symm)

end Cert.Kernel4Ideal.Row
-- ==== Proof.Proj.Entry.lean ====
module

public import proofs.«01_k».proof.Proof.Proj.Body
public import Idealize.ShloMosaic.Lib.Pipeline.Covers

/-! What the grid's points read, from the arguments: a block of the input's rows, the modulations, and the weights in their
    two orders. -/

@[expose] public section

set_option maxRecDepth 16384

noncomputable section

namespace Cert.Kernel4Ideal.Row

open Cert.Kernel4Ideal Cert.Kernel4Ideal.Gen Cert.Mlp
open Idealize.ShloMosaic Idealize.ShloMosaic.TcCoe Idealize.SL.Sem

variable (m : (ℓ : Loc nD τ sig) → Buf (Elt Ideal) ℓ) (c : Dev nD)

/-- The weights' columns from 1536 on, before the columns put after them. -/
theorem padded_apply (a : FVec Ideal S1024x3600 .f32) (z : FVec Ideal S_ .f32) (d : Fin 1024) (n : Fin 2064) :
    pad S1024x2176 ![0, 0] ![0, 112] ![0, 0] (extractStridedSlice S1024x2064 ![0, 1536] a slices_S1024x3600_S1024x2064_0_1536) z pads_S1024x2064_S1024x2176_000_01120 h_S_
      (ix2 d (⟨n.val, by omega⟩ : Fin 2176)) = a (ix2 d (⟨1536 + n.val, by omega⟩ : Fin 3600)) := by
  pointwise

theorem V2 (d : Fin 1024) (n : Fin 2064) :
    Gen.V m c main_v2 (ix2 d (⟨n.val, by omega⟩ : Fin 2176)) = m ((c : Thread nD τ).loc main_arg4) (ix2 d (⟨1536 + n.val, by omega⟩ : Fin 3600)) := by
  simp only [Gen.V, Gen.V0, hostOps0, hostOps0_1, hostOps0_2, List.flatten_cons, List.flatten_nil, List.append_nil, List.cons_append, List.nil_append]
  entry_read
  pointwise
  exact padded_apply _ _ d n

theorem V5 (n : Fin 1536) (d : Fin 1024) : Gen.V m c main_v5 (ix2 n d) = m ((c : Thread nD τ).loc main_arg4) (ix2 d (⟨n.val, by omega⟩ : Fin 3600)) := by
  simp only [Gen.V, Gen.V0, hostOps0, hostOps0_1, hostOps0_2, List.flatten_cons, List.flatten_nil, List.append_nil, List.cons_append, List.nil_append]
  entry_read
  pointwise

theorem V6 (e : Fin 1024) : Gen.V m c main_v6 (ix2 0 e) = m ((c : Thread nD τ).loc main_arg1) (ix1 e) := by
  simp only [Gen.V, Gen.V0, hostOps0, hostOps0_1, hostOps0_2, List.flatten_cons, List.flatten_nil, List.append_nil, List.cons_append, List.nil_append]
  entry_read
  pointwise
theorem Varg0 : Gen.V m c main_arg0 = m ((c : Thread nD τ).loc main_arg0) := by
  entry_read
  rfl
theorem Varg2 : Gen.V m c main_arg2 = m ((c : Thread nD τ).loc main_arg2) := by
  entry_read
  rfl
theorem Varg3 : Gen.V m c main_arg3 = m ((c : Thread nD τ).loc main_arg3) := by
  entry_read
  rfl

theorem pts (t : Fin cfg0.N) : t.val < 128 := t.isLt

/-- A point's sample. -/
abbrev smp (t : Fin cfg0.N) : Fin 8 := ⟨t.val / 16, by have := pts t; omega⟩
/-- A point's token. -/
abbrev tok (t : Fin cfg0.N) (r : Fin 512) : Fin 8192 := ⟨512 * (t.val % 16) + r.val, by omega⟩

theorem idx0 : ∀ t : Fin cfg0.N, win0_0.index t = ![t.val / 16, t.val % 16, 0] := (by decide +kernel : ∀ t : Fin grid0.N, win0_0.index t = ![t.val / 16, t.val % 16, 0])
theorem idx1 : ∀ t : Fin cfg0.N, win0_1.index t = ![0, 0] := (by decide +kernel : ∀ t : Fin grid0.N, win0_1.index t = ![0, 0])
theorem idx2 : ∀ t : Fin cfg0.N, win0_2.index t = ![t.val / 16, 0, 0] := (by decide +kernel : ∀ t : Fin grid0.N, win0_2.index t = ![t.val / 16, 0, 0])
theorem idx3 : ∀ t : Fin cfg0.N, win0_3.index t = ![t.val / 16, 0, 0] := (by decide +kernel : ∀ t : Fin grid0.N, win0_3.index t = ![t.val / 16, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val / 16, t.val % 16, 0] := (by decide +kernel : ∀ t : Fin grid0.N, win0_6.index t = ![t.val / 16, t.val % 16, 0])
theorem idx7 : ∀ t : Fin cfg0.N, win0_7.index t = ![t.val / 16, t.val % 16, 0] := (by decide +kernel : ∀ t : Fin grid0.N, win0_7.index t = ![t.val / 16, t.val % 16, 0])
theorem idx8 : ∀ t : Fin cfg0.N, win0_8.index t = ![t.val / 16, t.val % 16, 0] := (by decide +kernel : ∀ t : Fin grid0.N, win0_8.index t = ![t.val / 16, t.val % 16, 0])
theorem idx9 : ∀ t : Fin cfg0.N, win0_9.index t = ![t.val / 16, 0, t.val % 16] := (by decide +kernel : ∀ t : Fin grid0.N, win0_9.index t = ![t.val / 16, 0, t.val % 16])

theorem iblk0 (t : Fin cfg0.N) (r : Fin 512) (d : Fin 1024) : iblk m c 0 t (ix3 (0 : Fin 1) r d) = Gen.V m c main_arg0 (ix3 (smp t) (tok t r) d) := by
  blk_ext [iblk, idx0 t]
theorem iblk1 (t : Fin cfg0.N) (d : Fin 1024) : iblk m c 1 t (ix2 (0 : Fin 1) d) = Gen.V m c main_v6 (ix2 (0 : Fin 1) d) := by
  blk_ext [iblk, idx1 t]
theorem iblk2 (t : Fin cfg0.N) (d : Fin 1024) : iblk m c 2 t (ix3 (0 : Fin 1) (0 : Fin 1) d) = Gen.V m c main_arg2 (ix3 (smp t) (0 : Fin 1) d) := by
  blk_ext [iblk, idx2 t]
theorem iblk3 (t : Fin cfg0.N) (d : Fin 1024) : iblk m c 3 t (ix3 (0 : Fin 1) (0 : Fin 1) d) = Gen.V m c main_arg3 (ix3 (smp t) (0 : Fin 1) d) := by
  blk_ext [iblk, idx3 t]
theorem iblk4 (t : Fin cfg0.N) (d : Fin 1024) (n : Fin 2176) : iblk m c 4 t (ix2 d n) = Gen.V m c main_v2 (ix2 d n) := by
  blk_ext [iblk, idx4 t]
theorem iblk5 (t : Fin cfg0.N) (n : Fin 1536) (d : Fin 1024) : iblk m c 5 t (ix2 n d) = Gen.V m c main_v5 (ix2 n d) := by
  blk_ext [iblk, idx5 t]

theorem blk0 (t : Fin cfg0.N) (r : Fin 512) (d : Fin 1024) : iblk m c 0 t (ix3 (0 : Fin 1) r d) = m ((c : Thread nD τ).loc main_arg0) (ix3 (smp t) (tok t r) d) :=
  (iblk0 m c t r d).trans (congrFun (Varg0 m c) _)
theorem blk1 (t : Fin cfg0.N) (d : Fin 1024) : iblk m c 1 t (ix2 (0 : Fin 1) d) = m ((c : Thread nD τ).loc main_arg1) (ix1 d) :=
  (iblk1 m c t d).trans (V6 m c _)
theorem blk2 (t : Fin cfg0.N) (d : Fin 1024) : iblk m c 2 t (ix3 (0 : Fin 1) (0 : Fin 1) d) = m ((c : Thread nD τ).loc main_arg2) (ix3 (smp t) (0 : Fin 1) d) :=
  (iblk2 m c t d).trans (congrFun (Varg2 m c) _)
theorem blk3 (t : Fin cfg0.N) (d : Fin 1024) : iblk m c 3 t (ix3 (0 : Fin 1) (0 : Fin 1) d) = m ((c : Thread nD τ).loc main_arg3) (ix3 (smp t) (0 : Fin 1) d) :=
  (iblk3 m c t d).trans (congrFun (Varg3 m c) _)
theorem blk4 (t : Fin cfg0.N) (d : Fin 1024) (n : Fin 2064) :
    iblk m c 4 t (ix2 d (⟨n.val, by omega⟩ : Fin 2176)) = m ((c : Thread nD τ).loc main_arg4) (ix2 d (⟨1536 + n.val, by omega⟩ : Fin 3600)) :=
  (iblk4 m c t d _).trans (V2 m c _ _)
theorem blk5 (t : Fin cfg0.N) (n : Fin 1536) (d : Fin 1024) :
    iblk m c 5 t (ix2 n d) = m ((c : Thread nD τ).loc main_arg4) (ix2 d (⟨n.val, by omega⟩ : Fin 3600)) :=
  (iblk5 m c t n d).trans (V5 m c _ _)

end Cert.Kernel4Ideal.Row
-- ==== Proof.Proj.Array.lean ====
module

public import proofs.«01_k».proof.Proof.Proj.Entry

/-! The four arrays the call writes. -/

@[expose] public section

set_option maxRecDepth 16384

noncomputable section

namespace Cert.Kernel4Ideal.Row

open Cert.Kernel4Ideal Cert.Kernel4Ideal.Gen Cert.Mlp
open Idealize.ShloMosaic Idealize.ShloMosaic.TcCoe Idealize.SL.Sem

/-- A token's normalised and modulated row, from what the arguments hold. -/
def token (a0 : S8x8192x1024.Idx → EReal) (a1 : S1024.Idx → EReal) (a2 a3 : S8x1x1024.Idx → EReal) (b : Fin 8) (l : Fin 8192) : Fin 1024 → EReal :=
  modulated (fun d => a0 (ix3 b l d)) (fun d => a1 (ix1 d)) (fun d => a2 (ix3 b 0 d)) fun d => a3 (ix3 b 0 d)

/-- A token's product with one column of the weights. -/
def proj (a0 : S8x8192x1024.Idx → EReal) (a1 : S1024.Idx → EReal) (a2 a3 : S8x1x1024.Idx → EReal) (a4 : S1024x3600.Idx → EReal) (b : Fin 8) (l : Fin 8192) (n : Fin 3600) : EReal :=
  ∑ d, token a0 a1 a2 a3 b l d * a4 (ix2 d n)

variable (m : (ℓ : Loc nD τ sig) → Buf (Elt Ideal) ℓ) (c : Dev nD)

/-- A token's row from the memory's arguments. -/
abbrev tokenAt (b : Fin 8) (l : Fin 8192) : Fin 1024 → EReal :=
  token (m ((c : Thread nD τ).loc main_arg0)) (m ((c : Thread nD τ).loc main_arg1)) (m ((c : Thread nD τ).loc main_arg2)) (m ((c : Thread nD τ).loc main_arg3)) b l

/-- A token's product from the memory's arguments. -/
abbrev projAt (b : Fin 8) (l : Fin 8192) (n : Fin 3600) : EReal :=
  proj (m ((c : Thread nD τ).loc main_arg0)) (m ((c : Thread nD τ).loc main_arg1)) (m ((c : Thread nD τ).loc main_arg2)) (m ((c : Thread nD τ).loc main_arg3))
    (m ((c : Thread nD τ).loc main_arg4)) b l n

/-- The gate's entries. -/
def gateOf (b : Fin 8) (l : Fin 8192) (n : Fin 512) : EReal := projAt m c b l (⟨1536 + n.val, by omega⟩ : Fin 3600)
/-- The entries of queries, keys and values. -/
def qkvOf (b : Fin 8) (l : Fin 8192) (n : Fin 1536) : EReal := projAt m c b l (⟨2048 + n.val, by omega⟩ : Fin 3600)
/-- The last columns' entries, with the columns put after them. -/
def smallOf (b : Fin 8) (l : Fin 8192) (n : Fin 128) : EReal :=
  ∑ d, tokenAt m c b l d * (Gen.V m c main_v2 : S1024x2176.Idx → EReal) (ix2 d (⟨2048 + n.val, by omega⟩ : Fin 2176))
/-- The first columns' entries. -/
def firstOf (b : Fin 8) (l : Fin 8192) (n : Fin 1536) : EReal := projAt m c b l (⟨n.val, by omega⟩ : Fin 3600)

/-- The gate's array. -/
def gateArr : S8x8192x512.Idx → EReal := fun i => gateOf m c (i 0 : Fin 8) (i 1 : Fin 8192) (i 2 : Fin 512)
/-- The array of queries, keys and values. -/
def qkvArr : S8x8192x1536.Idx → EReal := fun i => qkvOf m c (i 0 : Fin 8) (i 1 : Fin 8192) (i 2 : Fin 1536)
/-- The last columns' array. -/
def smallArr : S8x8192x128.Idx → EReal := fun i => smallOf m c (i 0 : Fin 8) (i 1 : Fin 8192) (i 2 : Fin 128)
/-- The first columns' array, channels first. -/
def acrossArr : S8x1536x8192.Idx → EReal := fun i => firstOf m c (i 0 : Fin 8) (i 2 : Fin 8192) (i 1 : Fin 1536)

theorem row_at (t : Fin cfg0.N) (r : Fin 512) : row (iblk m c 0 t) (iblk m c 1 t) (iblk m c 2 t) (iblk m c 3 t) r = tokenAt m c (smp t) (tok t r) := by
  unfold row tokenAt token
  simp only [blk0, blk1, blk2, blk3]

/-- Two sums of products with equal factors. -/
theorem sum_of {f a : Fin 1024 → EReal} (hf : f = a) {g b : Fin 1024 → EReal} (hg : ∀ d, g d = b d) : ∑ d, f d * g d = ∑ d, a d * b d := by
  rw [hf, funext hg]

theorem gate_at (t : Fin cfg0.N) (r n : Fin 512) :
    out0_6 (F := Ideal) (iblk m c 0 t) (iblk m c 1 t) (iblk m c 2 t) (iblk m c 3 t) (iblk m c 4 t) (iblk m c 5 t) (ix3 (0 : Fin 1) r n)
      = gateOf m c (smp t) (tok t r) n := by
  rw [out6_apply]
  exact sum_of (row_at m c t r) fun d => blk4 m c t d (⟨n.val, by omega⟩ : Fin 2064)

theorem blk4_from (t : Fin cfg0.N) (d : Fin 1024) (n : Fin 1536) :
    iblk m c 4 t (ix2 d (⟨512 + n.val, by omega⟩ : Fin 2176)) = m ((c : Thread nD τ).loc main_arg4) (ix2 d (⟨2048 + n.val, by omega⟩ : Fin 3600)) := by
  have e : (⟨1536 + (512 + n.val), by omega⟩ : Fin 3600) = ⟨2048 + n.val, by omega⟩ := Fin.ext (by show 1536 + (512 + n.val) = 2048 + n.val; omega)
  rw [← e]
  exact blk4 m c t d (⟨512 + n.val, by omega⟩ : Fin 2064)

theorem qkv_at (t : Fin cfg0.N) (r : Fin 512) (n : Fin 1536) :
    out0_7 (F := Ideal) (iblk m c 0 t) (iblk m c 1 t) (iblk m c 2 t) (iblk m c 3 t) (iblk m c 4 t) (iblk m c 5 t) (ix3 (0 : Fin 1) r n)
      = qkvOf m c (smp t) (tok t r) n := by
  rw [out7_eq]
  change wideAt (iblk m c 0 t) (iblk m c 1 t) (iblk m c 2 t) (iblk m c 3 t) (iblk m c 4 t) r n = _
  exact sum_of (row_at m c t r) fun d => blk4_from m c t d n

theorem small_at (t : Fin cfg0.N) (r : Fin 512) (n : Fin 128) :
    out0_8 (F := Ideal) (iblk m c 0 t) (iblk m c 1 t) (iblk m c 2 t) (iblk m c 3 t) (iblk m c 4 t) (iblk m c 5 t) (ix3 (0 : Fin 1) r n)
      = smallOf m c (smp t) (tok t r) n := by
  rw [out8_apply]
  exact sum_of (row_at m c t r) fun d => iblk4 m c t d _

theorem across_at (t : Fin cfg0.N) (n : Fin 1536) (r : Fin 512) :
    out0_9 (F := Ideal) (iblk m c 0 t) (iblk m c 1 t) (iblk m c 2 t) (iblk m c 3 t) (iblk m c 4 t) (iblk m c 5 t) (ix3 (0 : Fin 1) n r)
      = firstOf m c (smp t) (tok t r) n := by
  rw [out9_eq]
  exact sum_of (row_at m c t r) fun d => blk5 m c t n d

theorem gate_block (t : Fin cfg0.N) (y : S1x512x512.Idx) (i : S8x8192x512.Idx)
    (h0 : (i 0).val = t.val / 16) (h1 : (i 1).val = 512 * (t.val % 16) + (y 1).val) (h2 : (i 2).val = (y 2).val) :
    out0_6 (F := Ideal) (iblk m c 0 t) (iblk m c 1 t) (iblk m c 2 t) (iblk m c 3 t) (iblk m c 4 t) (iblk m c 5 t) y = gateArr m c i := by
  have hy : y = ix3 (0 : Fin 1) (y 1 : Fin 512) (y 2 : Fin 512) := funext fun a => by
    fin_cases a
    · exact Subsingleton.elim (α := Fin 1) _ _
    · rfl
    · rfl
  have hi : i = ix3 (smp t) (tok t (y 1)) (y 2 : Fin 512) := funext fun a => by
    fin_cases a
    · exact Fin.ext h0
    · exact Fin.ext h1
    · exact Fin.ext h2
  rw [hi]
  exact (congrArg _ hy).trans (gate_at m c t _ _)

theorem qkv_block (t : Fin cfg0.N) (y : S1x512x1536.Idx) (i : S8x8192x1536.Idx)
    (h0 : (i 0).val = t.val / 16) (h1 : (i 1).val = 512 * (t.val % 16) + (y 1).val) (h2 : (i 2).val = (y 2).val) :
    out0_7 (F := Ideal) (iblk m c 0 t) (iblk m c 1 t) (iblk m c 2 t) (iblk m c 3 t) (iblk m c 4 t) (iblk m c 5 t) y = qkvArr m c i := by
  have hy : y = ix3 (0 : Fin 1) (y 1 : Fin 512) (y 2 : Fin 1536) := funext fun a => by
    fin_cases a
    · exact Subsingleton.elim (α := Fin 1) _ _
    · rfl
    · rfl
  have hi : i = ix3 (smp t) (tok t (y 1)) (y 2 : Fin 1536) := funext fun a => by
    fin_cases a
    · exact Fin.ext h0
    · exact Fin.ext h1
    · exact Fin.ext h2
  rw [hi]
  exact (congrArg _ hy).trans (qkv_at m c t _ _)

theorem small_block (t : Fin cfg0.N) (y : S1x512x128.Idx) (i : S8x8192x128.Idx)
    (h0 : (i 0).val = t.val / 16) (h1 : (i 1).val = 512 * (t.val % 16) + (y 1).val) (h2 : (i 2).val = (y 2).val) :
    out0_8 (F := Ideal) (iblk m c 0 t) (iblk m c 1 t) (iblk m c 2 t) (iblk m c 3 t) (iblk m c 4 t) (iblk m c 5 t) y = smallArr m c i := by
  have hy : y = ix3 (0 : Fin 1) (y 1 : Fin 512) (y 2 : Fin 128) := funext fun a => by
    fin_cases a
    · exact Subsingleton.elim (α := Fin 1) _ _
    · rfl
    · rfl
  have hi : i = ix3 (smp t) (tok t (y 1)) (y 2 : Fin 128) := funext fun a => by
    fin_cases a
    · exact Fin.ext h0
    · exact Fin.ext h1
    · exact Fin.ext h2
  rw [hi]
  exact (congrArg _ hy).trans (small_at m c t _ _)

theorem across_block (t : Fin cfg0.N) (y : S1x1536x512.Idx) (i : S8x1536x8192.Idx)
    (h0 : (i 0).val = t.val / 16) (h1 : (i 1).val = (y 1).val) (h2 : (i 2).val = 512 * (t.val % 16) + (y 2).val) :
    out0_9 (F := Ideal) (iblk m c 0 t) (iblk m c 1 t) (iblk m c 2 t) (iblk m c 3 t) (iblk m c 4 t) (iblk m c 5 t) y = acrossArr m c i := by
  have hy : y = ix3 (0 : Fin 1) (y 1 : Fin 1536) (y 2 : Fin 512) := funext fun a => by
    fin_cases a
    · exact Subsingleton.elim (α := Fin 1) _ _
    · rfl
    · rfl
  have hi : i = ix3 (smp t) (y 1 : Fin 1536) (tok t (y 2)) := funext fun a => by
    fin_cases a
    · exact Fin.ext h0
    · exact Fin.ext h1
    · exact Fin.ext h2
  rw [hi]
  exact (congrArg _ hy).trans (across_at m c t _ _)

theorem final6 : (dats m 0 c).arrAt 6 cfg0.N = gateArr m c := by
  refine (dats m 0 c).arrAt_eq_of_covers 6 _ (by decide +kernel) fun t hf y => ?_
  rw [after0_6]
  blk_simp
  refine gate_block m c t _ _ ?_ ?_ ?_ <;> simp [idx6 t, Nat.mul_comm]

theorem final7 : (dats m 0 c).arrAt 7 cfg0.N = qkvArr m c := by
  refine (dats m 0 c).arrAt_eq_of_covers 7 _ (by decide +kernel) fun t hf y => ?_
  rw [after0_7]
  blk_simp
  refine qkv_block m c t _ _ ?_ ?_ ?_ <;> simp [idx7 t, Nat.mul_comm]

theorem final8 : (dats m 0 c).arrAt 8 cfg0.N = smallArr m c := by
  refine (dats m 0 c).arrAt_eq_of_covers 8 _ (by decide +kernel) fun t hf y => ?_
  rw [after0_8]
  blk_simp
  refine small_block m c t _ _ ?_ ?_ ?_ <;> simp [idx8 t, Nat.mul_comm]

theorem final9 : (dats m 0 c).arrAt 9 cfg0.N = acrossArr m c := by
  refine (dats m 0 c).arrAt_eq_of_covers 9 _ (by decide +kernel) fun t hf y => ?_
  rw [after0_9]
  blk_simp
  refine across_block m c t _ _ ?_ ?_ ?_ <;> simp [idx9 t, Nat.mul_comm]

end Cert.Kernel4Ideal.Row
-- ==== Proof.Proj.Run.lean ====
module

public import proofs.«01_k».proof.Proof.Proj.Array

/-! What the four results hold after the run, the transpose and the slice that follow the call included. -/

@[expose] public section

set_option maxRecDepth 16384

noncomputable section

namespace Cert.Kernel4Ideal.Row

open Cert.Kernel4Ideal Cert.Kernel4Ideal.Gen Cert.Mlp
open Idealize.ShloMosaic Idealize.ShloMosaic.TcCoe Idealize.SL.Sem

variable (m : (ℓ : Loc nD τ sig) → Buf (Elt Ideal) ℓ) (c : Dev nD)

/-- The first columns' result. -/
def firstArr : S8x8192x1536.Idx → EReal := fun i => firstOf m c (i 0 : Fin 8) (i 1 : Fin 8192) (i 2 : Fin 1536)

/-- The last columns' entries, from the arguments. -/
def lastOf (b : Fin 8) (l : Fin 8192) (n : Fin 16) : EReal := projAt m c b l (⟨3584 + n.val, by omega⟩ : Fin 3600)
/-- The last columns' result. -/
def lastArr : S8x8192x16.Idx → EReal := fun i => lastOf m c (i 0 : Fin 8) (i 1 : Fin 8192) (i 2 : Fin 16)

theorem idx_eq {n0 n1 n2 : ℕ} (i : (⟨3, ![n0, n1, n2]⟩ : Shape).Idx) : i = ix3 (i 0 : Fin n0) (i 1 : Fin n1) (i 2 : Fin n2) :=
  funext fun a => by fin_cases a <;> rfl

theorem across_transposed : transpose S8x8192x1536 [0, 2, 1] (acrossArr m c) transposes_S8x1536x8192_S8x8192x1536_0_2_1 = firstArr m c := by
  funext i
  rw [idx_eq i]
  have h : ∀ (a : S8x1536x8192.Idx → EReal) (b : Fin 8) (l : Fin 8192) (n : Fin 1536),
      transpose S8x8192x1536 [0, 2, 1] a transposes_S8x1536x8192_S8x8192x1536_0_2_1 (ix3 b l n) = a (ix3 b n l) := fun a b l n => by pointwise
  exact h _ _ _ _

theorem V2_last (d : Fin 1024) (n : Fin 16) :
    Gen.V m c main_v2 (ix2 d (⟨2048 + n.val, by omega⟩ : Fin 2176)) = m ((c : Thread nD τ).loc main_arg4) (ix2 d (⟨3584 + n.val, by omega⟩ : Fin 3600)) := by
  have e : (⟨1536 + (2048 + n.val), by omega⟩ : Fin 3600) = ⟨3584 + n.val, by omega⟩ := Fin.ext (by show 1536 + (2048 + n.val) = 3584 + n.val; omega)
  rw [← e]
  exact V2 m c d (⟨2048 + n.val, by omega⟩ : Fin 2064)

theorem small_sliced : extractStridedSlice S8x8192x16 ![0, 0, 0] (smallArr m c) slices_S8x8192x128_S8x8192x16_0_0_0 = lastArr m c := by
  funext i
  rw [idx_eq i]
  have h : ∀ (a : S8x8192x128.Idx → EReal) (b : Fin 8) (l : Fin 8192) (n : Fin 16),
      extractStridedSlice S8x8192x16 ![0, 0, 0] a slices_S8x8192x128_S8x8192x16_0_0_0 (ix3 b l n) = a (ix3 b l (⟨n.val, by omega⟩ : Fin 128)) := fun a b l n => by pointwise
  refine (h _ _ _ _).trans ?_
  change smallOf m c _ _ _ = lastOf m c _ _ _
  exact sum_of rfl fun d => V2_last m c d _

theorem arrays_at (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 (by decide) c (V0 m c) _ w

theorem after8 (W : Valuation τ sig (Elt Ideal)) :
    StableHlo.after [hostOps1].flatten W (Proc.devRef .tc main_v8)
      = transpose S8x8192x1536 [0, 2, 1] (W (Proc.devRef .tc main_v7_3) : S8x1536x8192.Idx → EReal) transposes_S8x1536x8192_S8x8192x1536_0_2_1 := by
  simp only [hostOps1, List.flatten_cons, List.flatten_nil, List.append_nil]
  after_results

theorem after9 (W : Valuation τ sig (Elt Ideal)) :
    StableHlo.after [hostOps1].flatten W (Proc.devRef .tc main_v9)
      = extractStridedSlice S8x8192x16 ![0, 0, 0] (W (Proc.devRef .tc main_v7_2) : S8x8192x128.Idx → EReal) slices_S8x8192x128_S8x8192x16_0_0_0 := by
  simp only [hostOps1, List.flatten_cons, List.flatten_nil, List.append_nil]
  after_results

theorem tail8 : Pipeline.afterTail₀ cfgs (dats m) 0 (V0 m) [hostOps1] c main_v8 = firstArr m c := by
  have e : Pipeline.withArrays spec0 c (V0 m c) (fun w => (dats m 0 c).arrAt w cfg0.N) (Proc.devRef .tc main_v7_3) = acrossArr m c := (arrays_at m c 9).trans (final9 m c)
  refine (after8 _).trans ?_
  rw [← across_transposed, ← e]

theorem tail9 : Pipeline.afterTail₀ cfgs (dats m) 0 (V0 m) [hostOps1] c main_v9 = lastArr m c := by
  have e : Pipeline.withArrays spec0 c (V0 m c) (fun w => (dats m 0 c).arrAt w cfg0.N) (Proc.devRef .tc main_v7_2) = smallArr m c := (arrays_at m c 8).trans (final8 m c)
  refine (after9 _).trans ?_
  rw [← small_sliced, ← e]

/-- The run with the four results' values, the arguments as they were. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = firstArr m c
      ∧ r.2.mem ((c.tc : Thread nD τ).loc main_v7_0) = gateArr m c
      ∧ r.2.mem ((c.tc : Thread nD τ).loc main_v7_1) = qkvArr m c
      ∧ r.2.mem ((c.tc : Thread nD τ).loc main_v9) = lastArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ?_) (θ_run_and (run_main (F := Ideal) m ρ) (unchanged (F := Ideal) m ρ))
  exact ⟨((h.1 c).2 main_v8 (Pipeline.mem_restRefs_of main_v8 (by decide) (by decide))).trans (tail8 m c),
    ((h.1 c).1 6).trans (final6 m c), ((h.1 c).1 7).trans (final7 m c),
    ((h.1 c).2 main_v9 (Pipeline.mem_restRefs_of main_v9 (by decide) (by decide))).trans (tail9 m c), h.2 c⟩

end Cert.Kernel4Ideal.Row
-- ==== Proof.Proj.Reference.lean ====
module

public import proofs.«01_k».proof.Proof.Gen.Reference4Ideal.Run
public import proofs.«01_k».proof.Proof.Mlp.Spec

/-! The reference's product read entry by entry. -/

@[expose] public section

set_option maxRecDepth 16384

noncomputable section

namespace Cert.Reference4Ideal.Stage

open Cert.Reference4Ideal Cert.Reference4Ideal.Gen Cert.Mlp Idealize.ShloMosaic Idealize.ShloMosaic.TcCoe Idealize.SL.Sem

/-- The rows normalised and modulated. -/
def rows (a0 : FVec Ideal S8x8192x1024 .f32) (a1 : FVec Ideal S1024 .f32) (a2 a3 : FVec Ideal S8x1x1024 .f32) : FVec Ideal S8x8192x1024 .f32 :=
  addf (mulf (mulf (mulf a0 (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf a0 a0) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 a1))) (broadcastInDim S8x8192x1024 ![0, 1, 2] bcast_S8x1x1024_S8x8192x1024_0_1_2 (addf (broadcastInDim S8x1x1024 ![] bcast_S_S8x1x1024 (constant S_ .f32 0x3F800000#32)) a3))) (broadcastInDim S8x8192x1024 ![0, 1, 2] bcast_S8x1x1024_S8x8192x1024_0_1_2 a2)

/-- Their product with the weights. -/
def product (a0 : FVec Ideal S8x8192x1024 .f32) (a1 : FVec Ideal S1024 .f32) (a2 a3 : FVec Ideal S8x1x1024 .f32) (a4 : FVec Ideal S1024x3600 .f32) : FVec Ideal S8x8192x3600 .f32 :=
  Host.dotGeneral dot_S8x8192x1024_S1024x3600_S8x8192x3600_2_0_01_1_n_n none (rows a0 a1 a2 a3) a4

theorem rows_apply (a0 : FVec Ideal S8x8192x1024 .f32) (a1 : FVec Ideal S1024 .f32) (a2 a3 : FVec Ideal S8x1x1024 .f32) (b : Fin 8) (l : Fin 8192) (d : Fin 1024) :
    rows a0 a1 a2 a3 (ix3 b l d) = modulated (fun d => a0 (ix3 b l d)) (fun d => a1 (ix1 d)) (fun d => a2 (ix3 b 0 d)) (fun d => a3 (ix3 b 0 d)) d := by
  pointwise [rows]
  rfl

theorem product_apply (a0 : FVec Ideal S8x8192x1024 .f32) (a1 : FVec Ideal S1024 .f32) (a2 a3 : FVec Ideal S8x1x1024 .f32) (a4 : FVec Ideal S1024x3600 .f32)
    (b : Fin 8) (l : Fin 8192) (n : Fin 3600) :
    product a0 a1 a2 a3 a4 (ix3 b l n)
      = ∑ d, modulated (fun d => a0 (ix3 b l d)) (fun d => a1 (ix1 d)) (fun d => a2 (ix3 b 0 d)) (fun d => a3 (ix3 b 0 d)) d * a4 (ix2 d n) := by
  have h : product a0 a1 a2 a3 a4 (ix3 b l n) = ∑ d : Fin 1024, rows a0 a1 a2 a3 (ix3 b l d) * a4 (ix2 d n) := by pointwise [product]
  rw [h]
  exact Finset.sum_congr rfl fun d _ => congrArg (· * a4 (ix2 d n)) (rows_apply a0 a1 a2 a3 b l d)

/-- The four results, columns of the product. -/
def first (a0 : FVec Ideal S8x8192x1024 .f32) (a1 : FVec Ideal S1024 .f32) (a2 a3 : FVec Ideal S8x1x1024 .f32) (a4 : FVec Ideal S1024x3600 .f32) : FVec Ideal S8x8192x1536 .f32 :=
  extractStridedSlice S8x8192x1536 ![0, 0, 0] (product a0 a1 a2 a3 a4) slices_S8x8192x3600_S8x8192x1536_0_0_0
def gate (a0 : FVec Ideal S8x8192x1024 .f32) (a1 : FVec Ideal S1024 .f32) (a2 a3 : FVec Ideal S8x1x1024 .f32) (a4 : FVec Ideal S1024x3600 .f32) : FVec Ideal S8x8192x512 .f32 :=
  extractStridedSlice S8x8192x512 ![0, 0, 1536] (product a0 a1 a2 a3 a4) slices_S8x8192x3600_S8x8192x512_0_0_1536
def qkv (a0 : FVec Ideal S8x8192x1024 .f32) (a1 : FVec Ideal S1024 .f32) (a2 a3 : FVec Ideal S8x1x1024 .f32) (a4 : FVec Ideal S1024x3600 .f32) : FVec Ideal S8x8192x1536 .f32 :=
  extractStridedSlice S8x8192x1536 ![0, 0, 2048] (product a0 a1 a2 a3 a4) slices_S8x8192x3600_S8x8192x1536_0_0_2048
def last (a0 : FVec Ideal S8x8192x1024 .f32) (a1 : FVec Ideal S1024 .f32) (a2 a3 : FVec Ideal S8x1x1024 .f32) (a4 : FVec Ideal S1024x3600 .f32) : FVec Ideal S8x8192x16 .f32 :=
  extractStridedSlice S8x8192x16 ![0, 0, 3584] (product a0 a1 a2 a3 a4) slices_S8x8192x3600_S8x8192x16_0_0_3584

theorem first_apply (a0 : FVec Ideal S8x8192x1024 .f32) (a1 : FVec Ideal S1024 .f32) (a2 a3 : FVec Ideal S8x1x1024 .f32) (a4 : FVec Ideal S1024x3600 .f32) (b : Fin 8) (l : Fin 8192) (n : Fin 1536) :
    first a0 a1 a2 a3 a4 (ix3 b l n) = product a0 a1 a2 a3 a4 (ix3 b l (⟨n.val, by omega⟩ : Fin 3600)) := by pointwise [first]
theorem gate_apply (a0 : FVec Ideal S8x8192x1024 .f32) (a1 : FVec Ideal S1024 .f32) (a2 a3 : FVec Ideal S8x1x1024 .f32) (a4 : FVec Ideal S1024x3600 .f32) (b : Fin 8) (l : Fin 8192) (n : Fin 512) :
    gate a0 a1 a2 a3 a4 (ix3 b l n) = product a0 a1 a2 a3 a4 (ix3 b l (⟨1536 + n.val, by omega⟩ : Fin 3600)) := by pointwise [gate]
theorem qkv_apply (a0 : FVec Ideal S8x8192x1024 .f32) (a1 : FVec Ideal S1024 .f32) (a2 a3 : FVec Ideal S8x1x1024 .f32) (a4 : FVec Ideal S1024x3600 .f32) (b : Fin 8) (l : Fin 8192) (n : Fin 1536) :
    qkv a0 a1 a2 a3 a4 (ix3 b l n) = product a0 a1 a2 a3 a4 (ix3 b l (⟨2048 + n.val, by omega⟩ : Fin 3600)) := by pointwise [qkv]
theorem last_apply (a0 : FVec Ideal S8x8192x1024 .f32) (a1 : FVec Ideal S1024 .f32) (a2 a3 : FVec Ideal S8x1x1024 .f32) (a4 : FVec Ideal S1024x3600 .f32) (b : Fin 8) (l : Fin 8192) (n : Fin 16) :
    last a0 a1 a2 a3 a4 (ix3 b l n) = product a0 a1 a2 a3 a4 (ix3 b l (⟨3584 + n.val, by omega⟩ : Fin 3600)) := by pointwise [last]

end Cert.Reference4Ideal.Stage
-- ==== Proof.Proj.Algebraic.lean ====
module

public import proofs.«01_k».proof.Defs
public import proofs.«01_k».proof.Proof.Proj.Run
public import proofs.«01_k».proof.Proof.Proj.Reference

/-! The last layer's norm and projection: the call and its reference return the same four arrays. -/

@[expose] public section

set_option maxRecDepth 16384

noncomputable section

namespace Cert.Proof

open Idealize.ShloMosaic Idealize.ShloMosaic.TcCoe Idealize.SL.Sem Cert.Reference4Ideal

variable (a0 : S8x8192x1024.Idx → EReal) (a1 : S1024.Idx → EReal) (a2 a3 : S8x1x1024.Idx → EReal) (a4 : S1024x3600.Idx → EReal)

theorem product_proj (b : Fin 8) (l : Fin 8192) (n : Fin 3600) : Stage.product a0 a1 a2 a3 a4 (ix3 b l n) = Cert.Kernel4Ideal.Row.proj a0 a1 a2 a3 a4 b l n :=
  Stage.product_apply a0 a1 a2 a3 a4 b l n

/-- An array read at its index's three parts. -/
theorem by_parts {n0 n1 n2 : ℕ} {f g : (⟨3, ![n0, n1, n2]⟩ : Shape).Idx → EReal} (h : ∀ b l n, f (ix3 b l n) = g (ix3 b l n)) : f = g := by
  funext i
  rw [Cert.Kernel4Ideal.Row.idx_eq i]
  exact h _ _ _

theorem algebraic4 : Cert.algebraic_Kernel4Ideal_Reference4Ideal := by
  intro m ρ m' ρ' _ hagree
  refine ⟨fun c => Cert.Kernel4Ideal.Row.firstArr m c, fun c => Cert.Kernel4Ideal.Row.gateArr m c, fun c => Cert.Kernel4Ideal.Row.qkvArr m c,
    fun c => Cert.Kernel4Ideal.Row.lastArr m c, Cert.Kernel4Ideal.Row.run m ρ, ?_⟩
  refine (θ_run Cert.Reference4Ideal.defs _ _).mono (fun r h c => ?_) (Cert.Reference4Ideal.Value.run (F := Ideal) m' ρ')
  obtain ⟨e0, e1, e2, e3, e4⟩ := hagree c
  obtain ⟨h0, h1, h2, h3, hk⟩ := h c
  rw [e0, e1, e2, e3, e4] at h0 h1 h2 h3
  refine ⟨h0.trans ?_, h1.trans ?_, h2.trans ?_, h3.trans ?_, hk⟩
  · exact by_parts (n0 := 8) (n1 := 8192) (n2 := 1536) fun b l n => (Stage.first_apply _ _ _ _ _ b l n).trans (product_proj _ _ _ _ _ b l _)
  · exact by_parts (n0 := 8) (n1 := 8192) (n2 := 512) fun b l n => (Stage.gate_apply _ _ _ _ _ b l n).trans (product_proj _ _ _ _ _ b l _)
  · exact by_parts (n0 := 8) (n1 := 8192) (n2 := 1536) fun b l n => (Stage.qkv_apply _ _ _ _ _ b l n).trans (product_proj _ _ _ _ _ b l _)
  · exact by_parts (n0 := 8) (n1 := 8192) (n2 := 16) fun b l n => (Stage.last_apply _ _ _ _ _ b l n).trans (product_proj _ _ _ _ _ b l _)

end Cert.Proof
-- ==== Proof.lean ====
/- The certificate's claim, assembled from the modules under proof/Proof: the frames of the four calls and their references,
   the named scale of the attention, its equality with its reference on finite arguments, and the equality of each layer's
   projection and feed-forward call, and of the last layer's norm and input projection, with its reference on all arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Frames
public import proofs.«01_k».proof.Proof.Algebraic
public import proofs.«01_k».proof.Proof.Mlp.Frames
public import proofs.«01_k».proof.Proof.Mlp2.Algebraic
public import proofs.«01_k».proof.Proof.Mlp3.Algebraic
public import proofs.«01_k».proof.Proof.Proj.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, pre_facts,
  frame_bits, frame_ideal, fun m g _ => frame_ideal m g trivial, frame_reference, fun m g _ => frame_reference m g trivial,
  frame2_bits, frame2_ideal, frame2_reference, frame3_bits, frame3_ideal, frame3_reference,
  frame4_bits, frame4_ideal, frame4_reference,
  preserved, @algebraic pre_facts, trivial, algebraic2, trivial, algebraic3, trivial, algebraic4⟩

end Cert.Proof

end
